-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
-- ==== Pre_in_vocabulary.lean ====
abbrev S2x384x128256 : Shape := ⟨3, ![2, 384, 128256]⟩
abbrev S2x384x1002 : Shape := ⟨3, ![2, 384, 1002]⟩
abbrev S2x384x1152 : Shape := ⟨3, ![2, 384, 1152]⟩
abbrev S2x384 : Shape := ⟨2, ![2, 384]⟩
abbrev S128256x576 : Shape := ⟨2, ![128256, 576]⟩
abbrev S128256x36 : Shape := ⟨2, ![128256, 36]⟩
abbrev S_ : Shape := ⟨0, ![]⟩

class Facts : Prop where
  bcast_S_S2x384 : S_.BroadcastsInDim S2x384 (![] : Fin 0 → Fin S2x384.rank)
  reducesTo_S2x384_S_d0_1 : S2x384.ReducesTo [0, 1] S_
  h_S_ : 0 < S_.numel

variable [Facts]

def fn {F : FTy → Type} [FloatOps F] (main_arg0 : FVec F S2x384x128256 .fp8e5m2) (main_arg1 : FVec F S2x384x1002 .f32) (main_arg2 : FVec F S2x384x1152 .fp8e4m3) (main_arg3 : FVec F S2x384 .f32) (main_arg4 : IVec S128256x576 8) (main_arg5 : FVec F S128256x36 .f32) (main_arg6 : IVec S2x384 32) (main_arg7 : FVec F S2x384x1152 .bf16) : IVec S_ 1 :=
  let main_c : IVec S_ 32 := constantI S_ 32 0#32
  let main_v0 : IVec S2x384 32 := broadcastInDim S2x384 ![] bcast_S_S2x384 main_c
  let main_v1 : IVec S2x384 1 := cmpi .sge main_arg6 main_v0
  let main_c_0 : IVec S_ 32 := constantI S_ 32 128256#32
  let main_v2 : IVec S2x384 32 := broadcastInDim S2x384 ![] bcast_S_S2x384 main_c_0
  let main_v3 : IVec S2x384 1 := cmpi .slt main_arg6 main_v2
  let main_v4 : IVec S2x384 1 := andi main_v1 main_v3
  let main_c_1 : IVec S_ 1 := constantI S_ 1 1#1
  let main_v5 : IVec S_ 1 := (fun x v => Host.reduce IntOp.andi x v reducesTo_S2x384_S_d0_1 h_S_) main_v4 main_c_1
  main_v5
-- ==== Kernel.lean ====
abbrev S2x384x128256 : Shape := ⟨3, ![2, 384, 128256]⟩
abbrev S2x384x1002 : Shape := ⟨3, ![2, 384, 1002]⟩
abbrev S2x384x1152 : Shape := ⟨3, ![2, 384, 1152]⟩
abbrev S2x384 : Shape := ⟨2, ![2, 384]⟩
abbrev S128256x576 : Shape := ⟨2, ![128256, 576]⟩
abbrev S128256x36 : Shape := ⟨2, ![128256, 36]⟩
abbrev S768x128256 : Shape := ⟨2, ![768, 128256]⟩
abbrev S1002x2x384 : Shape := ⟨3, ![1002, 2, 384]⟩
abbrev S768x1152 : Shape := ⟨2, ![768, 1152]⟩
abbrev S576x128256 : Shape := ⟨2, ![576, 128256]⟩
abbrev S36x128256 : Shape := ⟨2, ![36, 128256]⟩
abbrev S768 : Shape := ⟨1, ![768]⟩
abbrev S128256x1152 : Shape := ⟨2, ![128256, 1152]⟩
abbrev S768x768 : Shape := ⟨2, ![768, 768]⟩
abbrev S6x2x384 : Shape := ⟨3, ![6, 2, 384]⟩
abbrev S576x768 : Shape := ⟨2, ![576, 768]⟩
abbrev S36x768 : Shape := ⟨2, ![36, 768]⟩
abbrev S1152x768 : Shape := ⟨2, ![1152, 768]⟩
abbrev S167 : Shape := ⟨1, ![167]⟩
abbrev S1x128 : Shape := ⟨2, ![1, 128]⟩
abbrev S128x128 : Shape := ⟨2, ![128, 128]⟩
abbrev S1 : Shape := ⟨1, ![1]⟩
abbrev S1x1x128 : Shape := ⟨3, ![1, 1, 128]⟩
abbrev S16x128 : Shape := ⟨2, ![16, 128]⟩
abbrev S32x128 : Shape := ⟨2, ![32, 128]⟩
abbrev S8x128 : Shape := ⟨2, ![8, 128]⟩
abbrev S1x1152 : Shape := ⟨2, ![1, 1152]⟩
abbrev S2x4x16x128 : Shape := ⟨4, ![2, 4, 16, 128]⟩
abbrev S2x16x4x128 : Shape := ⟨4, ![2, 16, 4, 128]⟩

abbrev nBuf : Space → Nat
  | .hbm => 16
  | .vmem => 20
  | .smem => 3
  | _ => 0

abbrev bufTy : (tb : Table) → Fin (tcTables nBuf tb) → BufTy
  | .hbm, ⟨0, _⟩ => ⟨S2x384x128256, .fp8e5m2⟩
  | .hbm, ⟨1, _⟩ => ⟨S2x384x1002, .f32⟩
  | .hbm, ⟨2, _⟩ => ⟨S2x384x1152, .fp8e4m3⟩
  | .hbm, ⟨3, _⟩ => ⟨S2x384, .f32⟩
  | .hbm, ⟨4, _⟩ => ⟨S128256x576, .i8⟩
  | .hbm, ⟨5, _⟩ => ⟨S128256x36, .f32⟩
  | .hbm, ⟨6, _⟩ => ⟨S2x384, .i32⟩
  | .hbm, ⟨7, _⟩ => ⟨S2x384x1152, .bf16⟩
  | .hbm, ⟨8, _⟩ => ⟨S768x128256, .fp8e5m2⟩
  | .hbm, ⟨9, _⟩ => ⟨S1002x2x384, .f32⟩
  | .hbm, ⟨10, _⟩ => ⟨S768x1152, .fp8e4m3⟩
  | .hbm, ⟨11, _⟩ => ⟨S576x128256, .i8⟩
  | .hbm, ⟨12, _⟩ => ⟨S36x128256, .f32⟩
  | .hbm, ⟨13, _⟩ => ⟨S768x1152, .bf16⟩
  | .hbm, ⟨14, _⟩ => ⟨S128256x1152, .f32⟩
  | .hbm, ⟨15, _⟩ => ⟨S768x1152, .bf16⟩
  | .local _ .vmem, ⟨0, _⟩ => ⟨S768x768, .fp8e5m2⟩
  | .local _ .vmem, ⟨1, _⟩ => ⟨S768x768, .fp8e5m2⟩
  | .local _ .vmem, ⟨2, _⟩ => ⟨S6x2x384, .f32⟩
  | .local _ .vmem, ⟨3, _⟩ => ⟨S6x2x384, .f32⟩
  | .local _ .vmem, ⟨4, _⟩ => ⟨S768x1152, .fp8e4m3⟩
  | .local _ .vmem, ⟨5, _⟩ => ⟨S2x384, .f32⟩
  | .local _ .vmem, ⟨6, _⟩ => ⟨S576x768, .i8⟩
  | .local _ .vmem, ⟨7, _⟩ => ⟨S576x768, .i8⟩
  | .local _ .vmem, ⟨8, _⟩ => ⟨S36x768, .f32⟩
  | .local _ .vmem, ⟨9, _⟩ => ⟨S36x768, .f32⟩
  | .local _ .vmem, ⟨10, _⟩ => ⟨S768x1152, .bf16⟩
  | .local _ .vmem, ⟨11, _⟩ => ⟨S768x1152, .f32⟩
  | .local _ .vmem, ⟨12, _⟩ => ⟨S768x1152, .f32⟩
  | .local _ .vmem, ⟨13, _⟩ => ⟨S768x1152, .bf16⟩
  | .local _ .vmem, ⟨14, _⟩ => ⟨S768x1152, .bf16⟩
  | .local _ .vmem, ⟨15, _⟩ => ⟨S768x1152, .f32⟩
  | .local _ .vmem, ⟨16, _⟩ => ⟨S768x768, .bf16⟩
  | .local _ .vmem, ⟨17, _⟩ => ⟨S1152x768, .bf16⟩
  | .local _ .vmem, ⟨18, _⟩ => ⟨S36x768, .f32⟩
  | .local _ .vmem, ⟨19, _⟩ => ⟨S1152x768, .f32⟩
  | .local _ .smem, ⟨0, _⟩ => ⟨S768, .i32⟩
  | .local _ .smem, ⟨1, _⟩ => ⟨S167, .i32⟩
  | .local _ .smem, ⟨2, _⟩ => ⟨S768, .i32⟩
  | _, _ => ⟨S2x384x128256, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v7_0 : Ref sig .tc := ⟨.hbm, 14, rfl⟩
abbrev main_v7_1 : Ref sig .tc := ⟨.hbm, 15, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.smem, 1, rfl⟩
abbrev cc0_scratch7 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![167], ![false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_3531 : BitVec 32 := 0#32
  let c167_i32 : BitVec 32 := 167#32
  let v7469 : BitVec 32 := Scalar.addi c0_i32_3531 c167_i32
  let c1_i32 : BitVec 32 := 1#32
  ⟨c0_i32_3531, v7469, c1_i32⟩
def k0_off1 (k0_t1 : Fin k0_t1_loop.trips) : Fin 1 → Nat :=
  let c0_i32_3531 : BitVec 32 := 0#32
  let c1_i32 : BitVec 32 := 1#32
  let arg19 : BitVec 32 := Scf.iv c0_i32_3531 c1_i32 k0_t1
  let v7471 : Index := Scalar.indexCast arg19
  ![v7471.toNat]
@[reducible] def k0_t2_loop : Scf.Loop 32 :=
  let c0_i32_3533 : BitVec 32 := 0#32
  let c768_i32 : BitVec 32 := 768#32
  let v7470 : BitVec 32 := Scalar.addi c0_i32_3533 c768_i32
  let c1_i32_3534 : BitVec 32 := 1#32
  ⟨c0_i32_3533, v7470, c1_i32_3534⟩
def k0_off2 (k0_t2 : Fin k0_t2_loop.trips) : Fin 1 → Nat :=
  let c0_i32_3533 : BitVec 32 := 0#32
  let c1_i32_3534 : BitVec 32 := 1#32
  let arg19 : BitVec 32 := Scf.iv c0_i32_3533 c1_i32_3534 k0_t2
  let v7471 : Index := Scalar.indexCast arg19
  ![v7471.toNat]
def k0_off3 (v7472 : BitVec 32) : Fin 1 → Nat :=
  let c768_i32_3536 : BitVec 32 := 768#32
  let v7473 : BitVec 32 := Scalar.divsi v7472 c768_i32_3536
  let v7474 : Index := Scalar.indexCast v7473
  ![v7474.toNat]

def k0_chk1 (i : grid0.Coords) (v7472 : BitVec 32) : Prop :=
  (∀ (k0_h1 : k0_cond1 i = 1#1), ∀ a, (k0_off3 v7472) a + S1.size a ≤ S167.size a)
theorem k0_off3_inb : ∀ (i : grid0.Coords) (v7472 : BitVec 32) (k0_hw1 : k0_chk1 i v7472), ∀ (k0_h1 : k0_cond1 i = 1#1), ∀ a, (k0_off3 v7472) a + S1.size a ≤ S167.size a := fun i v7472 k0_hw1 k0_h1 => k0_hw1 k0_h1

def k0_off4 (k0_t2 : Fin k0_t2_loop.trips) : Fin 1 → Nat :=
  let c0_i32_3533 : BitVec 32 := 0#32
  let c1_i32_3534 : BitVec 32 := 1#32
  let arg19 : BitVec 32 := Scf.iv c0_i32_3533 c1_i32_3534 k0_t2
  let v7476 : Index := Scalar.indexCast arg19
  ![v7476.toNat]
def k0_off5 (i : grid0.Coords) : Fin 1 → Nat :=
  let arg0 : BitVec 32 := BitVec.ofNat 32 (i 0).val
  let v7045 : Index := Scalar.indexCast arg0
  ![v7045.toNat]
def k0_off6 (arg19 : BitVec 32) : Fin 1 → Nat :=
  let v7051 : Index := Scalar.indexCast arg19
  ![v7051.toNat]

def k0_off7 (i : grid0.Coords) (v7052 : BitVec 32) : Fin 2 → Nat :=
  let arg0 : BitVec 32 := BitVec.ofNat 32 (i 0).val
  let c768_i32 : BitVec 32 := 768#32
  let v7053 : BitVec 32 := Scalar.muli arg0 c768_i32
  let v7054 : BitVec 32 := Scalar.subi v7052 v7053
  let v7055 : Index := Scalar.indexCast v7054
  let c0_3296 : Index := 0#32
  ![v7055.toNat, 0]

def k0_chk3 (i : grid0.Coords) (v7052 : BitVec 32) : Prop :=
  (∀ a, (k0_off7 i v7052) a + S1x1152.size a ≤ S768x1152.size a)
theorem k0_off7_inb : ∀ (i : grid0.Coords) (v7052 : BitVec 32) (k0_hw3 : k0_chk3 i v7052), ∀ a, (k0_off7 i v7052) a + S1x1152.size a ≤ S768x1152.size a := fun i v7052 k0_hw3 => k0_hw3

def k0_off8 (arg19 : BitVec 32) : Fin 2 → Nat :=
  let v7058 : Index := Scalar.indexCast arg19
  let c0_3297 : Index := 0#32
  ![v7058.toNat, 0]
def k0_off9 (arg19 : BitVec 32) : Fin 1 → Nat :=
  let v7063 : Index := Scalar.indexCast arg19
  ![v7063.toNat]

def k0_chk2 (arg19 : BitVec 32) : Prop :=
  (∀ a, (k0_off6 arg19) a + S1.size a ≤ S768.size a) ∧
  (∀ a, (k0_off8 arg19) a + S1x1152.size a ≤ S768x1152.size a) ∧
  (∀ a, (k0_off9 arg19) a + S1.size a ≤ S768.size a)
theorem k0_off6_inb : ∀ (arg19 : BitVec 32) (k0_hw2 : k0_chk2 arg19), ∀ a, (k0_off6 arg19) a + S1.size a ≤ S768.size a := fun arg19 k0_hw2 => k0_hw2.1
theorem k0_off8_inb : ∀ (arg19 : BitVec 32) (k0_hw2 : k0_chk2 arg19), ∀ a, (k0_off8 arg19) a + S1x1152.size a ≤ S768x1152.size a := fun arg19 k0_hw2 => k0_hw2.2.1
theorem k0_off9_inb : ∀ (arg19 : BitVec 32) (k0_hw2 : k0_chk2 arg19), ∀ a, (k0_off9 arg19) a + S1.size a ≤ S768.size a := fun arg19 k0_hw2 => k0_hw2.2.2

def k0_cond2 (i : grid0.Coords) : BitVec 1 :=
  let arg0 : BitVec 32 := BitVec.ofNat 32 (i 0).val
  let c166_i32 : BitVec 32 := 166#32
  let v7048 : BitVec 1 := Scalar.cmpi .eq arg0 c166_i32
  let v7049 : BitVec 32 := Scalar.extui v7048
  let c0_i32_3295 : BitVec 32 := 0#32
  let v7050 : BitVec 1 := Scalar.cmpi .ne v7049 c0_i32_3295
  v7050

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x768 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x2x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S576x768 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S36x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S768x1152 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S768x1152 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2x384x128256 : Shape := ⟨3, ![2, 384, 128256]⟩
abbrev S2x384x1002 : Shape := ⟨3, ![2, 384, 1002]⟩
abbrev S2x384x1152 : Shape := ⟨3, ![2, 384, 1152]⟩
abbrev S2x384 : Shape := ⟨2, ![2, 384]⟩
abbrev S128256x576 : Shape := ⟨2, ![128256, 576]⟩
abbrev S128256x36 : Shape := ⟨2, ![128256, 36]⟩
abbrev S2x384x1002x128 : Shape := ⟨4, ![2, 384, 1002, 128]⟩
abbrev S2x384x1002x1 : Shape := ⟨4, ![2, 384, 1002, 1]⟩
abbrev S2x384x1 : Shape := ⟨3, ![2, 384, 1]⟩
abbrev S128256x1152 : Shape := ⟨2, ![128256, 1152]⟩
abbrev S768 : Shape := ⟨1, ![768]⟩
abbrev S768x1152 : Shape := ⟨2, ![768, 1152]⟩
abbrev S_ : Shape := ⟨0, ![]⟩
abbrev S768x1 : Shape := ⟨2, ![768, 1]⟩
abbrev S128256x36x16 : Shape := ⟨3, ![128256, 36, 16]⟩
abbrev S2x384x576 : Shape := ⟨3, ![2, 384, 576]⟩
abbrev S2x384x576x1 : Shape := ⟨4, ![2, 384, 576, 1]⟩
abbrev S2x384x576x2 : Shape := ⟨4, ![2, 384, 576, 2]⟩

abbrev nBuf : Space → Nat
  | .hbm => 68
  | .vmem => 4
  | .smem => 0
  | _ => 0

abbrev bufTy : (tb : Table) → Fin (tcTables nBuf tb) → BufTy
  | .hbm, ⟨0, _⟩ => ⟨S2x384x128256, .fp8e5m2⟩
  | .hbm, ⟨1, _⟩ => ⟨S2x384x1002, .f32⟩
  | .hbm, ⟨2, _⟩ => ⟨S2x384x1152, .fp8e4m3⟩
  | .hbm, ⟨3, _⟩ => ⟨S2x384, .f32⟩
  | .hbm, ⟨4, _⟩ => ⟨S128256x576, .i8⟩
  | .hbm, ⟨5, _⟩ => ⟨S128256x36, .f32⟩
  | .hbm, ⟨6, _⟩ => ⟨S2x384, .i32⟩
  | .hbm, ⟨7, _⟩ => ⟨S2x384x1152, .bf16⟩
  | .hbm, ⟨8, _⟩ => ⟨S2x384x128256, .bf16⟩
  | .hbm, ⟨9, _⟩ => ⟨S2x384x1152, .bf16⟩
  | .hbm, ⟨10, _⟩ => ⟨S2x384x1002x128, .bf16⟩
  | .hbm, ⟨11, _⟩ => ⟨S2x384x1002, .bf16⟩
  | .hbm, ⟨12, _⟩ => ⟨S2x384x1002x1, .bf16⟩
  | .hbm, ⟨13, _⟩ => ⟨S2x384x1002x128, .bf16⟩
  | .hbm, ⟨14, _⟩ => ⟨S2x384x1002x128, .bf16⟩
  | .hbm, ⟨15, _⟩ => ⟨S2x384x128256, .bf16⟩
  | .hbm, ⟨16, _⟩ => ⟨S2x384, .bf16⟩
  | .hbm, ⟨17, _⟩ => ⟨S2x384x1, .bf16⟩
  | .hbm, ⟨18, _⟩ => ⟨S2x384x1152, .bf16⟩
  | .hbm, ⟨19, _⟩ => ⟨S2x384x1152, .bf16⟩
  | .hbm, ⟨20, _⟩ => ⟨S128256x1152, .f32⟩
  | .hbm, ⟨21, _⟩ => ⟨S768, .i32⟩
  | .hbm, ⟨22, _⟩ => ⟨S768x1152, .bf16⟩
  | .hbm, ⟨23, _⟩ => ⟨S768x1152, .f32⟩
  | .hbm, ⟨24, _⟩ => ⟨S_, .i32⟩
  | .hbm, ⟨25, _⟩ => ⟨S768, .i32⟩
  | .hbm, ⟨26, _⟩ => ⟨S768, .i1⟩
  | .hbm, ⟨27, _⟩ => ⟨S_, .i32⟩
  | .hbm, ⟨28, _⟩ => ⟨S768, .i32⟩
  | .hbm, ⟨29, _⟩ => ⟨S768, .i32⟩
  | .hbm, ⟨30, _⟩ => ⟨S768, .i32⟩
  | .hbm, ⟨31, _⟩ => ⟨S768x1, .i32⟩
  | .hbm, ⟨32, _⟩ => ⟨S128256x1152, .f32⟩
  | .hbm, ⟨33, _⟩ => ⟨S128256x36x16, .f32⟩
  | .hbm, ⟨34, _⟩ => ⟨S128256x576, .f32⟩
  | .hbm, ⟨35, _⟩ => ⟨S128256x576, .bf16⟩
  | .hbm, ⟨36, _⟩ => ⟨S128256x576, .i32⟩
  | .hbm, ⟨37, _⟩ => ⟨S_, .i32⟩
  | .hbm, ⟨38, _⟩ => ⟨S128256x576, .i32⟩
  | .hbm, ⟨39, _⟩ => ⟨S128256x576, .i32⟩
  | .hbm, ⟨40, _⟩ => ⟨S_, .i32⟩
  | .hbm, ⟨41, _⟩ => ⟨S128256x576, .i32⟩
  | .hbm, ⟨42, _⟩ => ⟨S128256x576, .i1⟩
  | .hbm, ⟨43, _⟩ => ⟨S_, .i32⟩
  | .hbm, ⟨44, _⟩ => ⟨S128256x576, .i32⟩
  | .hbm, ⟨45, _⟩ => ⟨S128256x576, .i32⟩
  | .hbm, ⟨46, _⟩ => ⟨S128256x576, .i32⟩
  | .hbm, ⟨47, _⟩ => ⟨S128256x576, .bf16⟩
  | .hbm, ⟨48, _⟩ => ⟨S128256x576, .bf16⟩
  | .hbm, ⟨49, _⟩ => ⟨S_, .i32⟩
  | .hbm, ⟨50, _⟩ => ⟨S128256x576, .i32⟩
  | .hbm, ⟨51, _⟩ => ⟨S128256x576, .i32⟩
  | .hbm, ⟨52, _⟩ => ⟨S_, .i32⟩
  | .hbm, ⟨53, _⟩ => ⟨S128256x576, .i32⟩
  | .hbm, ⟨54, _⟩ => ⟨S128256x576, .i1⟩
  | .hbm, ⟨55, _⟩ => ⟨S_, .i32⟩
  | .hbm, ⟨56, _⟩ => ⟨S128256x576, .i32⟩
  | .hbm, ⟨57, _⟩ => ⟨S128256x576, .i32⟩
  | .hbm, ⟨58, _⟩ => ⟨S128256x576, .i32⟩
  | .hbm, ⟨59, _⟩ => ⟨S128256x576, .bf16⟩
  | .hbm, ⟨60, _⟩ => ⟨S128256x576, .bf16⟩
  | .hbm, ⟨61, _⟩ => ⟨S2x384x576, .f32⟩
  | .hbm, ⟨62, _⟩ => ⟨S2x384x576, .f32⟩
  | .hbm, ⟨63, _⟩ => ⟨S2x384x576x1, .f32⟩
  | .hbm, ⟨64, _⟩ => ⟨S2x384x576x1, .f32⟩
  | .hbm, ⟨65, _⟩ => ⟨S2x384x576x2, .f32⟩
  | .hbm, ⟨66, _⟩ => ⟨S768x1152, .f32⟩
  | .hbm, ⟨67, _⟩ => ⟨S768x1152, .bf16⟩
  | .local _ .vmem, ⟨0, _⟩ => ⟨S2x384x128256, .fp8e5m2⟩
  | .local _ .vmem, ⟨1, _⟩ => ⟨S2x384x1152, .fp8e4m3⟩
  | .local _ .vmem, ⟨2, _⟩ => ⟨S2x384x128256, .bf16⟩
  | .local _ .vmem, ⟨3, _⟩ => ⟨S2x384x1152, .bf16⟩
  | _, _ => ⟨S2x384x128256, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_1 : Ref sig .tc := ⟨.hbm, 37, rfl⟩
abbrev main_v26 : Ref sig .tc := ⟨.hbm, 38, rfl⟩
abbrev main_v27 : Ref sig .tc := ⟨.hbm, 39, rfl⟩
abbrev main_c_2 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x384x128256 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x384x1152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x384x128256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x384x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Loops.lean ====
/- Counted loops as programs: `forN n f` runs `f 0`, …, `f (n-1)` in order. -/
module

public import Idealize.ShloMosaic.Lib.Exec

@[expose] public section

noncomputable section

namespace Cert.Proof

open Idealize.ShloMosaic
open Idealize.SL.Sem

universe u
variable {E : Type → Type}

/-- The `n` programs `f 0`, …, `f (n-1)`, one after the other. -/
def forN : (n : ℕ) → (Fin n → Prog E PUnit) → Prog E PUnit
  | 0, _ => .ret ⟨⟩
  | n + 1, f => (f ⟨0, Nat.succ_pos n⟩).bind fun _ => forN n fun k => f k.succ

end Cert.Proof
-- ==== Proof.KI.Prog.lean ====
/- The kernel body as nested loops over blocks, and its equality with the printed straight-line body. -/
module

public import proofs.«01_k».proof.Proof.Gen.KernelIdeal
public import proofs.«01_k».proof.Proof.Gen.KernelIdeal.Launch
public import proofs.«01_k».proof.Proof.Loops

@[expose] public section

noncomputable section

namespace Cert.Proof.KI

open Cert.KernelIdeal Cert.KernelIdeal.Gen

open Idealize.ShloMosaic Idealize.ShloMosaic.TcCoe Idealize.ShloMosaic.Tactic
open Idealize.SL.Sem

variable {F : FTy → Type} [FloatOps F]

/-! ## Blocks -/

/-- A block of 128 by 128 at block row `a` and block column `b` of a 768 by 1152 array. -/
abbrev rH (a : Fin 6) (b : Fin 9) : Rect S768x1152 :=
  Rect.unit (s := S768x1152) ![128 * a.val, 128 * b.val] S128x128.size (by
    intro x; fin_cases x <;> simp [S128x128, S768x1152] <;> omega)

theorem packH (a : Fin 6) (b : Fin 9) : (rH a b).PackedRows (EltTy.packing .bf16) :=
  .inr ⟨by decide, rfl, .inl ⟨⟨64 * a.val, by show 128 * a.val = 2 * _; omega⟩, ⟨64, rfl⟩⟩⟩

/-- A block of 128 by 128 of a 768 by 768 array. -/
abbrev rD (a b : Fin 6) : Rect S768x768 :=
  Rect.unit (s := S768x768) ![128 * a.val, 128 * b.val] S128x128.size (by
    intro x; fin_cases x <;> simp [S128x128, S768x768] <;> omega)

theorem packD (a b : Fin 6) : (rD a b).PackedRows (EltTy.packing .bf16) :=
  .inr ⟨by decide, rfl, .inl ⟨⟨64 * a.val, by show 128 * a.val = 2 * _; omega⟩, ⟨64, rfl⟩⟩⟩

/-- A block of 128 by 128 of a 1152 by 768 array. -/
abbrev rA (a : Fin 9) (b : Fin 6) : Rect S1152x768 :=
  Rect.unit (s := S1152x768) ![128 * a.val, 128 * b.val] S128x128.size (by
    intro x; fin_cases x <;> simp [S128x128, S1152x768] <;> omega)

/-- The 16 rows `64 q + 16 k …` and the 128 columns `128 c …` of a 1152 by 768 array. -/
abbrev rE (q : Fin 18) (c : Fin 6) (k : Fin 4) : Rect S1152x768 :=
  Rect.unit (s := S1152x768) ![64 * q.val + 16 * k.val, 128 * c.val] S16x128.size (by
    intro x; fin_cases x <;> simp [S16x128, S1152x768] <;> omega)

theorem packE (q : Fin 18) (c : Fin 6) (k : Fin 4) : (rE q c k).PackedRows (EltTy.packing .bf16) :=
  .inr ⟨by decide, rfl, .inl ⟨⟨32 * q.val + 8 * k.val, by show 64 * q.val + 16 * k.val = 2 * _; omega⟩, ⟨8, rfl⟩⟩⟩

/-- Storing such a block is a store of whole words. -/
theorem stH {m : Memref sig .tc .vmem S768x1152 .bf16} (h : m.IsWhole) (t : Fin 6) (d : Fin 9) : (m.access (rH t d)).Stores Finset.univ :=
  View.stores_vmem h_S128x128 (h.storeExact_slice rfl _ (packH t d)) (fun _ => rfl)

/-- Storing such a block is a store of whole words. -/
theorem stD {m : Memref sig .tc .vmem S768x768 .bf16} (h : m.IsWhole) (v t : Fin 6) : (m.access (rD v t)).Stores Finset.univ :=
  View.stores_vmem h_S128x128 (h.storeExact_slice rfl _ (packD v t)) (fun _ => rfl)

/-- Storing such a block is a store of whole words. -/
theorem stE {m : Memref sig .tc .vmem S1152x768 .bf16} (h : m.IsWhole) (q : Fin 18) (c : Fin 6) (k : Fin 4) : (m.access (rE q c k)).Stores Finset.univ :=
  View.stores_vmem h_S16x128 (h.storeExact_slice rfl _ (packE q c k)) (fun _ => rfl)

/-- Row `b`, columns `128 k …` of the 2 by 384 table of row scales; block `t = 3 b + k`. -/
abbrev rS (t : Fin 6) : Rect S2x384 :=
  Rect.unit (s := S2x384) ![t.val / 3, 128 * (t.val % 3)] S1x128.size (by
    intro x; fin_cases x <;> simp [S1x128, S2x384] <;> omega)

/-- The scales of vocabulary group `v` and token block `t` in the 6 by 2 by 384 table. -/
abbrev rT (v t : Fin 6) : Rect S6x2x384 :=
  Rect.unit (s := S6x2x384) ![v.val, t.val / 3, 128 * (t.val % 3)] S1x1x128.size (by
    intro x; fin_cases x <;> simp [S1x1x128, S6x2x384] <;> omega)

/-- Row `g`, columns `128 c …` of the 36 by 768 table of group scales. -/
abbrev rG (g : Fin 36) (c : Fin 6) : Rect S36x768 :=
  Rect.unit (s := S36x768) ![g.val, 128 * c.val] S1x128.size (by
    intro x; fin_cases x <;> simp [S1x128, S36x768] <;> omega)

/-- The 32 byte rows `32 q …`, columns `128 c …` of the packed table. -/
abbrev rB (q : Fin 18) (c : Fin 6) : Rect S576x768 :=
  Rect.unit (s := S576x768) ![32 * q.val, 128 * c.val] S32x128.size (by
    intro x; fin_cases x <;> simp [S32x128, S576x768] <;> omega)

/-! ## Payloads -/

/-- The scales of one block of 128 tokens, one per row. -/
def hhScale (x : Vec F S1x128 .f32) : FVec F S128x128 .bf16 :=
  truncf .bf16 (transpose S128x128 [1, 0] (broadcastTo S128x128 (shapeCast S1x128 x shapeCasts_S1x128_S1x128 : FVec F S1x128 .f32) broadcasts_S1x128_S128x128) transposes_S128x128_p1_0_S128x128) bitsLt_bf16_f32

/-- One block of the dequantised hidden states. -/
def hhPay (s : FVec F S128x128 .bf16) (x : Vec F S128x128 .fp8e4m3) : FVec F S128x128 .bf16 :=
  shapeCast S128x128 (mulf (extf .bf16 (shapeCast S128x128 x shapeCasts_S128x128_S128x128 : FVec F S128x128 .fp8e4m3) bitsLt_fp8e4m3_bf16) s) shapeCasts_S128x128_S128x128

/-- One transposed block of the dequantised logit gradients. -/
def dltPay (x : Vec F S128x128 .fp8e5m2) (s : Vec F S1x1x128 .f32) : FVec F S128x128 .bf16 :=
  shapeCast S128x128 (mulf
    (transpose S128x128 [1, 0] (extf .bf16 (shapeCast S128x128 x shapeCasts_S128x128_S128x128 : FVec F S128x128 .fp8e5m2) bitsLt_fp8e5m2_bf16 : FVec F S128x128 .bf16) transposes_S128x128_p1_0_S128x128)
    (broadcastTo S128x128 (truncf .bf16 (shapeCast S1x128 s shapeCasts_S1x1x128_S1x128 : FVec F S1x128 .f32) bitsLt_bf16_f32 : FVec F S1x128 .bf16) broadcasts_S1x128_S128x128)) shapeCasts_S128x128_S128x128

/-- The group scales rounded to bfloat16. -/
def esrPay (x : Vec F S36x768 .f32) : FVec F S36x768 .f32 :=
  shapeCast S36x768 (extf .f32 (truncf .bf16 (shapeCast S36x768 x shapeCasts_S36x768_S36x768 : FVec F S36x768 .f32) bitsLt_bf16_f32 : FVec F S36x768 .bf16) bitsLt_bf16_f32) shapeCasts_S36x768_S36x768

/-- The first eight of sixteen rows. -/
def lower : IVec S16x128 1 :=
  cmpi .slt (iota .tc S16x128 32 [0] iota_S16x128_d0_w32) (broadcast S16x128 8#32)

/-- The scales of sixteen rows: the first row of scales for the first eight, the second for the rest. -/
def etsScale (a b : Vec F S1x128 .f32) : FVec F S16x128 .bf16 :=
  truncf .bf16 (select lower
    (broadcastTo S16x128 (shapeCast S1x128 a shapeCasts_S1x128_S1x128 : FVec F S1x128 .f32) broadcasts_S1x128_S16x128)
    (broadcastTo S16x128 (shapeCast S1x128 b shapeCasts_S1x128_S1x128 : FVec F S1x128 .f32) broadcasts_S1x128_S16x128)) bitsLt_bf16_f32

/-- Thirty-two rows of bytes as eight rows of words. -/
def etsWord (x : Vec F S32x128 .i8) : IVec S8x128 32 :=
  bitcast S8x128 32 (shapeCast S32x128 x shapeCasts_S32x128_S32x128 : IVec S32x128 8) bitcasts_S32x128_w8_S8x128_w32

/-- The words shifted right by `4 k`. -/
def etsShift (w : IVec S8x128 32) : ℕ → IVec S8x128 32
  | 0 => w
  | k + 1 => shrui w (broadcast S8x128 (BitVec.ofNat 32 (4 * (k + 1))))

/-- Sixteen rows of dequantised weights: nibble `k` of every halfword, offset by eight and scaled. -/
def etsPay (sc : FVec F S16x128 .bf16) (w : IVec S8x128 32) (k : ℕ) : FVec F S16x128 .bf16 :=
  shapeCast S16x128 (mulf (subf
    (bitcastToFloat .bf16 (bitcast S16x128 16 (xori (andi (etsShift w k) (broadcast S8x128 983055#32)) (broadcast S8x128 1124614920#32)) bitcasts_S8x128_w32_S16x128_w16))
    (broadcast S16x128 (Scalar.ofBits .bf16 0x4308#16))) sc) shapeCasts_S16x128_S16x128

/-- One block of the hidden-state gradient, features put back in order, transposed and rounded. -/
def dhPay (x : Vec F S128x128 .f32) : FVec F S128x128 .bf16 :=
  truncf .bf16 (transpose S128x128 [1, 0] (shapeCast S128x128 (transpose S2x16x4x128 [0, 2, 1, 3]
    (shapeCast S2x4x16x128 x shapeCasts_S128x128_S2x4x16x128 : FVec F S2x4x16x128 .f32) transposes_S2x4x16x128_p0_2_1_3_S2x16x4x128)
    shapeCasts_S2x16x4x128_S128x128 : FVec F S128x128 .f32) transposes_S128x128_p1_0_S128x128 : FVec F S128x128 .f32) bitsLt_bf16_f32

/-! ## The phases -/

/-- The dequantised hidden states, block by block. -/
def hhPhase (arg4 : Memref sig .tc .vmem S768x1152 .fp8e4m3) (arg5 : Memref sig .tc .vmem S2x384 .f32)
    (arg11 : Memref sig .tc .vmem S768x1152 .bf16) (harg11 : arg11.IsWhole) : Prog (TpuEff nD τ sig (Elt F) (Λ₀ F) .tc) PUnit :=
  forN 6 fun t => do
    let s : Vec F S1x128 .f32 ← Prog.lift (.load arg5 (rS t).toLoadRect (View.loadsAt_vmem h_S1x128))
    forN 9 fun d => do
      let x : Vec F S128x128 .fp8e4m3 ← Prog.lift (.load arg4 (rH t d).toLoadRect (View.loadsAt_vmem h_S128x128))
      let _ : Vec F S128x128 .bf16 ← Prog.lift (.load arg11 (rH t d).toLoadRect (View.loadsAt_vmem h_S128x128))
      Prog.lift (.store arg11 (rH t d) (hhPay (hhScale s) x) Finset.univ (stH harg11 t d) (.inl rfl))

/-- The dequantised logit gradients, transposed block by block. -/
def dltPhase (arg2 : Memref sig .tc .vmem S768x768 .fp8e5m2) (arg3 : Memref sig .tc .vmem S6x2x384 .f32)
    (arg13 : Memref sig .tc .vmem S768x768 .bf16) (harg13 : arg13.IsWhole) : Prog (TpuEff nD τ sig (Elt F) (Λ₀ F) .tc) PUnit :=
  forN 6 fun v => forN 6 fun t => do
    let x : Vec F S128x128 .fp8e5m2 ← Prog.lift (.load arg2 (rD t v).toLoadRect (View.loadsAt_vmem h_S128x128))
    let s : Vec F S1x1x128 .f32 ← Prog.lift (.load arg3 (rT v t).toLoadRect (View.loadsAt_vmem h_S1x1x128))
    let _ : Vec F S128x128 .bf16 ← Prog.lift (.load arg13 (rD v t).toLoadRect (View.loadsAt_vmem h_S128x128))
    Prog.lift (.store arg13 (rD v t) (dltPay x s) Finset.univ (stD harg13 v t) (.inl rfl))

/-- The dequantised weights, sixteen rows at a time. -/
def etsPhase (arg6 : Memref sig .tc .vmem S576x768 .i8) (arg14 : Memref sig .tc .vmem S1152x768 .bf16) (harg14 : arg14.IsWhole)
    (arg15 : Memref sig .tc .vmem S36x768 .f32) : Prog (TpuEff nD τ sig (Elt F) (Λ₀ F) .tc) PUnit :=
  forN 18 fun q => forN 6 fun c => do
    let a : Vec F S1x128 .f32 ← Prog.lift (.load arg15 (rG ⟨2 * q.val, by omega⟩ c).toLoadRect (View.loadsAt_vmem h_S1x128))
    let b : Vec F S1x128 .f32 ← Prog.lift (.load arg15 (rG ⟨2 * q.val + 1, by omega⟩ c).toLoadRect (View.loadsAt_vmem h_S1x128))
    let x : Vec F S32x128 .i8 ← Prog.lift (.load arg6 (rB q c).toLoadRect (View.loadsAt_vmem h_S32x128))
    forN 4 fun k => do
      let _ : Vec F S16x128 .bf16 ← Prog.lift (.load arg14 (rE q c k).toLoadRect (View.loadsAt_vmem h_S16x128))
      Prog.lift (.store arg14 (rE q c k) (etsPay (etsScale a b) (etsWord x) k.val) Finset.univ (stE harg14 q c k) (.inl rfl))

/-- The hidden-state gradient written out, block by block. -/
def finPhase (arg10 : Memref sig .tc .vmem S768x1152 .bf16) (harg10 : arg10.IsWhole)
    (arg16 : Memref sig .tc .vmem S1152x768 .f32) : Prog (TpuEff nD τ sig (Elt F) (Λ₀ F) .tc) PUnit :=
  forN 6 fun t => forN 9 fun d => do
    let x : Vec F S128x128 .f32 ← Prog.lift (.load arg16 (rA d t).toLoadRect (View.loadsAt_vmem h_S128x128))
    let _ : Vec F S128x128 .bf16 ← Prog.lift (.load arg10 (rH t d).toLoadRect (View.loadsAt_vmem h_S128x128))
    Prog.lift (.store arg10 (rH t d) (dhPay x) Finset.univ (stH harg10 t d) (.inl rfl))

/-- The heads of the token lists set to "none". -/
def headLoop (i : grid0.Coords) (k0_h1 : k0_cond1 i = 1#1) (arg17 : Memref sig .tc .smem S167 .i32) : Prog (TpuEff nD τ sig (Elt F) (Λ₀ F) .tc) PUnit :=
  Scf.Loop.for k0_t1_loop (k0_t1_ok i k0_h1) ⟨⟩ fun k0_t1 _ => do
    let _ : Elt F .i32 ← smemLoad arg17 (Rect.unit (s := S167) (k0_off1 k0_t1) S1.size (k0_off1_inb i k0_t1 k0_h1)) numel1_S1 rfl
    Prog.lift (.store arg17 (Rect.unit (s := S167) (k0_off1 k0_t1) S1.size (k0_off1_inb i k0_t1 k0_h1)) (fun _ => 4294967295#32) Finset.univ (View.stores_smem_one rfl numel1_S1) (.inl rfl))
    pure ⟨⟩

/-- Every token put in front of the list of its vocabulary block. -/
def linkLoop (i : grid0.Coords) (k0_h1 : k0_cond1 i = 1#1) (arg1 : Memref sig .tc .smem S768 .i32)
    (arg17 : Memref sig .tc .smem S167 .i32) (arg18 : Memref sig .tc .smem S768 .i32) : Prog (TpuEff nD τ sig (Elt F) (Λ₀ F) .tc) PUnit :=
  Scf.Loop.for k0_t2_loop (k0_t2_ok i k0_h1) ⟨⟩ fun k0_t2 _ => do
    let v7472 : Elt F .i32 ← smemLoad arg1 (Rect.unit (s := S768) (k0_off2 k0_t2) S1.size (k0_off2_inb i k0_t2 k0_h1)) numel1_S1 rfl
    have k0_hw1 : k0_chk1 i v7472 := (← Prog.lift (TpuEff.assume (k0_chk1 i v7472) (k0_chk1.dec i v7472))).down
    let v7475 : Elt F .i32 ← smemLoad arg17 (Rect.unit (s := S167) (k0_off3 v7472) S1.size (k0_off3_inb i v7472 k0_hw1 k0_h1)) numel1_S1 rfl
    let _ : Elt F .i32 ← smemLoad arg18 (Rect.unit (s := S768) (k0_off4 k0_t2) S1.size (k0_off4_inb i k0_t2 k0_h1)) numel1_S1 rfl
    Prog.lift (.store arg18 (Rect.unit (s := S768) (k0_off4 k0_t2) S1.size (k0_off4_inb i k0_t2 k0_h1)) (fun _ => v7475) Finset.univ (View.stores_smem_one rfl numel1_S1) (.inl rfl))
    let _ : Elt F .i32 ← smemLoad arg17 (Rect.unit (s := S167) (k0_off3 v7472) S1.size (k0_off3_inb i v7472 k0_hw1 k0_h1)) numel1_S1 rfl
    Prog.lift (.store arg17 (Rect.unit (s := S167) (k0_off3 v7472) S1.size (k0_off3_inb i v7472 k0_hw1 k0_h1)) (fun _ => Scf.iv (0#32) (1#32) k0_t2) Finset.univ (View.stores_smem_one rfl numel1_S1) (.inl rfl))
    pure ⟨⟩

/-- What the first grid point does before the rest. -/
def initPhase (i : grid0.Coords) (k0_h1 : k0_cond1 i = 1#1) (arg1 : Memref sig .tc .smem S768 .i32)
    (arg4 : Memref sig .tc .vmem S768x1152 .fp8e4m3) (arg5 : Memref sig .tc .vmem S2x384 .f32)
    (arg8 : Memref sig .tc .vmem S768x1152 .bf16)
    (arg11 : Memref sig .tc .vmem S768x1152 .bf16) (harg11 : arg11.IsWhole) (arg12 : Memref sig .tc .vmem S768x1152 .f32)
    (arg16 : Memref sig .tc .vmem S1152x768 .f32)
    (arg17 : Memref sig .tc .smem S167 .i32) (arg18 : Memref sig .tc .smem S768 .i32) : Prog (TpuEff nD τ sig (Elt F) (Λ₀ F) .tc) PUnit := do
  let _ : Vec F S1152x768 .f32 ← Prog.lift (.load arg16 (Rect.unit (s := S1152x768) ![0, 0] S1152x768.size inb_S1152x768_S1152x768_0_0).toLoadRect (View.loadsAt_vmem h_S1152x768))
  Prog.lift (.store arg16 (Rect.unit (s := S1152x768) ![0, 0] S1152x768.size inb_S1152x768_S1152x768_0_0) (shapeCast S1152x768 (broadcast S1152x768 (Scalar.ofBits .f32 0x00000000#32) : FVec F S1152x768 .f32) shapeCasts_S1152x768_S1152x768 : FVec F S1152x768 .f32) Finset.univ (View.stores_vmem_bits_univ h_S1152x768 rfl) (.inl rfl))
  let x : Vec F S768x1152 .bf16 ← Prog.lift (.load arg8 (Rect.unit (s := S768x1152) ![0, 0] S768x1152.size inb_S768x1152_S768x1152_0_0).toLoadRect (View.loadsAt_vmem h_S768x1152))
  let _ : Vec F S768x1152 .f32 ← Prog.lift (.load arg12 (Rect.unit (s := S768x1152) ![0, 0] S768x1152.size inb_S768x1152_S768x1152_0_0).toLoadRect (View.loadsAt_vmem h_S768x1152))
  Prog.lift (.store arg12 (Rect.unit (s := S768x1152) ![0, 0] S768x1152.size inb_S768x1152_S768x1152_0_0) (shapeCast S768x1152 (extf .f32 (shapeCast S768x1152 x shapeCasts_S768x1152_S768x1152 : FVec F S768x1152 .bf16) bitsLt_bf16_f32 : FVec F S768x1152 .f32) shapeCasts_S768x1152_S768x1152 : FVec F S768x1152 .f32) Finset.univ (View.stores_vmem_bits_univ h_S768x1152 rfl) (.inl rfl))
  hhPhase arg4 arg5 arg11 harg11
  (do headLoop i k0_h1 arg17
      linkLoop i k0_h1 arg1 arg17 arg18
      pure ⟨⟩)
  pure ⟨⟩

/-- What every grid point does after that, up to the list walk. -/
def midPhase (i : grid0.Coords)
    (arg2 : Memref sig .tc .vmem S768x768 .fp8e5m2) (arg3 : Memref sig .tc .vmem S6x2x384 .f32)
    (arg6 : Memref sig .tc .vmem S576x768 .i8) (arg7 : Memref sig .tc .vmem S36x768 .f32)
    (arg9 : Memref sig .tc .vmem S768x1152 .f32)
    (arg11 : Memref sig .tc .vmem S768x1152 .bf16)
    (arg13 : Memref sig .tc .vmem S768x768 .bf16) (harg13 : arg13.IsWhole)
    (arg14 : Memref sig .tc .vmem S1152x768 .bf16) (harg14 : arg14.IsWhole)
    (arg15 : Memref sig .tc .vmem S36x768 .f32) (arg16 : Memref sig .tc .vmem S1152x768 .f32)
    (K : Prog (TpuEff nD τ sig (Elt F) (Λ₀ F) .tc) PUnit) : Prog (TpuEff nD τ sig (Elt F) (Λ₀ F) .tc) PUnit := do
  dltPhase arg2 arg3 arg13 harg13
  let es : Vec F S36x768 .f32 ← Prog.lift (.load arg7 (Rect.unit (s := S36x768) ![0, 0] S36x768.size inb_S36x768_S36x768_0_0).toLoadRect (View.loadsAt_vmem h_S36x768))
  let _ : Vec F S36x768 .f32 ← Prog.lift (.load arg15 (Rect.unit (s := S36x768) ![0, 0] S36x768.size inb_S36x768_S36x768_0_0).toLoadRect (View.loadsAt_vmem h_S36x768))
  Prog.lift (.store arg15 (Rect.unit (s := S36x768) ![0, 0] S36x768.size inb_S36x768_S36x768_0_0) (esrPay es) Finset.univ (View.stores_vmem_bits_univ h_S36x768 rfl) (.inl rfl))
  etsPhase arg6 arg14 harg14 arg15
  let v7033 : Vec F S768x768 .bf16 ← Prog.lift (.load arg13 (Rect.unit (s := S768x768) ![0, 0] S768x768.size inb_S768x768_S768x768_0_0).toLoadRect (View.loadsAt_vmem h_S768x768))
  let v7034 : Vec F S768x1152 .bf16 ← Prog.lift (.load arg11 (Rect.unit (s := S768x1152) ![0, 0] S768x1152.size inb_S768x1152_S768x1152_0_0).toLoadRect (View.loadsAt_vmem h_S768x1152))
  let _ : Vec F S768x1152 .f32 ← Prog.lift (.load arg9 (Rect.unit (s := S768x1152) ![0, 0] S768x1152.size inb_S768x1152_S768x1152_0_0).toLoadRect (View.loadsAt_vmem h_S768x1152))
  Prog.lift (.store arg9 (Rect.unit (s := S768x1152) ![0, 0] S768x1152.size inb_S768x1152_S768x1152_0_0) (matmul dot_S768x768_S768x1152_S768x1152_1_0_0_1_n_n none v7033 v7034 (constant S768x1152 .f32 0x00000000#32 : FVec F S768x1152 .f32) : FVec F S768x1152 .f32) Finset.univ (View.stores_vmem_bits_univ h_S768x1152 rfl) (.inl rfl))
  let v7037 : Vec F S1152x768 .f32 ← Prog.lift (.load arg16 (Rect.unit (s := S1152x768) ![0, 0] S1152x768.size inb_S1152x768_S1152x768_0_0).toLoadRect (View.loadsAt_vmem h_S1152x768))
  let v7038 : Vec F S1152x768 .bf16 ← Prog.lift (.load arg14 (Rect.unit (s := S1152x768) ![0, 0] S1152x768.size inb_S1152x768_S1152x768_0_0).toLoadRect (View.loadsAt_vmem h_S1152x768))
  let v7039 : Vec F S768x768 .bf16 ← Prog.lift (.load arg13 (Rect.unit (s := S768x768) ![0, 0] S768x768.size inb_S768x768_S768x768_0_0).toLoadRect (View.loadsAt_vmem h_S768x768))
  let _ : Vec F S1152x768 .f32 ← Prog.lift (.load arg16 (Rect.unit (s := S1152x768) ![0, 0] S1152x768.size inb_S1152x768_S1152x768_0_0).toLoadRect (View.loadsAt_vmem h_S1152x768))
  Prog.lift (.store arg16 (Rect.unit (s := S1152x768) ![0, 0] S1152x768.size inb_S1152x768_S1152x768_0_0) (shapeCast S1152x768 (addf v7037 (matmul dot_S1152x768_S768x768_S1152x768_1_0_0_1_n_n none v7038 v7039 (constant S1152x768 .f32 0x00000000#32 : FVec F S1152x768 .f32) : FVec F S1152x768 .f32) : FVec F S1152x768 .f32) shapeCasts_S1152x768_S1152x768 : FVec F S1152x768 .f32) Finset.univ (View.stores_vmem_bits_univ h_S1152x768 rfl) (.inl rfl))
  K

/-- What follows the matrix products at every grid point: the list walk and, at the last point, the second result. -/
def tailPhase (i : grid0.Coords) (arg1 : Memref sig .tc .smem S768 .i32) (harg1 : arg1.IsWhole) (arg2 : Memref sig .tc .vmem S768x768 .fp8e5m2) (harg2 : arg2.IsWhole) (arg3 : Memref sig .tc .vmem S6x2x384 .f32) (harg3 : arg3.IsWhole) (arg4 : Memref sig .tc .vmem S768x1152 .fp8e4m3) (harg4 : arg4.IsWhole) (arg5 : Memref sig .tc .vmem S2x384 .f32) (harg5 : arg5.IsWhole) (arg6 : Memref sig .tc .vmem S576x768 .i8) (harg6 : arg6.IsWhole) (arg7 : Memref sig .tc .vmem S36x768 .f32) (harg7 : arg7.IsWhole) (arg8 : Memref sig .tc .vmem S768x1152 .bf16) (harg8 : arg8.IsWhole) (arg9 : Memref sig .tc .vmem S768x1152 .f32) (harg9 : arg9.IsWhole) (arg10 : Memref sig .tc .vmem S768x1152 .bf16) (harg10 : arg10.IsWhole) (arg11 : Memref sig .tc .vmem S768x1152 .bf16) (harg11 : arg11.IsWhole) (arg12 : Memref sig .tc .vmem S768x1152 .f32) (harg12 : arg12.IsWhole) (arg13 : Memref sig .tc .vmem S768x768 .bf16) (harg13 : arg13.IsWhole) (arg14 : Memref sig .tc .vmem S1152x768 .bf16) (harg14 : arg14.IsWhole) (arg15 : Memref sig .tc .vmem S36x768 .f32) (harg15 : arg15.IsWhole) (arg16 : Memref sig .tc .vmem S1152x768 .f32) (harg16 : arg16.IsWhole) (arg17 : Memref sig .tc .smem S167 .i32) (harg17 : arg17.IsWhole) (arg18 : Memref sig .tc .smem S768 .i32) (harg18 : arg18.IsWhole) : Prog (TpuEff nD τ sig (Elt F) (Λ₀ F) .tc) PUnit := do
  let v7046 : Elt F .i32 ← smemLoad arg17 (Rect.unit (s := S167) (k0_off5 i) S1.size (k0_off5_inb i)) numel1_S1 rfl
  let _ : BitVec 32 ← Prog.lift (.call (1 : (Λ₀ F).Label) ⟨i, arg1, harg1, arg9, harg9, arg12, harg12, arg18, harg18, v7046⟩)
  if k0_h2 : k0_cond2 i = 1#1 then finPhase arg10 harg10 arg16 else pure ⟨⟩
  pure ⟨⟩

/-- The kernel body as phases. -/
def body (i : grid0.Coords) (arg1 : Memref sig .tc .smem S768 .i32) (harg1 : arg1.IsWhole) (arg2 : Memref sig .tc .vmem S768x768 .fp8e5m2) (harg2 : arg2.IsWhole) (arg3 : Memref sig .tc .vmem S6x2x384 .f32) (harg3 : arg3.IsWhole) (arg4 : Memref sig .tc .vmem S768x1152 .fp8e4m3) (harg4 : arg4.IsWhole) (arg5 : Memref sig .tc .vmem S2x384 .f32) (harg5 : arg5.IsWhole) (arg6 : Memref sig .tc .vmem S576x768 .i8) (harg6 : arg6.IsWhole) (arg7 : Memref sig .tc .vmem S36x768 .f32) (harg7 : arg7.IsWhole) (arg8 : Memref sig .tc .vmem S768x1152 .bf16) (harg8 : arg8.IsWhole) (arg9 : Memref sig .tc .vmem S768x1152 .f32) (harg9 : arg9.IsWhole) (arg10 : Memref sig .tc .vmem S768x1152 .bf16) (harg10 : arg10.IsWhole) (arg11 : Memref sig .tc .vmem S768x1152 .bf16) (harg11 : arg11.IsWhole) (arg12 : Memref sig .tc .vmem S768x1152 .f32) (harg12 : arg12.IsWhole) (arg13 : Memref sig .tc .vmem S768x768 .bf16) (harg13 : arg13.IsWhole) (arg14 : Memref sig .tc .vmem S1152x768 .bf16) (harg14 : arg14.IsWhole) (arg15 : Memref sig .tc .vmem S36x768 .f32) (harg15 : arg15.IsWhole) (arg16 : Memref sig .tc .vmem S1152x768 .f32) (harg16 : arg16.IsWhole) (arg17 : Memref sig .tc .smem S167 .i32) (harg17 : arg17.IsWhole) (arg18 : Memref sig .tc .smem S768 .i32) (harg18 : arg18.IsWhole) : Prog (TpuEff nD τ sig (Elt F) (Λ₀ F) .tc) PUnit := do
  if k0_h1 : k0_cond1 i = 1#1 then initPhase i k0_h1 arg1 arg4 arg5 arg8 arg11 harg11 arg12 arg16 arg17 arg18 else pure ⟨⟩
  midPhase i arg2 arg3 arg6 arg7 arg9 arg11 arg13 harg13 arg14 harg14 arg15 arg16
    (tailPhase i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)

/-- The printed work of the first grid point is `initPhase`. -/
theorem init_eq (i : grid0.Coords) (arg1 : Memref sig .tc .smem S768 .i32) (harg1 : arg1.IsWhole) (arg2 : Memref sig .tc .vmem S768x768 .fp8e5m2) (harg2 : arg2.IsWhole) (arg3 : Memref sig .tc .vmem S6x2x384 .f32) (harg3 : arg3.IsWhole) (arg4 : Memref sig .tc .vmem S768x1152 .fp8e4m3) (harg4 : arg4.IsWhole) (arg5 : Memref sig .tc .vmem S2x384 .f32) (harg5 : arg5.IsWhole) (arg6 : Memref sig .tc .vmem S576x768 .i8) (harg6 : arg6.IsWhole) (arg7 : Memref sig .tc .vmem S36x768 .f32) (harg7 : arg7.IsWhole) (arg8 : Memref sig .tc .vmem S768x1152 .bf16) (harg8 : arg8.IsWhole) (arg9 : Memref sig .tc .vmem S768x1152 .f32) (harg9 : arg9.IsWhole) (arg10 : Memref sig .tc .vmem S768x1152 .bf16) (harg10 : arg10.IsWhole) (arg11 : Memref sig .tc .vmem S768x1152 .bf16) (harg11 : arg11.IsWhole) (arg12 : Memref sig .tc .vmem S768x1152 .f32) (harg12 : arg12.IsWhole) (arg13 : Memref sig .tc .vmem S768x768 .bf16) (harg13 : arg13.IsWhole) (arg14 : Memref sig .tc .vmem S1152x768 .bf16) (harg14 : arg14.IsWhole) (arg15 : Memref sig .tc .vmem S36x768 .f32) (harg15 : arg15.IsWhole) (arg16 : Memref sig .tc .vmem S1152x768 .f32) (harg16 : arg16.IsWhole) (arg17 : Memref sig .tc .smem S167 .i32) (harg17 : arg17.IsWhole) (arg18 : Memref sig .tc .smem S768 .i32) (harg18 : arg18.IsWhole) (k0_h1 : k0_cond1 i = 1#1) :
    (do
    let ⟨v7065, v7083⟩ : Σ' (v7065 : FVec F S128x128 .bf16), FVec F S128x128 .bf16 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    let v7118 : FVec F S128x128 .bf16 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7065 v7083
    let ⟨v7133, v7155⟩ : Σ' (v7133 : FVec F S128x128 .bf16), Vec F S128x128 .fp8e4m3 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7065 v7118
    let v7190 : Vec F S128x128 .fp8e4m3 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7133 v7155
    let ⟨v7201, v7226⟩ : Σ' (v7201 : FVec F S128x128 .bf16), FVec F S128x128 .bf16 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7133 v7190
    let v7261 : FVec F S128x128 .bf16 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7201 v7226
    let v7269 : FVec F S128x128 .bf16 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7261
    k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7269
    let ⟨v7337, v7369⟩ : Σ' (v7337 : FVec F S128x128 .bf16), FVec F S128x128 .bf16 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    let v7404 : FVec F S128x128 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7337 v7369
    let ⟨v7405, v7440⟩ : Σ' (v7405 : FVec F S128x128 .bf16), FVec F S128x128 .bf16 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7404
    k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 v7405 v7440
    let c768_i32_3535 : BitVec 32 := 768#32
    pure ⟨⟩ : Prog (TpuEff nD τ sig (Elt F) (Λ₀ F) .tc) PUnit) = initPhase i k0_h1 arg1 arg4 arg5 arg8 arg11 harg11 arg12 arg16 arg17 arg18 := by
  chain_rfl

/-- The printed body is the phases in order. -/
theorem body_eq (i : grid0.Coords) (arg1 : Memref sig .tc .smem S768 .i32) (harg1 : arg1.IsWhole) (arg2 : Memref sig .tc .vmem S768x768 .fp8e5m2) (harg2 : arg2.IsWhole) (arg3 : Memref sig .tc .vmem S6x2x384 .f32) (harg3 : arg3.IsWhole) (arg4 : Memref sig .tc .vmem S768x1152 .fp8e4m3) (harg4 : arg4.IsWhole) (arg5 : Memref sig .tc .vmem S2x384 .f32) (harg5 : arg5.IsWhole) (arg6 : Memref sig .tc .vmem S576x768 .i8) (harg6 : arg6.IsWhole) (arg7 : Memref sig .tc .vmem S36x768 .f32) (harg7 : arg7.IsWhole) (arg8 : Memref sig .tc .vmem S768x1152 .bf16) (harg8 : arg8.IsWhole) (arg9 : Memref sig .tc .vmem S768x1152 .f32) (harg9 : arg9.IsWhole) (arg10 : Memref sig .tc .vmem S768x1152 .bf16) (harg10 : arg10.IsWhole) (arg11 : Memref sig .tc .vmem S768x1152 .bf16) (harg11 : arg11.IsWhole) (arg12 : Memref sig .tc .vmem S768x1152 .f32) (harg12 : arg12.IsWhole) (arg13 : Memref sig .tc .vmem S768x768 .bf16) (harg13 : arg13.IsWhole) (arg14 : Memref sig .tc .vmem S1152x768 .bf16) (harg14 : arg14.IsWhole) (arg15 : Memref sig .tc .vmem S36x768 .f32) (harg15 : arg15.IsWhole) (arg16 : Memref sig .tc .vmem S1152x768 .f32) (harg16 : arg16.IsWhole) (arg17 : Memref sig .tc .smem S167 .i32) (harg17 : arg17.IsWhole) (arg18 : Memref sig .tc .smem S768 .i32) (harg18 : arg18.IsWhole) :
    cc0_tied_embedding_grad (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 := by
  unfold cc0_tied_embedding_grad k0_part205 k0_part23 body
  by_cases k0_h1 : k0_cond1 i = 1#1
  · rw [dif_pos k0_h1, dif_pos k0_h1, ← init_eq (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1]
    simp only [bind_assoc]
    refine congrArg _ ?_
    funext _
    chain_rfl
  · rw [dif_neg k0_h1, dif_neg k0_h1]
    chain_rfl
end Cert.Proof.KI
-- ==== Proof.Rules.lean ====
/- Loads and stores of memrefs owned at named contents, and counted loops. -/
module

public import Idealize.ShloMosaic.Lib.ValueIdxCore
public import Idealize.ShloMosaic.Lib.Pipeline.FrameBody
public import Idealize.ShloMosaic.Lib.Scf
public import Idealize.ShloMosaic.Lib.ValueIdxCore
public import proofs.«01_k».proof.Proof.Loops

@[expose] public section

noncomputable section

namespace Cert.Proof

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

section Rules

variable {nD : Nat} {τ : Topo} {sig : RefSig} {Ix : Type} [DecidableEq Ix]
variable {Val : EltTy → Type} {Name : Type} [DecidableEq Name]
variable {U : Type} [URA U] {Lvl : Type} {Λ : Labels} [Preorder Lvl]

local notation "𝕄" => MT nD τ sig Ix Val Name U Lvl

variable {defs : Defs nD τ sig Val Λ} (𝒱 : Variants) (c : Thread nD τ)
  (bd : Option 𝒱.V) {Γ : PendingWaitsCtx sig Ix} (E : Set Name)
variable {s : Shape} {e : EltTy} {α : Type} {Q : α → sProp (MT nD τ sig Ix Val Name U Lvl)}

/-- A load from a memref owned at `X` continues at `X` on the rectangle. -/
theorem wp_load_owns {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k (fun x => X (r.idx x))) Q)
        -∗ wp frame (wpE' defs 𝒱 c bd Γ) E (.op (.load m r.toLoadRect hl) k) Q) := by
  unfold owns
  iintro ⟨%f, %hf, H⟩ Hk
  have hS : m.view.setOn r.toLoadRect.set ⊆ m.view.set := Finset.map_subset_map.mpr (Finset.subset_univ _)
  iapply (wp_load 𝒱 c bd E (hl := hl) (k := k) (Q := Q) hS) $$ H
  iintro H
  have he : m.view.readAt Val r.toLoadRect f = fun x => X (r.idx x) := by
    rw [← hf]; rfl
  rw [he]
  iapply Hk
  iexists f
  isplitr
  · ipureintro; exact hf
  · iexact H

/-- A word loaded from a memref owned at `X`. -/
theorem wp_smemLoad_owns {m : Memref sig c.2.kind .smem s e} {r : Rect s} {h1 : r.shape.numel = 1} {hp : e.packing = 1}
    {k : Val e → Prog (TpuEff nD τ sig Val Λ c.2) α} {q : PosShare TreeShare} {X : s.Idx → Val e} (y : s.Idx)
    (hy : r.idx (Shape.Idx.first (h1.symm ▸ Nat.one_pos)) = y) :
    (owns c m q X : sProp 𝕄)
      ⊢ iprop((owns c m q X -∗ wp frame (wpE' defs 𝒱 c bd Γ) E (k (X y)) Q)
        -∗ wp frame (wpE' defs 𝒱 c bd Γ) E ((smemLoad m r h1 hp).bind k) Q) := by
  subst hy
  exact wp_load_owns 𝒱 c bd E (k := fun f => k (f _))

/-- A store to a memref owned at `X` lays the payload over `X` on the rectangle. -/
theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE' defs 𝒱 c bd Γ) E (k ⟨⟩) Q)
        -∗ wp frame (wpE' defs 𝒱 c bd Γ) E (.op (.store m r w Finset.univ hx hm) k) Q) := by
  unfold owns
  iintro ⟨%f, %hf, H⟩ Hk
  have hS : (m.access r).setOn Finset.univ ⊆ m.view.set := View.set_slice_subset _ r
  iapply (wp_store 𝒱 c bd E (hx := hx) (hm := hm) (k := k) (Q := Q) hS) $$ H
  iintro H
  iapply Hk
  iexists _
  isplitr
  swap
  · iexact H
  · ipureintro
    subst hf
    funext y
    by_cases hy : y ∈ r.set
    · obtain ⟨x, rfl⟩ : ∃ x, r.emb x = y := r.exists_idx_of_mem hy
      rw [Rect.overlay_emb]
      exact View.read_slice_write_emb r f w (Finset.mem_univ x)
    · rw [Rect.overlay_of_not_mem _ _ _ hy]
      exact View.read_slice_write_of_not_mem r f w _ (by rw [Rect.map_emb_univ]; exact hy)

/-- A counted loop keeps an invariant. -/
theorem wp_forN (I : ℕ → sProp 𝕄) :
    ∀ (n : ℕ) (f : Fin n → Prog (TpuEff nD τ sig Val Λ c.2) PUnit) (b : ℕ),
      (∀ k : Fin n, I (b + k.val) ⊢ wp frame (wpE' defs 𝒱 c bd Γ) E (f k) (fun _ => I (b + k.val + 1))) →
      I b ⊢ wp frame (wpE' defs 𝒱 c bd Γ) E (forN n f) (fun _ => I (b + n))
  | 0, f, b, _ => by
    rw [forN, wp_ret]
    iintro H
    imodintro
    iexact H
  | n + 1, f, b, h => by
    have h0 := h ⟨0, Nat.succ_pos n⟩
    have ih := wp_forN I n (fun k => f k.succ) (b + 1) (fun k => by
      have := h k.succ
      simp only [Fin.val_succ] at this
      rw [show b + 1 + k.val = b + (k.val + 1) by omega]
      exact this)
    rw [forN]
    show _ ⊢ wp frame (wpE' defs 𝒱 c bd Γ) E (f ⟨0, Nat.succ_pos n⟩ >>= fun _ => forN n fun k => f k.succ) _
    rw [wp_bind]
    refine h0.trans (wp_mono frame (wpE' defs 𝒱 c bd Γ) E ?_)
    intro _
    rw [show b + (n + 1) = b + 1 + n by omega]
    exact ih

/-- A counted loop at the head of a program keeps an invariant. -/
theorem wp_forN_bind (I : ℕ → sProp 𝕄) (n : ℕ) (f : Fin n → Prog (TpuEff nD τ sig Val Λ c.2) PUnit)
    {k : PUnit → Prog (TpuEff nD τ sig Val Λ c.2) α}
    (h : ∀ j : Fin n, I j.val ⊢ wp frame (wpE' defs 𝒱 c bd Γ) E (f j) (fun _ => I (j.val + 1))) :
    I 0 ⊢ iprop((I n -∗ wp frame (wpE' defs 𝒱 c bd Γ) E (k ⟨⟩) Q)
      -∗ wp frame (wpE' defs 𝒱 c bd Γ) E ((forN n f).bind k) Q) := by
  show _ ⊢ iprop(_ -∗ wp frame (wpE' defs 𝒱 c bd Γ) E (forN n f >>= k) Q)
  have h' := wp_forN 𝒱 c bd E (Γ := Γ) (defs := defs) I n f 0 (fun j => by simpa using h j)
  rw [wp_bind]
  iintro H Hk
  iapply (wp_wand frame (wpE' defs 𝒱 c bd Γ) E) $$ [H]
  · iapply h'; iexact H
  iintro %_ H
  iapply Hk
  simp only [Nat.zero_add]
  iexact H

/-- A counted loop at the end of a program keeps an invariant. -/
theorem wp_forN_tail (I : ℕ → sProp 𝕄) (n : ℕ) (f : Fin n → Prog (TpuEff nD τ sig Val Λ c.2) PUnit) {Q : PUnit → sProp 𝕄}
    (h : ∀ j : Fin n, I j.val ⊢ wp frame (wpE' defs 𝒱 c bd Γ) E (f j) (fun _ => I (j.val + 1))) (hQ : I n ⊢ Q ⟨⟩) :
    I 0 ⊢ wp frame (wpE' defs 𝒱 c bd Γ) E (forN n f) Q := by
  have h' := wp_forN 𝒱 c bd E (Γ := Γ) (defs := defs) I n f 0 (fun j => by simpa using h j)
  refine h'.trans (wp_mono frame (wpE' defs 𝒱 c bd Γ) E fun _ => ?_)
  simpa only [Nat.zero_add] using hQ

/-- A load of one place whose value is known. -/
theorem wp_smemLoad_val {m : Memref sig c.2.kind .smem s e} {r : Rect s} {h1 : r.shape.numel = 1} {hp : e.packing = 1}
    {k : Val e → Prog (TpuEff nD τ sig Val Λ c.2) α} {q : PosShare TreeShare} {X : s.Idx → Val e} (y : s.Idx) (v : Val e)
    (hy : r.idx (Shape.Idx.first (h1.symm ▸ Nat.one_pos)) = y) (hv : X y = v) :
    (owns c m q X : sProp 𝕄)
      ⊢ iprop((owns c m q X -∗ wp frame (wpE' defs 𝒱 c bd Γ) E (k v) Q)
        -∗ wp frame (wpE' defs 𝒱 c bd Γ) E ((smemLoad m r h1 hp).bind k) Q) := by
  subst hv
  exact wp_smemLoad_owns 𝒱 c bd E y hy

/-- A load of the whole memref. -/
theorem wp_load_whole {cs : CoreSpace} {m : Memref sig c.2.kind cs s e} {off : Fin s.rank → ℕ}
    {inb : ∀ a, off a + s.size a ≤ s.size a} {hl : m.view.LoadsAt (Rect.unit (s := s) off s.size inb).toLoadRect}
    {k : (s.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k X) Q)
        -∗ wp frame (wpE' defs 𝒱 c bd Γ) E (.op (.load m (Rect.unit (s := s) off s.size inb).toLoadRect hl) k) Q) := by
  have h := wp_load_owns 𝒱 c bd E (Γ := Γ) (defs := defs) (m := m) (r := Rect.unit (s := s) off s.size inb) (hl := hl) (k := k) (q := q) (X := X) (Q := Q)
  have hx : (fun x => X ((Rect.unit (s := s) off s.size inb).idx x)) = X := by
    funext x
    refine congrArg X (funext fun a => Fin.ext ?_)
    show off a + 1 * (x a).val = (x a).val
    have := inb a
    omega
  rw [hx] at h
  exact h

/-- A store to the whole memref. -/
theorem wp_store_whole {cs : CoreSpace} {m : Memref sig c.2.kind cs s e} {off : Fin s.rank → ℕ}
    {inb : ∀ a, off a + s.size a ≤ s.size a} {w : s.Idx → Val e}
    {hx : (m.access (Rect.unit (s := s) off s.size inb)).Stores Finset.univ}
    {hm : Finset.univ = Finset.univ ∨ ∀ a, (Rect.unit (s := s) off s.size inb).stride a = 1}
    {k : PUnit → Prog (TpuEff nD τ sig Val Λ c.2) α} {X : s.Idx → Val e} :
    (owns c m fullShare X : sProp 𝕄)
      ⊢ iprop((owns c m fullShare w -∗ wp frame (wpE' defs 𝒱 c bd Γ) E (k ⟨⟩) Q)
        -∗ wp frame (wpE' defs 𝒱 c bd Γ) E (.op (.store m (Rect.unit (s := s) off s.size inb) w Finset.univ hx hm) k) Q) := by
  have h := wp_store_owns 𝒱 c bd E (Γ := Γ) (defs := defs) (m := m) (r := Rect.unit (s := s) off s.size inb) (w := w) (hx := hx) (hm := hm) (k := k) (X := X) (Q := Q)
  have hw : (Rect.unit (s := s) off s.size inb).overlay X w = w := by
    funext y
    have hy : (Rect.unit (s := s) off s.size inb).emb y = y := by
      refine funext fun a => Fin.ext ?_
      show off a + 1 * (y a).val = (y a).val
      have := inb a
      omega
    have := (Rect.unit (s := s) off s.size inb).overlay_emb X w y
    rw [hy] at this
    exact this
  rw [hw] at h
  exact h

end Rules

/-! ## Contents laid over on a rectangle -/

variable {α : Type}

/-- Inside the rectangle the payload is read. -/
theorem overlay_hit {s : Shape} (r : Rect s) (X : s.Idx → α) (w : r.shape.Idx → α) (y : s.Idx) (x : r.shape.Idx)
    (h : r.idx x = y) : r.overlay X w y = w x := by
  subst h; exact r.overlay_emb X w x

/-- Outside it the earlier contents are. -/
theorem overlay_miss {s : Shape} (r : Rect s) (X : s.Idx → α) (w : r.shape.Idx → α) (y : s.Idx) (a : Fin s.rank)
    (hst : r.stride a = 1) (h : (y a).val < r.off a ∨ r.off a + r.size a ≤ (y a).val) : r.overlay X w y = X y :=
  r.overlay_of_not_mem X w (r.not_mem_set_of_axis y a _ _ rfl hst rfl h)

/-- A payload that agrees with `G` on the rectangle keeps every place where the contents agree with `G`. -/
theorem overlay_keep {s : Shape} (r : Rect s) (X G : s.Idx → α) (w : r.shape.Idx → α) (hw : ∀ x, w x = G (r.idx x))
    (y : s.Idx) (h : X y = G y) : r.overlay X w y = G y := by
  by_cases hy : y ∈ r.set
  · obtain ⟨x, rfl⟩ := r.exists_idx_of_mem hy
    exact (r.overlay_emb X w x).trans (hw x)
  · exact (r.overlay_of_not_mem X w hy).trans h

/-- And the contents agree with `G` on the rectangle. -/
theorem overlay_new {s : Shape} (r : Rect s) (X G : s.Idx → α) (w : r.shape.Idx → α) (hw : ∀ x, w x = G (r.idx x))
    (y : s.Idx) (h : ∃ x, r.idx x = y) : r.overlay X w y = G y := by
  obtain ⟨x, rfl⟩ := h
  exact (r.overlay_emb X w x).trans (hw x)

/-- A place within the bounds of a rectangle of stride one is one of its places. -/
theorem exists_idx {s : Shape} (r : Rect s) (hst : ∀ a, r.stride a = 1) (y : s.Idx)
    (h : ∀ a, r.off a ≤ (y a).val ∧ (y a).val < r.off a + r.size a) : ∃ x, r.idx x = y := by
  refine ⟨fun a => ⟨(y a).val - r.off a, by have := h a; show _ < r.size a; omega⟩, ?_⟩
  funext a
  apply Fin.ext
  show r.off a + r.stride a * ((y a).val - r.off a) = (y a).val
  rw [hst, Nat.one_mul]
  have := h a
  omega

/-! ## Arrays put together from blocks -/

/-- The array whose block at block row `a` and block column `b` is `f a b`. -/
def blocked {M N p q P Q : ℕ} (hp : 0 < p) (hq : 0 < q) (hP : P = M * p) (hQ : Q = N * q)
    (f : Fin M → Fin N → (⟨2, ![p, q]⟩ : Shape).Idx → α) : (⟨2, ![P, Q]⟩ : Shape).Idx → α := fun y =>
  f ⟨(y 0).val / p, Nat.div_lt_of_lt_mul (by have : (y 0).val < P := (y 0).isLt; rw [Nat.mul_comm, ← hP]; exact this)⟩
    ⟨(y 1).val / q, Nat.div_lt_of_lt_mul (by have : (y 1).val < Q := (y 1).isLt; rw [Nat.mul_comm, ← hQ]; exact this)⟩
    (ix2 ⟨(y 0).val % p, Nat.mod_lt _ hp⟩ ⟨(y 1).val % q, Nat.mod_lt _ hq⟩)

/-- A blocked array read inside a block. -/
theorem blocked_eq {M N p q P Q : ℕ} {hp : 0 < p} {hq : 0 < q} {hP : P = M * p} {hQ : Q = N * q}
    (f : Fin M → Fin N → (⟨2, ![p, q]⟩ : Shape).Idx → α) (y : (⟨2, ![P, Q]⟩ : Shape).Idx) (a : Fin M) (b : Fin N)
    (x : (⟨2, ![p, q]⟩ : Shape).Idx) (h0 : (y 0).val = p * a.val + (x 0).val) (h1 : (y 1).val = q * b.val + (x 1).val) :
    blocked hp hq hP hQ f y = f a b x := by
  have x0 : (x 0).val < p := (x 0).isLt
  have x1 : (x 1).val < q := (x 1).isLt
  unfold blocked
  have ea : (y 0).val / p = a.val := by rw [h0, Nat.mul_add_div hp, Nat.div_eq_of_lt x0, Nat.add_zero]
  have eb : (y 1).val / q = b.val := by rw [h1, Nat.mul_add_div hq, Nat.div_eq_of_lt x1, Nat.add_zero]
  have e0 : (y 0).val % p = (x 0).val := by rw [h0, Nat.mul_add_mod, Nat.mod_eq_of_lt x0]
  have e1 : (y 1).val % q = (x 1).val := by rw [h1, Nat.mul_add_mod, Nat.mod_eq_of_lt x1]
  have hx : x = ix2 (x 0) (x 1) := eq_ix2 x
  rw [hx]
  exact congr (congr (congrArg f (Fin.ext ea)) (Fin.ext eb)) (congr (congrArg ix2 (Fin.ext e0)) (Fin.ext e1))

/-- Writing one place of a list. -/
theorem overlay_one {n : ℕ} (off : Fin 1 → ℕ) (inb : ∀ a, off a + (![1] : Fin 1 → ℕ) a ≤ (⟨1, ![n]⟩ : Shape).size a)
    (X : (⟨1, ![n]⟩ : Shape).Idx → α) (v : α) (k : ℕ) (hk : off 0 = k) :
    (Rect.unit (s := ⟨1, ![n]⟩) off ![1] inb).overlay X (fun _ => v) = fun y => if (y 0).val = k then v else X y := by
  funext y
  split
  case isTrue h =>
    obtain ⟨x, hx⟩ := exists_idx (Rect.unit (s := ⟨1, ![n]⟩) off ![1] inb) (fun _ => rfl) y (fun a => by
      match a with | 0 => show off 0 ≤ (y 0).val ∧ (y 0).val < off 0 + 1; omega)
    exact overlay_hit _ X _ y x hx
  case isFalse h =>
    exact overlay_miss _ X _ y 0 rfl (by show (y 0).val < off 0 ∨ off 0 + 1 ≤ (y 0).val; omega)

/-- The one place of a rectangle of one element of a list. -/
theorem idx_one {n : ℕ} (off : Fin 1 → ℕ) (inb : ∀ a, off a + (![1] : Fin 1 → ℕ) a ≤ (⟨1, ![n]⟩ : Shape).size a)
    (k : Fin n) (hk : off 0 = k.val) (x : (⟨1, ![1]⟩ : Shape).Idx) :
    (Rect.unit (s := ⟨1, ![n]⟩) off ![1] inb).idx x = ValueIdx.ix1 k := by
  funext a
  match a with
  | 0 =>
    have hx : (x 0).val < 1 := (x 0).isLt
    exact Fin.ext (by show off 0 + 1 * (x 0).val = k.val; omega)

/-- Writing one row of a matrix. -/
theorem overlay_row {n q : ℕ} (off : Fin 2 → ℕ) (inb : ∀ a, off a + (![1, q] : Fin 2 → ℕ) a ≤ (⟨2, ![n, q]⟩ : Shape).size a)
    (X : (⟨2, ![n, q]⟩ : Shape).Idx → α) (w : (⟨2, ![1, q]⟩ : Shape).Idx → α) (k : ℕ) (hk : off 0 = k) (h0 : off 1 = 0) :
    (Rect.unit (s := ⟨2, ![n, q]⟩) off ![1, q] inb).overlay X w
      = fun y => if (y 0).val = k then w (ValueIdx.ix2 (0 : Fin 1) (y 1)) else X y := by
  funext y
  split
  case isTrue h =>
    refine overlay_hit (Rect.unit (s := ⟨2, ![n, q]⟩) off ![1, q] inb) X _ y (ValueIdx.ix2 (0 : Fin 1) (y 1) : (⟨2, ![1, q]⟩ : Shape).Idx) (funext fun a => Fin.ext ?_)
    match a with
    | 0 => show off 0 + 1 * 0 = (y 0).val; omega
    | 1 => show off 1 + 1 * (y 1).val = (y 1).val; omega
  case isFalse h =>
    exact overlay_miss _ X _ y 0 rfl (by show (y 0).val < off 0 ∨ off 0 + 1 ≤ (y 0).val; omega)

/-- A place of one row of a matrix. -/
theorem idx_row {n q : ℕ} (off : Fin 2 → ℕ) (inb : ∀ a, off a + (![1, q] : Fin 2 → ℕ) a ≤ (⟨2, ![n, q]⟩ : Shape).size a)
    (k : Fin n) (hk : off 0 = k.val) (h0 : off 1 = 0) (j : Fin q) :
    (Rect.unit (s := ⟨2, ![n, q]⟩) off ![1, q] inb).idx (ValueIdx.ix2 (0 : Fin 1) j) = ValueIdx.ix2 k j := by
  funext a
  match a with
  | 0 => exact Fin.ext (by show off 0 + 1 * 0 = k.val; omega)
  | 1 => exact Fin.ext (by show off 1 + 1 * j.val = j.val; omega)

/-- A reshape to the same shape changes nothing. -/
theorem recast {s : Shape} (v : s.Idx → α) (h : s.ShapeCasts s) : shapeCast s v h = v :=
  funext fun i => congrArg v (Shape.reshapeEquiv_self _ i)

end Cert.Proof
-- ==== Proof.KI.Phases.lean ====
/- What the block loops of the kernel body leave in the buffers they fill. -/
module

public import proofs.«01_k».proof.Proof.KI.Prog
public import proofs.«01_k».proof.Proof.Rules

@[expose] public section

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The recursion measure of the kernel's loop over a token list. -/
abbrev 𝒱₀ : Variants := Variants.nat

/-! ## The dequantised hidden states -/

/-- Block `(t, d)` of the dequantised hidden states. -/
def hhAt (x4 : Vec F S768x1152 .fp8e4m3) (x5 : Vec F S2x384 .f32) (t : Fin 6) (d : Fin 9) : FVec F S128x128 .bf16 :=
  hhPay (hhScale fun x => x5 ((rS t).idx x)) (fun x => x4 ((rH t d).idx x))

/-- The dequantised hidden states. -/
def hhG (x4 : Vec F S768x1152 .fp8e4m3) (x5 : Vec F S2x384 .f32) : FVec F S768x1152 .bf16 :=
  blocked (M := 6) (N := 9) (p := 128) (q := 128) (by decide) (by decide) rfl rfl (hhAt x4 x5)

theorem hhG_idx (x4 : Vec F S768x1152 .fp8e4m3) (x5 : Vec F S2x384 .f32) (t : Fin 6) (d : Fin 9) (x : S128x128.Idx) :
    hhAt x4 x5 t d x = hhG x4 x5 ((rH t d).idx x) :=
  (blocked_eq _ _ t d x (by show 128 * t.val + 1 * _ = _; omega) (by show 128 * d.val + 1 * _ = _; omega)).symm

/-- Of a 768-row array of blocks, the part filled before block `(t, d)`. -/
def Done (t d : ℕ) {P Q : ℕ} (y : (⟨2, ![P, Q]⟩ : Shape).Idx) : Prop :=
  (y 0).val < 128 * t ∨ ((y 0).val < 128 * (t + 1) ∧ (y 1).val < 128 * d)

/-- What the loop over the blocks keeps. -/
def hhInv (c : Dev nD) (arg4 : Memref sig .tc .vmem S768x1152 .fp8e4m3) (arg5 : Memref sig .tc .vmem S2x384 .f32)
    (arg11 : Memref sig .tc .vmem S768x1152 .bf16) (x4 : Vec F S768x1152 .fp8e4m3) (x5 : Vec F S2x384 .f32) (t d : ℕ) : sProp 𝕄 :=
  iprop(owns (c : Thread nD τ) arg4 fullShare x4 ∗ owns (c : Thread nD τ) arg5 fullShare x5
    ∗ ∃ Y, ⌜∀ y, Done t d y → Y y = hhG x4 x5 y⌝ ∗ owns (c : Thread nD τ) arg11 fullShare Y)

theorem hh_inner (c : Dev nD) (arg4 : Memref sig .tc .vmem S768x1152 .fp8e4m3) (arg5 : Memref sig .tc .vmem S2x384 .f32)
    (arg11 : Memref sig .tc .vmem S768x1152 .bf16) (harg11 : arg11.IsWhole) (x4 : Vec F S768x1152 .fp8e4m3) (x5 : Vec F S2x384 .f32)
    (t : Fin 6) (d : Fin 9) :
    hhInv c arg4 arg5 arg11 x4 x5 t d ⊢ wp frame (wpE (defs₀ (F := F)) 𝒱₀ (c : Thread nD τ) none) Set.univ
      (do
        let x : Vec F S128x128 .fp8e4m3 ← Prog.lift (.load arg4 (rH t d).toLoadRect (View.loadsAt_vmem h_S128x128))
        let _ : Vec F S128x128 .bf16 ← Prog.lift (.load arg11 (rH t d).toLoadRect (View.loadsAt_vmem h_S128x128))
        Prog.lift (.store arg11 (rH t d) (hhPay (hhScale fun x => x5 ((rS t).idx x)) x) Finset.univ (stH harg11 t d) (.inl rfl)) : Prog (TpuEff nD τ sig (Elt F) (Λ₀ F) .tc) PUnit)
      (fun _ => hhInv c arg4 arg5 arg11 x4 x5 t (d + 1)) := by
  unfold hhInv
  simp only [Prog.lift, Prog.bind_op, Prog.bind_ret, Prog.pure_eq_ret]
  iintro ⟨H4, H5, ⟨%Y, %hY, H11⟩⟩
  iapply (wp_load_owns 𝒱₀ (c : Thread nD τ) none Set.univ) $$ H4
  iintro H4
  iapply (wp_load_owns 𝒱₀ (c : Thread nD τ) none Set.univ) $$ H11
  iintro H11
  iapply (wp_store_owns 𝒱₀ (c : Thread nD τ) none Set.univ) $$ H11
  iintro H11
  rw [wp_ret]
  imodintro
  isplitl [H4]; · iexact H4
  isplitl [H5]; · iexact H5
  iexists _
  isplitr
  swap; · iexact H11
  ipureintro
  intro y hy
  by_cases h : Done t.val d.val y
  · exact overlay_keep _ _ (hhG x4 x5) _ (hhG_idx x4 x5 t d) y (hY y h)
  · refine overlay_new _ _ (hhG x4 x5) _ (hhG_idx x4 x5 t d) y (exists_idx _ (fun _ => rfl) y fun a => ?_)
    unfold Done at h hy
    match a with
    | 0 => show 128 * t.val ≤ (y 0).val ∧ (y 0).val < 128 * t.val + 128; omega
    | 1 => show 128 * d.val ≤ (y 1).val ∧ (y 1).val < 128 * d.val + 128; omega

/-- The hidden-state phase fills its buffer with the dequantised hidden states. -/
theorem hh_spec {α : Type} {Q : α → sProp 𝕄} (c : Dev nD) (arg4 : Memref sig .tc .vmem S768x1152 .fp8e4m3) (arg5 : Memref sig .tc .vmem S2x384 .f32)
    (arg11 : Memref sig .tc .vmem S768x1152 .bf16) (harg11 : arg11.IsWhole) (x4 : Vec F S768x1152 .fp8e4m3) (x5 : Vec F S2x384 .f32)
    (k : PUnit → Prog (TpuEff nD τ sig (Elt F) (Λ₀ F) .tc) α) :
    iprop(owns (c : Thread nD τ) arg4 fullShare x4 ∗ owns (c : Thread nD τ) arg5 fullShare x5 ∗ (∃ Y, owns (c : Thread nD τ) arg11 fullShare Y)) ⊢
      iprop((iprop(owns (c : Thread nD τ) arg4 fullShare x4 ∗ owns (c : Thread nD τ) arg5 fullShare x5 ∗ owns (c : Thread nD τ) arg11 fullShare (hhG x4 x5))
          -∗ wp frame (wpE (defs₀ (F := F)) 𝒱₀ (c : Thread nD τ) none) Set.univ (k ⟨⟩) Q)
        -∗ wp frame (wpE (defs₀ (F := F)) 𝒱₀ (c : Thread nD τ) none) Set.univ ((hhPhase arg4 arg5 arg11 harg11).bind k) Q) := by
  have loop : ∀ t : Fin 6, hhInv c arg4 arg5 arg11 x4 x5 t 0 ⊢ wp frame (wpE (defs₀ (F := F)) 𝒱₀ (c : Thread nD τ) none) Set.univ
      (do
        let s : Vec F S1x128 .f32 ← Prog.lift (.load arg5 (rS t).toLoadRect (View.loadsAt_vmem h_S1x128))
        forN 9 fun d => do
          let x : Vec F S128x128 .fp8e4m3 ← Prog.lift (.load arg4 (rH t d).toLoadRect (View.loadsAt_vmem h_S128x128))
          let _ : Vec F S128x128 .bf16 ← Prog.lift (.load arg11 (rH t d).toLoadRect (View.loadsAt_vmem h_S128x128))
          Prog.lift (.store arg11 (rH t d) (hhPay (hhScale s) x) Finset.univ (stH harg11 t d) (.inl rfl)) : Prog (TpuEff nD τ sig (Elt F) (Λ₀ F) .tc) PUnit)
      (fun _ => hhInv c arg4 arg5 arg11 x4 x5 (t + 1) 0) := by
    intro t
    have inner := fun (Q' : PUnit → sProp 𝕄) hQ => wp_forN_tail 𝒱₀ (c : Thread nD τ) none (defs := defs₀ (F := F)) Set.univ (fun d => hhInv c arg4 arg5 arg11 x4 x5 t d) 9 _
      (Q := Q') (hh_inner c arg4 arg5 arg11 harg11 x4 x5 t) hQ
    have inner := inner (fun _ => hhInv c arg4 arg5 arg11 x4 x5 (t + 1) 0) (by
      unfold hhInv
      iintro ⟨H4, H5, ⟨%Y, %hY, H11⟩⟩
      isplitl [H4]; · iexact H4
      isplitl [H5]; · iexact H5
      iexists _
      isplitr
      swap; · iexact H11
      ipureintro
      intro y hy
      refine hY y ?_
      have h1 : (y 1).val < 1152 := (y 1).isLt
      unfold Done at hy ⊢
      omega)
    simp only [Prog.lift, Prog.bind_op, Prog.bind_ret, Prog.pure_eq_ret] at inner ⊢
    rw [show hhInv c arg4 arg5 arg11 x4 x5 t 0 = iprop(owns (c : Thread nD τ) arg4 fullShare x4 ∗ owns (c : Thread nD τ) arg5 fullShare x5
      ∗ ∃ Y, ⌜∀ y, Done t 0 y → Y y = hhG x4 x5 y⌝ ∗ owns (c : Thread nD τ) arg11 fullShare Y) from rfl]
    iintro ⟨H4, H5, H⟩
    iapply (wp_load_owns 𝒱₀ (c : Thread nD τ) none Set.univ) $$ H5
    iintro H5
    iapply inner
    unfold hhInv
    isplitl [H4]; · iexact H4
    isplitl [H5]; · iexact H5
    iexact H
  unfold hhPhase
  iintro ⟨H4, H5, ⟨%Y, H11⟩⟩ Hk
  iapply (wp_forN_bind 𝒱₀ (c : Thread nD τ) none Set.univ (fun t => hhInv c arg4 arg5 arg11 x4 x5 t 0) 6 _ loop) $$ [H4 H5 H11]
  · unfold hhInv
    isplitl [H4]; · iexact H4
    isplitl [H5]; · iexact H5
    iexists Y
    isplitr
    swap; · iexact H11
    ipureintro
    intro y hy
    unfold Done at hy
    omega
  unfold hhInv
  iintro ⟨H4, H5, ⟨%Y', %hY, H11⟩⟩
  iapply Hk
  obtain rfl : Y' = hhG x4 x5 := funext fun y => hY y (.inl (y 0).isLt)
  isplitl [H4]; · iexact H4
  isplitl [H5]; · iexact H5
  iexact H11

/-! ## The dequantised logit gradients -/

/-- Block `(v, t)` of the transposed dequantised logit gradients. -/
def dltAt (x2 : Vec F S768x768 .fp8e5m2) (x3 : Vec F S6x2x384 .f32) (v t : Fin 6) : FVec F S128x128 .bf16 :=
  dltPay (fun x => x2 ((rD t v).idx x)) (fun x => x3 ((rT v t).idx x))

/-- The dequantised logit gradients, vocabulary by tokens. -/
def dltG (x2 : Vec F S768x768 .fp8e5m2) (x3 : Vec F S6x2x384 .f32) : FVec F S768x768 .bf16 :=
  blocked (M := 6) (N := 6) (p := 128) (q := 128) (by decide) (by decide) rfl rfl (dltAt x2 x3)

theorem dltG_idx (x2 : Vec F S768x768 .fp8e5m2) (x3 : Vec F S6x2x384 .f32) (v t : Fin 6) (x : S128x128.Idx) :
    dltAt x2 x3 v t x = dltG x2 x3 ((rD v t).idx x) :=
  (blocked_eq _ _ v t x (by show 128 * v.val + 1 * _ = _; omega) (by show 128 * t.val + 1 * _ = _; omega)).symm

/-- What the loop over the blocks keeps. -/
def dltInv (c : Dev nD) (arg2 : Memref sig .tc .vmem S768x768 .fp8e5m2) (arg3 : Memref sig .tc .vmem S6x2x384 .f32)
    (arg13 : Memref sig .tc .vmem S768x768 .bf16) (x2 : Vec F S768x768 .fp8e5m2) (x3 : Vec F S6x2x384 .f32) (v t : ℕ) : sProp 𝕄 :=
  iprop(owns (c : Thread nD τ) arg2 fullShare x2 ∗ owns (c : Thread nD τ) arg3 fullShare x3
    ∗ ∃ Y, ⌜∀ y, Done v t y → Y y = dltG x2 x3 y⌝ ∗ owns (c : Thread nD τ) arg13 fullShare Y)

/-- The logit-gradient phase fills its buffer with the dequantised logit gradients. -/
theorem dlt_spec {α : Type} {Q : α → sProp 𝕄} (c : Dev nD) (arg2 : Memref sig .tc .vmem S768x768 .fp8e5m2) (arg3 : Memref sig .tc .vmem S6x2x384 .f32)
    (arg13 : Memref sig .tc .vmem S768x768 .bf16) (harg13 : arg13.IsWhole) (x2 : Vec F S768x768 .fp8e5m2) (x3 : Vec F S6x2x384 .f32)
    (k : PUnit → Prog (TpuEff nD τ sig (Elt F) (Λ₀ F) .tc) α) :
    iprop(owns (c : Thread nD τ) arg2 fullShare x2 ∗ owns (c : Thread nD τ) arg3 fullShare x3 ∗ (∃ Y, owns (c : Thread nD τ) arg13 fullShare Y)) ⊢
      iprop((iprop(owns (c : Thread nD τ) arg2 fullShare x2 ∗ owns (c : Thread nD τ) arg3 fullShare x3 ∗ owns (c : Thread nD τ) arg13 fullShare (dltG x2 x3))
          -∗ wp frame (wpE (defs₀ (F := F)) 𝒱₀ (c : Thread nD τ) none) Set.univ (k ⟨⟩) Q)
        -∗ wp frame (wpE (defs₀ (F := F)) 𝒱₀ (c : Thread nD τ) none) Set.univ ((dltPhase arg2 arg3 arg13 harg13).bind k) Q) := by
  have inner : ∀ v t : Fin 6, dltInv c arg2 arg3 arg13 x2 x3 v t ⊢ wp frame (wpE (defs₀ (F := F)) 𝒱₀ (c : Thread nD τ) none) Set.univ
      (do
        let x : Vec F S128x128 .fp8e5m2 ← Prog.lift (.load arg2 (rD t v).toLoadRect (View.loadsAt_vmem h_S128x128))
        let s : Vec F S1x1x128 .f32 ← Prog.lift (.load arg3 (rT v t).toLoadRect (View.loadsAt_vmem h_S1x1x128))
        let _ : Vec F S128x128 .bf16 ← Prog.lift (.load arg13 (rD v t).toLoadRect (View.loadsAt_vmem h_S128x128))
        Prog.lift (.store arg13 (rD v t) (dltPay x s) Finset.univ (stD harg13 v t) (.inl rfl)) : Prog (TpuEff nD τ sig (Elt F) (Λ₀ F) .tc) PUnit)
      (fun _ => dltInv c arg2 arg3 arg13 x2 x3 v (t + 1)) := by
    intro v t
    unfold dltInv
    simp only [Prog.lift, Prog.bind_op, Prog.bind_ret, Prog.pure_eq_ret]
    iintro ⟨H2, H3, ⟨%Y, %hY, H13⟩⟩
    iapply (wp_load_owns 𝒱₀ (c : Thread nD τ) none Set.univ) $$ H2
    iintro H2
    iapply (wp_load_owns 𝒱₀ (c : Thread nD τ) none Set.univ) $$ H3
    iintro H3
    iapply (wp_load_owns 𝒱₀ (c : Thread nD τ) none Set.univ) $$ H13
    iintro H13
    iapply (wp_store_owns 𝒱₀ (c : Thread nD τ) none Set.univ) $$ H13
    iintro H13
    rw [wp_ret]
    imodintro
    isplitl [H2]; · iexact H2
    isplitl [H3]; · iexact H3
    iexists _
    isplitr
    swap; · iexact H13
    ipureintro
    intro y hy
    by_cases h : Done v.val t.val y
    · exact overlay_keep _ _ (dltG x2 x3) _ (dltG_idx x2 x3 v t) y (hY y h)
    · refine overlay_new _ _ (dltG x2 x3) _ (dltG_idx x2 x3 v t) y (exists_idx _ (fun _ => rfl) y fun a => ?_)
      unfold Done at h hy
      match a with
      | 0 => show 128 * v.val ≤ (y 0).val ∧ (y 0).val < 128 * v.val + 128; omega
      | 1 => show 128 * t.val ≤ (y 1).val ∧ (y 1).val < 128 * t.val + 128; omega
  have loop := fun v : Fin 6 => wp_forN_tail 𝒱₀ (c : Thread nD τ) none (defs := defs₀ (F := F)) Set.univ
    (fun t => dltInv c arg2 arg3 arg13 x2 x3 v t) 6 _ (Q := fun _ => dltInv c arg2 arg3 arg13 x2 x3 (v + 1) 0) (inner v) (by
      unfold dltInv
      iintro ⟨H2, H3, ⟨%Y, %hY, H13⟩⟩
      isplitl [H2]; · iexact H2
      isplitl [H3]; · iexact H3
      iexists _
      isplitr
      swap; · iexact H13
      ipureintro
      intro y hy
      refine hY y ?_
      have h1 : (y 1).val < 768 := (y 1).isLt
      unfold Done at hy ⊢
      omega)
  unfold dltPhase
  iintro ⟨H2, H3, ⟨%Y, H13⟩⟩ Hk
  iapply (wp_forN_bind 𝒱₀ (c : Thread nD τ) none Set.univ (fun v => dltInv c arg2 arg3 arg13 x2 x3 v 0) 6 _ loop) $$ [H2 H3 H13]
  · unfold dltInv
    isplitl [H2]; · iexact H2
    isplitl [H3]; · iexact H3
    iexists Y
    isplitr
    swap; · iexact H13
    ipureintro
    intro y hy
    unfold Done at hy
    omega
  unfold dltInv
  iintro ⟨H2, H3, ⟨%Y', %hY, H13⟩⟩
  iapply Hk
  obtain rfl : Y' = dltG x2 x3 := funext fun y => hY y (.inl (y 0).isLt)
  isplitl [H2]; · iexact H2
  isplitl [H3]; · iexact H3
  iexact H13

/-! ## The dequantised weights -/

/-- Sixteen rows of dequantised weights: nibble `k` of the halfwords of the byte rows of group pair `q`. -/
def etsQ (r : Vec F S36x768 .f32) (x6 : Vec F S576x768 .i8) (q : Fin 18) (c : Fin 6) (k : ℕ) : FVec F S16x128 .bf16 :=
  etsPay (etsScale (fun x => r ((rG ⟨2 * q.val, by omega⟩ c).idx x)) (fun x => r ((rG ⟨2 * q.val + 1, by omega⟩ c).idx x)))
    (etsWord fun x => x6 ((rB q c).idx x)) k

/-- The same by row block. -/
def etsAt (r : Vec F S36x768 .f32) (x6 : Vec F S576x768 .i8) (a : Fin 72) (c : Fin 6) : FVec F S16x128 .bf16 :=
  etsQ r x6 ⟨a.val / 4, by omega⟩ c (a.val % 4)

/-- The dequantised weights, in the row order the kernel keeps them in, by vocabulary. -/
def etsG (r : Vec F S36x768 .f32) (x6 : Vec F S576x768 .i8) : FVec F S1152x768 .bf16 :=
  blocked (M := 72) (N := 6) (p := 16) (q := 128) (by decide) (by decide) rfl rfl (etsAt r x6)

theorem etsG_idx (r : Vec F S36x768 .f32) (x6 : Vec F S576x768 .i8) (q : Fin 18) (c : Fin 6) (k : Fin 4) (x : S16x128.Idx) :
    etsQ r x6 q c k.val x = etsG r x6 ((rE q c k).idx x) := by
  have h := blocked_eq (M := 72) (N := 6) (p := 16) (q := 128) (hp := by decide) (hq := by decide) (hP := rfl) (hQ := rfl)
    (etsAt r x6) ((rE q c k).idx x) ⟨4 * q.val + k.val, by omega⟩ c x
    (by show 64 * q.val + 16 * k.val + 1 * _ = 16 * (4 * q.val + k.val) + _; omega) (by show 128 * c.val + 1 * _ = _; omega)
  have e1 : (⟨(4 * q.val + k.val) / 4, by omega⟩ : Fin 18) = q := Fin.ext (by show (4 * q.val + k.val) / 4 = q.val; omega)
  have e2 : (4 * q.val + k.val) % 4 = k.val := by omega
  refine Eq.trans ?_ h.symm
  show _ = etsQ r x6 ⟨(4 * q.val + k.val) / 4, _⟩ c ((4 * q.val + k.val) % 4) x
  rw [e1, e2]

/-- Of the weight buffer, the part filled before row block `k` of group pair `q` in block column `c`. -/
def DoneE (q c k : ℕ) (y : S1152x768.Idx) : Prop :=
  (y 0).val < 64 * q ∨ ((y 0).val < 64 * (q + 1) ∧ ((y 1).val < 128 * c ∨ ((y 1).val < 128 * (c + 1) ∧ (y 0).val < 64 * q + 16 * k)))

/-- What the loop over the blocks keeps. -/
def etsInv (d : Dev nD) (arg6 : Memref sig .tc .vmem S576x768 .i8) (arg14 : Memref sig .tc .vmem S1152x768 .bf16)
    (arg15 : Memref sig .tc .vmem S36x768 .f32) (x6 : Vec F S576x768 .i8) (r : Vec F S36x768 .f32) (q c k : ℕ) : sProp 𝕄 :=
  iprop(owns (d : Thread nD τ) arg6 fullShare x6 ∗ owns (d : Thread nD τ) arg15 fullShare r
    ∗ ∃ Y, ⌜∀ y, DoneE q c k y → Y y = etsG r x6 y⌝ ∗ owns (d : Thread nD τ) arg14 fullShare Y)

/-- More of the buffer filled is enough. -/
theorem etsInv_mono (d : Dev nD) (arg6 : Memref sig .tc .vmem S576x768 .i8) (arg14 : Memref sig .tc .vmem S1152x768 .bf16)
    (arg15 : Memref sig .tc .vmem S36x768 .f32) (x6 : Vec F S576x768 .i8) (r : Vec F S36x768 .f32) (q c k q' c' k' : ℕ)
    (h : ∀ y, DoneE q' c' k' y → DoneE q c k y) :
    etsInv d arg6 arg14 arg15 x6 r q c k ⊢ etsInv d arg6 arg14 arg15 x6 r q' c' k' := by
  unfold etsInv
  iintro ⟨H6, H15, ⟨%Y, %hY, H14⟩⟩
  isplitl [H6]; · iexact H6
  isplitl [H15]; · iexact H15
  iexists _
  isplitr
  swap; · iexact H14
  ipureintro
  exact fun y hy => hY y (h y hy)

/-- The weight phase fills its buffer with the dequantised weights. -/
theorem ets_spec {α : Type} {Q : α → sProp 𝕄} (d : Dev nD) (arg6 : Memref sig .tc .vmem S576x768 .i8) (arg14 : Memref sig .tc .vmem S1152x768 .bf16)
    (harg14 : arg14.IsWhole) (arg15 : Memref sig .tc .vmem S36x768 .f32) (x6 : Vec F S576x768 .i8) (r : Vec F S36x768 .f32)
    (k : PUnit → Prog (TpuEff nD τ sig (Elt F) (Λ₀ F) .tc) α) :
    iprop(owns (d : Thread nD τ) arg6 fullShare x6 ∗ owns (d : Thread nD τ) arg15 fullShare r ∗ (∃ Y, owns (d : Thread nD τ) arg14 fullShare Y)) ⊢
      iprop((iprop(owns (d : Thread nD τ) arg6 fullShare x6 ∗ owns (d : Thread nD τ) arg15 fullShare r ∗ owns (d : Thread nD τ) arg14 fullShare (etsG r x6))
          -∗ wp frame (wpE (defs₀ (F := F)) 𝒱₀ (d : Thread nD τ) none) Set.univ (k ⟨⟩) Q)
        -∗ wp frame (wpE (defs₀ (F := F)) 𝒱₀ (d : Thread nD τ) none) Set.univ ((etsPhase arg6 arg14 harg14 arg15).bind k) Q) := by
  have inner : ∀ (q : Fin 18) (c : Fin 6) (k : Fin 4), etsInv d arg6 arg14 arg15 x6 r q c k ⊢ wp frame (wpE (defs₀ (F := F)) 𝒱₀ (d : Thread nD τ) none) Set.univ
      (do
        let _ : Vec F S16x128 .bf16 ← Prog.lift (.load arg14 (rE q c k).toLoadRect (View.loadsAt_vmem h_S16x128))
        Prog.lift (.store arg14 (rE q c k) (etsQ r x6 q c k.val) Finset.univ (stE harg14 q c k) (.inl rfl)) : Prog (TpuEff nD τ sig (Elt F) (Λ₀ F) .tc) PUnit)
      (fun _ => etsInv d arg6 arg14 arg15 x6 r q c (k + 1)) := by
    intro q c k
    unfold etsInv
    simp only [Prog.lift, Prog.bind_op, Prog.bind_ret, Prog.pure_eq_ret]
    iintro ⟨H6, H15, ⟨%Y, %hY, H14⟩⟩
    iapply (wp_load_owns 𝒱₀ (d : Thread nD τ) none Set.univ) $$ H14
    iintro H14
    iapply (wp_store_owns 𝒱₀ (d : Thread nD τ) none Set.univ) $$ H14
    iintro H14
    rw [wp_ret]
    imodintro
    isplitl [H6]; · iexact H6
    isplitl [H15]; · iexact H15
    iexists _
    isplitr
    swap; · iexact H14
    ipureintro
    intro y hy
    by_cases h : DoneE q.val c.val k.val y
    · exact overlay_keep _ _ (etsG r x6) _ (etsG_idx r x6 q c k) y (hY y h)
    · refine overlay_new _ _ (etsG r x6) _ (etsG_idx r x6 q c k) y (exists_idx _ (fun _ => rfl) y fun a => ?_)
      unfold DoneE at h hy
      match a with
      | 0 => show 64 * q.val + 16 * k.val ≤ (y 0).val ∧ (y 0).val < 64 * q.val + 16 * k.val + 16; omega
      | 1 => show 128 * c.val ≤ (y 1).val ∧ (y 1).val < 128 * c.val + 128; omega
  have mid : ∀ (q : Fin 18) (c : Fin 6), etsInv d arg6 arg14 arg15 x6 r q c 0 ⊢ wp frame (wpE (defs₀ (F := F)) 𝒱₀ (d : Thread nD τ) none) Set.univ
      (do
        let a : Vec F S1x128 .f32 ← Prog.lift (.load arg15 (rG ⟨2 * q.val, by omega⟩ c).toLoadRect (View.loadsAt_vmem h_S1x128))
        let b : Vec F S1x128 .f32 ← Prog.lift (.load arg15 (rG ⟨2 * q.val + 1, by omega⟩ c).toLoadRect (View.loadsAt_vmem h_S1x128))
        let x : Vec F S32x128 .i8 ← Prog.lift (.load arg6 (rB q c).toLoadRect (View.loadsAt_vmem h_S32x128))
        forN 4 fun k => do
          let _ : Vec F S16x128 .bf16 ← Prog.lift (.load arg14 (rE q c k).toLoadRect (View.loadsAt_vmem h_S16x128))
          Prog.lift (.store arg14 (rE q c k) (etsPay (etsScale a b) (etsWord x) k.val) Finset.univ (stE harg14 q c k) (.inl rfl)) : Prog (TpuEff nD τ sig (Elt F) (Λ₀ F) .tc) PUnit)
      (fun _ => etsInv d arg6 arg14 arg15 x6 r q (c + 1) 0) := by
    intro q c
    have inner := wp_forN_tail 𝒱₀ (d : Thread nD τ) none (defs := defs₀ (F := F)) Set.univ
      (fun k => etsInv d arg6 arg14 arg15 x6 r q c k) 4 _ (Q := fun _ => etsInv d arg6 arg14 arg15 x6 r q (c + 1) 0) (inner q c)
      (etsInv_mono d arg6 arg14 arg15 x6 r _ _ _ _ _ _ fun y hy => by unfold DoneE at hy ⊢; omega)
    simp only [Prog.lift, Prog.bind_op, Prog.bind_ret, Prog.pure_eq_ret] at inner ⊢
    rw [show etsInv d arg6 arg14 arg15 x6 r q c 0 = iprop(owns (d : Thread nD τ) arg6 fullShare x6 ∗ owns (d : Thread nD τ) arg15 fullShare r
      ∗ ∃ Y, ⌜∀ y, DoneE q c 0 y → Y y = etsG r x6 y⌝ ∗ owns (d : Thread nD τ) arg14 fullShare Y) from rfl]
    iintro ⟨H6, H15, H⟩
    iapply (wp_load_owns 𝒱₀ (d : Thread nD τ) none Set.univ) $$ H15
    iintro H15
    iapply (wp_load_owns 𝒱₀ (d : Thread nD τ) none Set.univ) $$ H15
    iintro H15
    iapply (wp_load_owns 𝒱₀ (d : Thread nD τ) none Set.univ) $$ H6
    iintro H6
    iapply inner
    unfold etsInv
    isplitl [H6]; · iexact H6
    isplitl [H15]; · iexact H15
    iexact H
  have loop := fun q : Fin 18 => wp_forN_tail 𝒱₀ (d : Thread nD τ) none (defs := defs₀ (F := F)) Set.univ
    (fun c => etsInv d arg6 arg14 arg15 x6 r q c 0) 6 _ (Q := fun _ => etsInv d arg6 arg14 arg15 x6 r (q + 1) 0 0) (mid q)
    (etsInv_mono d arg6 arg14 arg15 x6 r _ _ _ _ _ _ fun y hy => by
      have h1 : (y 1).val < 768 := (y 1).isLt
      unfold DoneE at hy ⊢; omega)
  unfold etsPhase
  iintro ⟨H6, H15, ⟨%Y, H14⟩⟩ Hk
  iapply (wp_forN_bind 𝒱₀ (d : Thread nD τ) none Set.univ (fun q => etsInv d arg6 arg14 arg15 x6 r q 0 0) 18 _ loop) $$ [H6 H15 H14]
  · unfold etsInv
    isplitl [H6]; · iexact H6
    isplitl [H15]; · iexact H15
    iexists Y
    isplitr
    swap; · iexact H14
    ipureintro
    intro y hy
    unfold DoneE at hy
    omega
  unfold etsInv
  iintro ⟨H6, H15, ⟨%Y', %hY, H14⟩⟩
  iapply Hk
  obtain rfl : Y' = etsG r x6 := funext fun y => hY y (.inl (y 0).isLt)
  isplitl [H6]; · iexact H6
  isplitl [H15]; · iexact H15
  iexact H14

/-! ## The hidden-state gradient written out -/

/-- Block `(t, d)` of the second result. -/
def dhAt (x16 : Vec F S1152x768 .f32) (t : Fin 6) (d : Fin 9) : FVec F S128x128 .bf16 :=
  dhPay fun x => x16 ((rA d t).idx x)

/-- The second result from the accumulated products. -/
def dhG (x16 : Vec F S1152x768 .f32) : FVec F S768x1152 .bf16 :=
  blocked (M := 6) (N := 9) (p := 128) (q := 128) (by decide) (by decide) rfl rfl (dhAt x16)

theorem dhG_idx (x16 : Vec F S1152x768 .f32) (t : Fin 6) (d : Fin 9) (x : S128x128.Idx) :
    dhAt x16 t d x = dhG x16 ((rH t d).idx x) :=
  (blocked_eq _ _ t d x (by show 128 * t.val + 1 * _ = _; omega) (by show 128 * d.val + 1 * _ = _; omega)).symm

/-- What the loop over the blocks keeps. -/
def finInv (c : Dev nD) (arg10 : Memref sig .tc .vmem S768x1152 .bf16) (arg16 : Memref sig .tc .vmem S1152x768 .f32)
    (x16 : Vec F S1152x768 .f32) (t d : ℕ) : sProp 𝕄 :=
  iprop(owns (c : Thread nD τ) arg16 fullShare x16 ∗ ∃ Y, ⌜∀ y, Done t d y → Y y = dhG x16 y⌝ ∗ owns (c : Thread nD τ) arg10 fullShare Y)

/-- The last phase fills its buffer with the second result. -/
theorem fin_spec {α : Type} {Q : α → sProp 𝕄} (c : Dev nD) (arg10 : Memref sig .tc .vmem S768x1152 .bf16) (harg10 : arg10.IsWhole)
    (arg16 : Memref sig .tc .vmem S1152x768 .f32) (x16 : Vec F S1152x768 .f32)
    (k : PUnit → Prog (TpuEff nD τ sig (Elt F) (Λ₀ F) .tc) α) :
    iprop(owns (c : Thread nD τ) arg16 fullShare x16 ∗ (∃ Y, owns (c : Thread nD τ) arg10 fullShare Y)) ⊢
      iprop((iprop(owns (c : Thread nD τ) arg16 fullShare x16 ∗ owns (c : Thread nD τ) arg10 fullShare (dhG x16))
          -∗ wp frame (wpE (defs₀ (F := F)) 𝒱₀ (c : Thread nD τ) none) Set.univ (k ⟨⟩) Q)
        -∗ wp frame (wpE (defs₀ (F := F)) 𝒱₀ (c : Thread nD τ) none) Set.univ ((finPhase arg10 harg10 arg16).bind k) Q) := by
  have inner : ∀ (t : Fin 6) (d : Fin 9), finInv c arg10 arg16 x16 t d ⊢ wp frame (wpE (defs₀ (F := F)) 𝒱₀ (c : Thread nD τ) none) Set.univ
      (do
        let x : Vec F S128x128 .f32 ← Prog.lift (.load arg16 (rA d t).toLoadRect (View.loadsAt_vmem h_S128x128))
        let _ : Vec F S128x128 .bf16 ← Prog.lift (.load arg10 (rH t d).toLoadRect (View.loadsAt_vmem h_S128x128))
        Prog.lift (.store arg10 (rH t d) (dhPay x) Finset.univ (stH harg10 t d) (.inl rfl)) : Prog (TpuEff nD τ sig (Elt F) (Λ₀ F) .tc) PUnit)
      (fun _ => finInv c arg10 arg16 x16 t (d + 1)) := by
    intro t d
    unfold finInv
    simp only [Prog.lift, Prog.bind_op, Prog.bind_ret, Prog.pure_eq_ret]
    iintro ⟨H16, ⟨%Y, %hY, H10⟩⟩
    iapply (wp_load_owns 𝒱₀ (c : Thread nD τ) none Set.univ) $$ H16
    iintro H16
    iapply (wp_load_owns 𝒱₀ (c : Thread nD τ) none Set.univ) $$ H10
    iintro H10
    iapply (wp_store_owns 𝒱₀ (c : Thread nD τ) none Set.univ) $$ H10
    iintro H10
    rw [wp_ret]
    imodintro
    isplitl [H16]; · iexact H16
    iexists _
    isplitr
    swap; · iexact H10
    ipureintro
    intro y hy
    by_cases h : Done t.val d.val y
    · exact overlay_keep _ _ (dhG x16) _ (dhG_idx x16 t d) y (hY y h)
    · refine overlay_new _ _ (dhG x16) _ (dhG_idx x16 t d) y (exists_idx _ (fun _ => rfl) y fun a => ?_)
      unfold Done at h hy
      match a with
      | 0 => show 128 * t.val ≤ (y 0).val ∧ (y 0).val < 128 * t.val + 128; omega
      | 1 => show 128 * d.val ≤ (y 1).val ∧ (y 1).val < 128 * d.val + 128; omega
  have loop := fun t : Fin 6 => wp_forN_tail 𝒱₀ (c : Thread nD τ) none (defs := defs₀ (F := F)) Set.univ
    (fun d => finInv c arg10 arg16 x16 t d) 9 _ (Q := fun _ => finInv c arg10 arg16 x16 (t + 1) 0) (inner t) (by
      unfold finInv
      iintro ⟨H16, ⟨%Y, %hY, H10⟩⟩
      isplitl [H16]; · iexact H16
      iexists _
      isplitr
      swap; · iexact H10
      ipureintro
      intro y hy
      refine hY y ?_
      have h1 : (y 1).val < 1152 := (y 1).isLt
      unfold Done at hy ⊢
      omega)
  unfold finPhase
  iintro ⟨H16, ⟨%Y, H10⟩⟩ Hk
  iapply (wp_forN_bind 𝒱₀ (c : Thread nD τ) none Set.univ (fun t => finInv c arg10 arg16 x16 t 0) 6 _ loop) $$ [H16 H10]
  · unfold finInv
    isplitl [H16]; · iexact H16
    iexists Y
    isplitr
    swap; · iexact H10
    ipureintro
    intro y hy
    unfold Done at hy
    omega
  unfold finInv
  iintro ⟨H16, ⟨%Y', %hY, H10⟩⟩
  iapply Hk
  obtain rfl : Y' = dhG x16 := funext fun y => hY y (.inl (y 0).isLt)
  isplitl [H16]; · iexact H16
  iexact H10

end Cert.Proof.KI
-- ==== Proof.KI.Lists.lean ====
/- The lists of tokens by vocabulary block that the kernel builds at its first grid point and walks at every one. -/
module

public import proofs.«01_k».proof.Proof.KI.Phases
public import Idealize.ShloMosaic.Lib.Routing.Words

@[expose] public section

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open sWPT (consume produce)

variable {F : FTy → Type} [FloatOps F]

local notation "𝕄" => MT nD τ sig Unit (Elt F) ℕ (UR sig nD τ) ℕ

/-! ## The lists -/

/-- The vocabulary word of token `k`. -/
def idN (ids : S768.Idx → BitVec 32) (k : ℕ) : ℕ := (ids (ix1 (⟨k % 768, Nat.mod_lt _ (by decide)⟩ : Fin 768))).toNat

/-- Its vocabulary block. -/
def blk (ids : S768.Idx → BitVec 32) (k : ℕ) : ℕ := idN ids k / 768

/-- The last token before token `n` in vocabulary block `b`, or minus one. -/
def lastB (ids : S768.Idx → BitVec 32) (b : ℕ) : ℕ → BitVec 32
  | 0 => 4294967295#32
  | k + 1 => if blk ids k = b then BitVec.ofNat 32 k else lastB ids b k

/-- The heads of the lists of the tokens before token `n`. -/
def headG (ids : S768.Idx → BitVec 32) (n : ℕ) : S167.Idx → BitVec 32 := fun y => lastB ids (y 0).val n

/-- The token after each token in its list. -/
def nextG (ids : S768.Idx → BitVec 32) : S768.Idx → BitVec 32 := fun y => lastB ids (blk ids (y 0).val) (y 0).val

/-- Every token is a word of the vocabulary. -/
def InVocab (ids : S768.Idx → BitVec 32) : Prop := ∀ t, (ids t).toNat < 128256

theorem idN_lt {ids : S768.Idx → BitVec 32} (h : InVocab ids) (k : ℕ) : idN ids k < 128256 := h _

theorem blk_lt {ids : S768.Idx → BitVec 32} (h : InVocab ids) (k : ℕ) : blk ids k < 167 := by
  have := idN_lt h k
  unfold blk
  omega

theorem ids_eq (ids : S768.Idx → BitVec 32) (k : Fin 768) : ids (ix1 k) = BitVec.ofNat 32 (idN ids k) := by
  unfold idN
  rw [BitVec.ofNat_toNat, BitVec.setWidth_eq]
  exact congrArg ids (congrArg ix1 (Fin.ext (Nat.mod_eq_of_lt k.isLt).symm))

theorem toNat_word {k : ℕ} (h : k < 4294967296) : (Scalar.indexCast (BitVec.ofNat 32 k)).toNat = k := by
  show (BitVec.ofNat 32 k).toNat = k
  rw [BitVec.toNat_ofNat]
  omega

theorem trips1 : k0_t1_loop.trips = 167 := by decide
theorem trips2 : k0_t2_loop.trips = 768 := by decide

/-- Where a token's list head is kept. -/
theorem off3_eq {v : ℕ} (h : v < 128256) : k0_off3 (BitVec.ofNat 32 v) 0 = v / 768 := by
  show (Scalar.indexCast (IntOp.divsi _ (BitVec.ofNat 32 v) (BitVec.ofNat 32 768))).toNat = v / 768
  rw [Routing.divsi_word _ (by omega) (by omega) (by omega)]
  exact toNat_word (by omega)

theorem chk1 (i : grid0.Coords) {v : ℕ} (h : v < 128256) : k0_chk1 i (BitVec.ofNat 32 v) := by
  intro _ a
  match a with
  | 0 =>
    rw [off3_eq h]
    show v / 768 + 1 ≤ 167
    omega

/-! ## Building the lists -/

/-- The first loop empties every list. -/
theorem head_spec {α : Type} {Q : α → sProp 𝕄} (c : Dev nD) (i : grid0.Coords) (k0_h1 : k0_cond1 i = 1#1)
    (arg17 : Memref sig .tc .smem S167 .i32) (ids : S768.Idx → BitVec 32)
    (k : PUnit → Prog (TpuEff nD τ sig (Elt F) (Λ₀ F) .tc) α) :
    iprop(∃ Y, owns (c : Thread nD τ) arg17 fullShare Y) ⊢
      iprop((iprop(owns (c : Thread nD τ) arg17 fullShare (headG ids 0 : S167.Idx → BitVec 32))
          -∗ wp frame (wpE (defs₀ (F := F)) 𝒱₀ (c : Thread nD τ) none) Set.univ (k ⟨⟩) Q)
        -∗ wp frame (wpE (defs₀ (F := F)) 𝒱₀ (c : Thread nD τ) none) Set.univ ((headLoop i k0_h1 arg17).bind k) Q) := by
  iintro ⟨%Y, H17⟩ Hk
  unfold headLoop
  iapply (Scf.wp_for_bind frame (wpE (defs₀ (F := F)) 𝒱₀ (c : Thread nD τ) none) Set.univ k0_t1_loop.lb k0_t1_loop.ub k0_t1_loop.st _ _ _
    (fun n _ => iprop(∃ Y : S167.Idx → BitVec 32, ⌜∀ y, (y 0).val < n → Y y = 4294967295#32⌝ ∗ owns (c : Thread nD τ) arg17 fullShare Y)) ?_) $$ [H17]
  · intro j _
    simp only [Prog.lift, Prog.bind_op, Prog.bind_ret, Prog.pure_eq_ret]
    iintro ⟨%Y, %hY, H17⟩
    have hj : j.val < 167 := lt_of_lt_of_eq j.isLt trips1
    iapply (wp_smemLoad_owns 𝒱₀ (c : Thread nD τ) none Set.univ _ rfl) $$ H17
    iintro H17
    iapply (wp_store_owns 𝒱₀ (c : Thread nD τ) none Set.univ) $$ H17
    iintro H17
    rw [wp_ret]
    imodintro
    iexists _
    isplitr
    swap; · iexact H17
    ipureintro
    intro y hy
    refine (congrFun (overlay_one _ _ _ _ j.val (congrFun (k0_off1_eq j) 0)) y).trans ?_
    by_cases h : (y 0).val = j.val
    · rw [if_pos h]
    · rw [if_neg h]
      exact hY y (by omega)
  · iexists Y
    isplitr
    swap; · iexact H17
    ipureintro
    intro y hy
    omega
  iintro %_ ⟨%Y', %hY, H17⟩
  iapply Hk
  obtain rfl : Y' = headG ids 0 := funext fun y => hY y (by rw [show Scf.trips k0_t1_loop.lb k0_t1_loop.ub k0_t1_loop.st = 167 from trips1]; exact (y 0).isLt)
  iexact H17

/-- The second loop puts every token in front of the list of its block. -/
theorem link_spec {α : Type} {Q : α → sProp 𝕄} (c : Dev nD) (i : grid0.Coords) (k0_h1 : k0_cond1 i = 1#1)
    (arg1 : Memref sig .tc .smem S768 .i32) (arg17 : Memref sig .tc .smem S167 .i32) (arg18 : Memref sig .tc .smem S768 .i32)
    (q : PosShare TreeShare) (ids : S768.Idx → BitVec 32) (hids : InVocab ids)
    (k : PUnit → Prog (TpuEff nD τ sig (Elt F) (Λ₀ F) .tc) α) :
    iprop(owns (c : Thread nD τ) arg1 q ids ∗ owns (c : Thread nD τ) arg17 fullShare (headG ids 0 : S167.Idx → BitVec 32) ∗ ∃ Y, owns (c : Thread nD τ) arg18 fullShare Y) ⊢
      iprop((iprop(owns (c : Thread nD τ) arg1 q ids ∗ owns (c : Thread nD τ) arg17 fullShare (headG ids 768 : S167.Idx → BitVec 32)
            ∗ owns (c : Thread nD τ) arg18 fullShare (nextG ids : S768.Idx → BitVec 32))
          -∗ wp frame (wpE (defs₀ (F := F)) 𝒱₀ (c : Thread nD τ) none) Set.univ (k ⟨⟩) Q)
        -∗ wp frame (wpE (defs₀ (F := F)) 𝒱₀ (c : Thread nD τ) none) Set.univ ((linkLoop i k0_h1 arg1 arg17 arg18).bind k) Q) := by
  iintro ⟨H1, H17, ⟨%Y, H18⟩⟩ Hk
  unfold linkLoop
  iapply (Scf.wp_for_bind frame (wpE (defs₀ (F := F)) 𝒱₀ (c : Thread nD τ) none) Set.univ k0_t2_loop.lb k0_t2_loop.ub k0_t2_loop.st _ _ _
    (fun n _ => iprop(owns (c : Thread nD τ) arg1 q ids ∗ owns (c : Thread nD τ) arg17 fullShare (headG ids n : S167.Idx → BitVec 32)
      ∗ ∃ Y : S768.Idx → BitVec 32, ⌜∀ y, (y 0).val < n → Y y = nextG ids y⌝ ∗ owns (c : Thread nD τ) arg18 fullShare Y)) ?_) $$ [H1 H17 H18]
  · intro j _
    simp only [Prog.lift, Prog.bind_op, Prog.bind_ret, Prog.pure_eq_ret]
    iintro ⟨H1, H17, ⟨%Y, %hY, H18⟩⟩
    have hj : j.val < 768 := lt_of_lt_of_eq j.isLt trips2
    have hid := idN_lt hids j.val
    have hb := blk_lt hids j.val
    iapply (wp_smemLoad_val 𝒱₀ (c : Thread nD τ) none Set.univ (ix1 (⟨j.val, hj⟩ : Fin 768)) (BitVec.ofNat 32 (idN ids j.val)) (idx_one _ _ _ (congrFun (k0_off2_eq j) 0) _) (ids_eq ids ⟨j.val, hj⟩)) $$ H1
    iintro H1
    iapply (wp_assume 𝒱₀ (c : Thread nD τ) none Set.univ (chk1 i hid))
    iapply (wp_smemLoad_owns 𝒱₀ (c : Thread nD τ) none Set.univ (ix1 (⟨blk ids j.val, hb⟩ : Fin 167)) (idx_one _ _ _ (off3_eq hid) _)) $$ H17
    iintro H17
    iapply (wp_smemLoad_owns 𝒱₀ (c : Thread nD τ) none Set.univ _ rfl) $$ H18
    iintro H18
    iapply (wp_store_owns 𝒱₀ (c : Thread nD τ) none Set.univ) $$ H18
    iintro H18
    iapply (wp_smemLoad_owns 𝒱₀ (c : Thread nD τ) none Set.univ _ rfl) $$ H17
    iintro H17
    iapply (wp_store_owns 𝒱₀ (c : Thread nD τ) none Set.univ) $$ H17
    iintro H17
    rw [wp_ret]
    imodintro
    isplitl [H1]; · iexact H1
    isplitl [H17]
    · have e : (Rect.unit (s := S167) (k0_off3 (BitVec.ofNat 32 (idN ids j.val))) S1.size (k0_off3_inb i _ (chk1 i hid) k0_h1)).overlay
          (headG ids j.val) (fun _ => Scf.iv (0#32) (1#32) j.val) = headG ids (j.val + 1) := by
        refine (overlay_one _ _ _ _ (blk ids j.val) (off3_eq hid)).trans (funext fun y => ?_)
        show _ = if blk ids j.val = (y 0).val then BitVec.ofNat 32 j.val else lastB ids (y 0).val j.val
        by_cases h : (y 0).val = blk ids j.val
        · rw [if_pos h, if_pos h.symm]
          simp [Scf.iv]
        · rw [if_neg h, if_neg fun h' => h h'.symm]
          rfl
      rw [e]
      iexact H17
    iexists _
    isplitr
    swap; · iexact H18
    ipureintro
    intro y hy
    refine (congrFun (overlay_one _ _ _ _ j.val (congrFun (k0_off4_eq j) 0)) y).trans ?_
    by_cases h : (y 0).val = j.val
    · rw [if_pos h]
      show lastB ids (blk ids j.val) j.val = lastB ids (blk ids (y 0).val) (y 0).val
      rw [h]
    · rw [if_neg h]
      exact hY y (by omega)
  · isplitl [H1]; · iexact H1
    isplitl [H17]; · iexact H17
    iexists Y
    isplitr
    swap; · iexact H18
    ipureintro
    intro y hy
    omega
  rw [show Scf.trips k0_t2_loop.lb k0_t2_loop.ub k0_t2_loop.st = 768 from trips2]
  iintro %_ ⟨H1, H17, ⟨%Y', %hY, H18⟩⟩
  iapply Hk
  obtain rfl : Y' = nextG ids := funext fun y => hY y (y 0).isLt
  isplitl [H1]; · iexact H1
  isplitl [H17]; · iexact H17
  iexact H18

/-! ## Walking a list -/

/-- Row `k` of `D` added to row `r` of `X`. -/
def addRow (D X : FVec F S768x1152 .f32) (r k : ℕ) : FVec F S768x1152 .f32 := fun y =>
  if (y 0).val = r then FloatOps.addf (X y) (D (ix2 (⟨k % 768, Nat.mod_lt _ (by decide)⟩ : Fin 768) (y 1))) else X y

/-- The rows of the tokens before token `n` in block `b` added to their words' rows, last token first. -/
def addAll (ids : S768.Idx → BitVec 32) (D : FVec F S768x1152 .f32) (b : ℕ) : ℕ → FVec F S768x1152 .f32 → FVec F S768x1152 .f32
  | 0, X => X
  | k + 1, X => if blk ids k = b then addAll ids D b k (addRow D X (idN ids k % 768) k) else addAll ids D b k X

/-- A list is empty, or its first token is the last one in the block. -/
theorem list_cases (ids : S768.Idx → BitVec 32) (D : FVec F S768x1152 .f32) (b : ℕ) : ∀ n : ℕ,
    (lastB ids b n = 4294967295#32 ∧ ∀ X, addAll ids D b n X = X)
      ∨ ∃ k < n, blk ids k = b ∧ lastB ids b n = BitVec.ofNat 32 k ∧ ∀ X, addAll ids D b n X = addAll ids D b k (addRow D X (idN ids k % 768) k)
  | 0 => .inl ⟨rfl, fun _ => rfl⟩
  | n + 1 => by
    by_cases h : blk ids n = b
    · exact .inr ⟨n, Nat.lt_succ_self n, h, if_pos h, fun X => if_pos h⟩
    · rcases list_cases ids D b n with ⟨h1, h2⟩ | ⟨k, hk, hb, h1, h2⟩
      · exact .inl ⟨(if_neg h).trans h1, fun X => (if_neg h).trans (h2 X)⟩
      · exact .inr ⟨k, Nat.lt_succ_of_lt hk, hb, (if_neg h).trans h1, fun X => (if_neg h).trans (h2 X)⟩

/-- The walk's specification at the list of the tokens before token `n`: their rows are added to their words' rows. -/
def walk (c : Dev nD) (i : grid0.Coords) (arg1 : Memref sig .tc .smem S768 .i32) (arg9 arg12 : Memref sig .tc .vmem S768x1152 .f32)
    (arg18 : Memref sig .tc .smem S768 .i32) (q : PosShare TreeShare) (ids : S768.Idx → BitVec 32) (D : FVec F S768x1152 .f32)
    (n : ℕ) (X : FVec F S768x1152 .f32) : sWPT 𝕄 (BitVec 32) := do
  consume iprop(owns (c : Thread nD τ) arg1 q ids ∗ owns (c : Thread nD τ) arg9 fullShare X ∗ owns (c : Thread nD τ) arg12 fullShare D
    ∗ owns (c : Thread nD τ) arg18 fullShare (nextG ids : S768.Idx → BitVec 32))
  produce iprop(owns (c : Thread nD τ) arg1 q ids ∗ owns (c : Thread nD τ) arg9 fullShare (addAll ids D (i 0).val n X) ∗ owns (c : Thread nD τ) arg12 fullShare D
    ∗ owns (c : Thread nD τ) arg18 fullShare (nextG ids : S768.Idx → BitVec 32))
  pure (4294967295#32)

theorem walk_apply (c : Dev nD) (i : grid0.Coords) (arg1 : Memref sig .tc .smem S768 .i32) (arg9 arg12 : Memref sig .tc .vmem S768x1152 .f32)
    (arg18 : Memref sig .tc .smem S768 .i32) (q : PosShare TreeShare) (ids : S768.Idx → BitVec 32) (D : FVec F S768x1152 .f32)
    (n : ℕ) (X : FVec F S768x1152 .f32) (K : BitVec 32 → sProp 𝕄) :
    walk c i arg1 arg9 arg12 arg18 q ids D n X K
      = iprop(iprop(owns (c : Thread nD τ) arg1 q ids ∗ owns (c : Thread nD τ) arg9 fullShare X ∗ owns (c : Thread nD τ) arg12 fullShare D
          ∗ owns (c : Thread nD τ) arg18 fullShare (nextG ids : S768.Idx → BitVec 32))
        ∗ (iprop(owns (c : Thread nD τ) arg1 q ids ∗ owns (c : Thread nD τ) arg9 fullShare (addAll ids D (i 0).val n X) ∗ owns (c : Thread nD τ) arg12 fullShare D
          ∗ owns (c : Thread nD τ) arg18 fullShare (nextG ids : S768.Idx → BitVec 32)) -∗ K (4294967295#32))) := rfl

theorem off7_eq (i : grid0.Coords) {v : ℕ} (h : v < 128256) (hb : v / 768 = (i 0).val) :
    k0_off7 i (BitVec.ofNat 32 v) 0 = v % 768 := by
  have hi : (i 0).val < 167 := (i 0).isLt
  show (BitVec.ofNat 32 v - BitVec.ofNat 32 (i 0).val * 768#32).toNat = v % 768
  rw [BitVec.toNat_sub, BitVec.toNat_mul, BitVec.toNat_ofNat, BitVec.toNat_ofNat, BitVec.toNat_ofNat]
  omega

theorem chk3 (i : grid0.Coords) {v : ℕ} (h : v < 128256) (hb : v / 768 = (i 0).val) : k0_chk3 i (BitVec.ofNat 32 v) := by
  intro a
  match a with
  | 0 => rw [off7_eq i h hb]; show v % 768 + 1 ≤ 768; omega
  | 1 => show 0 + 1152 ≤ 1152; omega

theorem off6_eq {k : ℕ} (h : k < 768) : k0_off6 (BitVec.ofNat 32 k) 0 = k := toNat_word (by omega)
theorem off8_eq {k : ℕ} (h : k < 768) : k0_off8 (BitVec.ofNat 32 k) 0 = k := toNat_word (by omega)
theorem off9_eq {k : ℕ} (h : k < 768) : k0_off9 (BitVec.ofNat 32 k) 0 = k := toNat_word (by omega)

theorem chk2 {k : ℕ} (h : k < 768) : k0_chk2 (BitVec.ofNat 32 k) := by
  refine ⟨fun a => ?_, fun a => ?_, fun a => ?_⟩
  · match a with | 0 => rw [off6_eq h]; show k + 1 ≤ 768; omega
  · match a with
    | 0 => rw [off8_eq h]; show k + 1 ≤ 768; omega
    | 1 => show 0 + 1152 ≤ 1152; omega
  · match a with | 0 => rw [off9_eq h]; show k + 1 ≤ 768; omega

theorem going {k : ℕ} (h : k < 768) : Scalar.cmpi .sge (BitVec.ofNat 32 k) 0#32 = 1#1 := by
  show BitVec.ofBool _ = 1#1
  have : (BitVec.ofNat 32 k).toInt = k := by
    rw [BitVec.toInt_ofNat']
    exact Int.bmod_eq_of_le (by omega) (by omega)
  simp [BitVec.sle, this]

/-- The loop meets it. -/
theorem walk_le (c : Dev nD) (i : grid0.Coords) (arg1 : Memref sig .tc .smem S768 .i32) (harg1 : arg1.IsWhole)
    (arg9 : Memref sig .tc .vmem S768x1152 .f32) (harg9 : arg9.IsWhole) (arg12 : Memref sig .tc .vmem S768x1152 .f32) (harg12 : arg12.IsWhole)
    (arg18 : Memref sig .tc .smem S768 .i32) (harg18 : arg18.IsWhole) (q : PosShare TreeShare) (ids : S768.Idx → BitVec 32) (hids : InVocab ids)
    (D : FVec F S768x1152 .f32) (E : Set ℕ) (n : ℕ) : n ≤ 768 → ∀ (X : FVec F S768x1152 .f32) (K : BitVec 32 → sProp 𝕄),
    walk c i arg1 arg9 arg12 arg18 q ids D n X K
      ⊢ wp frame (wpE (defs₀ (F := F)) 𝒱₀ (c : Thread nD τ) (some n)) E
          (defs₀ (F := F) .tc 1 ⟨i, arg1, harg1, arg9, harg9, arg12, harg12, arg18, harg18, lastB ids (i 0).val n⟩) K := by
  induction n using Nat.strong_induction_on with
  | _ n ih =>
    intro hn X K
    rw [walk_apply]
    show _ ⊢ wp frame (wpE (defs₀ (F := F)) 𝒱₀ (c : Thread nD τ) (some n)) E
      (cc0_while1 i arg1 harg1 arg9 harg9 arg12 harg12 arg18 harg18 (lastB ids (i 0).val n)) K
    unfold cc0_while1
    rcases list_cases ids D (i 0).val n with ⟨h1, h2⟩ | ⟨k, hk, hb, h1, h2⟩
    · rw [h1, h2, if_neg (by decide), Prog.pure_eq_ret, wp_ret]
      iintro ⟨H, HK⟩
      imodintro
      iapply HK
      iexact H
    · have hk' : k < 768 := by omega
      have hid := idN_lt hids k
      rw [h1, h2, if_pos (going hk')]
      simp only [Prog.lift, Prog.bind_op, Prog.bind_ret, Prog.pure_eq_ret]
      iintro ⟨⟨H1, H9, H12, H18⟩, HK⟩
      iapply (wp_assume 𝒱₀ (c : Thread nD τ) _ E (chk2 hk'))
      iapply (wp_smemLoad_val 𝒱₀ (c : Thread nD τ) _ E (ix1 (⟨k, hk'⟩ : Fin 768)) (BitVec.ofNat 32 (idN ids k)) (idx_one _ _ _ (off6_eq hk') _) (ids_eq ids ⟨k, hk'⟩)) $$ H1
      iintro H1
      iapply (wp_assume 𝒱₀ (c : Thread nD τ) _ E (chk3 i hid hb))
      iapply (wp_load_owns 𝒱₀ (c : Thread nD τ) _ E) $$ H9
      iintro H9
      iapply (wp_load_owns 𝒱₀ (c : Thread nD τ) _ E) $$ H12
      iintro H12
      iapply (wp_load_owns 𝒱₀ (c : Thread nD τ) _ E) $$ H9
      iintro H9
      iapply (wp_store_owns 𝒱₀ (c : Thread nD τ) _ E) $$ H9
      iintro H9
      iapply (wp_smemLoad_val 𝒱₀ (c : Thread nD τ) _ E (ix1 (⟨k, hk'⟩ : Fin 768)) (lastB ids (i 0).val k) (idx_one _ _ _ (off9_eq hk') _) (by rw [← hb]; rfl)) $$ H18
      iintro H18
      iapply (wp_call_spec 𝒱₀ (c : Thread nD τ) (some n) E (walk c i arg1 arg9 arg12 arg18 q ids D k (addRow D X (idN ids k % 768) k)) k
        (fun u hu => by cases hu; exact hk) (fun K => ih k hk (by omega) _ K))
      rw [walk_apply]
      isplitl [H1 H9 H12 H18]
      · isplitl [H1]; · iexact H1
        isplitl [H9]
        · have e : (Rect.unit (s := S768x1152) (k0_off7 i (BitVec.ofNat 32 (idN ids k))) S1x1152.size (k0_off7_inb i _ (chk3 i hid hb))).overlay
              X (addf (shapeCast S1x1152 (fun x => X ((Rect.unit (s := S768x1152) (k0_off7 i (BitVec.ofNat 32 (idN ids k))) S1x1152.size (k0_off7_inb i _ (chk3 i hid hb))).idx x) : Vec F S1x1152 .f32) shapeCasts_S1x1152_S1x1152 : FVec F S1x1152 .f32)
                (fun x => D ((Rect.unit (s := S768x1152) (k0_off8 (BitVec.ofNat 32 k)) S1x1152.size (k0_off8_inb _ (chk2 hk'))).idx x))) = addRow D X (idN ids k % 768) k := by
            refine (overlay_row _ _ _ _ (idN ids k % 768) (off7_eq i hid hb) rfl).trans (funext fun y => ?_)
            unfold addRow
            by_cases h : (y 0).val = idN ids k % 768
            · rw [if_pos h, if_pos h, recast]
              refine congr (congrArg FloatOps.addf (congrArg X ?_)) (congrArg D ?_)
              · refine (idx_row _ _ (⟨(y 0).val, (y 0).isLt⟩ : Fin 768) ((off7_eq i hid hb).trans h.symm) rfl _).trans (eq_ix2 y).symm
              · refine (idx_row _ _ (⟨k % 768, Nat.mod_lt _ (by decide)⟩ : Fin 768) ((off8_eq hk').trans (Nat.mod_eq_of_lt hk').symm) rfl _)
            · rw [if_neg h, if_neg h]
          rw [← e]
          iexact H9
        isplitl [H12]; · iexact H12
        iexact H18
      iintro H
      rw [wp_ret]
      imodintro
      iapply HK
      iexact H

end Cert.Proof.KI
-- ==== Proof.KI.Body.lean ====
/- The kernel body at one grid point: what it needs and what it leaves. -/
module

public import proofs.«01_k».proof.Proof.KI.Lists

@[expose] public section

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

/-! ## The values -/

/-- The accumulator before the first product. -/
def acc0 : FVec F S1152x768 .f32 :=
  shapeCast S1152x768 (broadcast S1152x768 (Scalar.ofBits .f32 0x00000000#32) : FVec F S1152x768 .f32) shapeCasts_S1152x768_S1152x768

/-- The input embedding gradients in the wide format. -/
def embG (x8 : Vec F S768x1152 .bf16) : FVec F S768x1152 .f32 :=
  shapeCast S768x1152 (extf .f32 (shapeCast S768x1152 x8 shapeCasts_S768x1152_S768x1152 : FVec F S768x1152 .bf16) bitsLt_bf16_f32 : FVec F S768x1152 .f32) shapeCasts_S768x1152_S768x1152

/-- One vocabulary block of the head's weight gradient. -/
def headDE (x2 : Vec F S768x768 .fp8e5m2) (x3 : Vec F S6x2x384 .f32) (H : FVec F S768x1152 .bf16) : FVec F S768x1152 .f32 :=
  matmul dot_S768x768_S768x1152_S768x1152_1_0_0_1_n_n none (dltG x2 x3) H (constant S768x1152 .f32 0x00000000#32 : FVec F S768x1152 .f32)

/-- The accumulator after one more vocabulary block. -/
def accNext (x2 : Vec F S768x768 .fp8e5m2) (x3 : Vec F S6x2x384 .f32) (x6 : Vec F S576x768 .i8) (x7 : Vec F S36x768 .f32)
    (A : FVec F S1152x768 .f32) : FVec F S1152x768 .f32 :=
  shapeCast S1152x768 (addf A (matmul dot_S1152x768_S768x768_S1152x768_1_0_0_1_n_n none (etsG (esrPay x7) x6) (dltG x2 x3)
    (constant S1152x768 .f32 0x00000000#32 : FVec F S1152x768 .f32) : FVec F S1152x768 .f32) : FVec F S1152x768 .f32) shapeCasts_S1152x768_S1152x768

/-! ## The first grid point's own work -/

/-- Sequencing is associative. -/
theorem bind_assoc_bind {E : Type → Type*} {α β γ : Type} (p : Prog E α) (f : α → Prog E β) (g : β → Prog E γ) :
    (p >>= f).bind g = p.bind fun x => (f x).bind g := Prog.bind_assoc p f g

/-- What the first grid point sets up. -/
theorem init_spec {α : Type} {Q : α → sProp 𝕄} (c : Dev nD) (i : grid0.Coords) (k0_h1 : k0_cond1 i = 1#1)
    (arg1 : Memref sig .tc .smem S768 .i32)
    (arg4 : Memref sig .tc .vmem S768x1152 .fp8e4m3) (arg5 : Memref sig .tc .vmem S2x384 .f32)
    (arg8 : Memref sig .tc .vmem S768x1152 .bf16)
    (arg11 : Memref sig .tc .vmem S768x1152 .bf16) (harg11 : arg11.IsWhole) (arg12 : Memref sig .tc .vmem S768x1152 .f32)
    (arg16 : Memref sig .tc .vmem S1152x768 .f32)
    (arg17 : Memref sig .tc .smem S167 .i32) (arg18 : Memref sig .tc .smem S768 .i32)
    (q : PosShare TreeShare) (ids : S768.Idx → BitVec 32) (hids : InVocab ids)
    (x4 : Vec F S768x1152 .fp8e4m3) (x5 : Vec F S2x384 .f32) (x8 : Vec F S768x1152 .bf16)
    (k : PUnit → Prog (TpuEff nD τ sig (Elt F) (Λ₀ F) .tc) α) :
    iprop(owns (c : Thread nD τ) arg1 q ids ∗ owns (c : Thread nD τ) arg4 fullShare x4 ∗ owns (c : Thread nD τ) arg5 fullShare x5 ∗ owns (c : Thread nD τ) arg8 fullShare x8
        ∗ (∃ Y, owns (c : Thread nD τ) arg11 fullShare Y) ∗ (∃ Y, owns (c : Thread nD τ) arg12 fullShare Y) ∗ (∃ Y, owns (c : Thread nD τ) arg16 fullShare Y)
        ∗ (∃ Y, owns (c : Thread nD τ) arg17 fullShare Y) ∗ (∃ Y, owns (c : Thread nD τ) arg18 fullShare Y)) ⊢
      iprop((iprop(owns (c : Thread nD τ) arg1 q ids ∗ owns (c : Thread nD τ) arg4 fullShare x4 ∗ owns (c : Thread nD τ) arg5 fullShare x5 ∗ owns (c : Thread nD τ) arg8 fullShare x8
            ∗ owns (c : Thread nD τ) arg11 fullShare (hhG x4 x5) ∗ owns (c : Thread nD τ) arg12 fullShare (embG x8) ∗ owns (c : Thread nD τ) arg16 fullShare (acc0 (F := F))
            ∗ owns (c : Thread nD τ) arg17 fullShare (headG ids 768 : S167.Idx → BitVec 32) ∗ owns (c : Thread nD τ) arg18 fullShare (nextG ids : S768.Idx → BitVec 32))
          -∗ wp frame (wpE (defs₀ (F := F)) 𝒱₀ (c : Thread nD τ) none) Set.univ (k ⟨⟩) Q)
        -∗ wp frame (wpE (defs₀ (F := F)) 𝒱₀ (c : Thread nD τ) none) Set.univ
            ((initPhase i k0_h1 arg1 arg4 arg5 arg8 arg11 harg11 arg12 arg16 arg17 arg18).bind k) Q) := by
  unfold initPhase
  simp only [Prog.lift, Prog.bind_op, Prog.bind_ret, Prog.pure_eq_ret, Prog.bind_assoc]
  iintro ⟨H1, H4, H5, H8, H11, ⟨%Y12, H12⟩, ⟨%Y16, H16⟩, H17, H18⟩ Hk
  iapply (wp_load_whole 𝒱₀ (c : Thread nD τ) none Set.univ) $$ H16
  iintro H16
  iapply (wp_store_whole 𝒱₀ (c : Thread nD τ) none Set.univ) $$ H16
  iintro H16
  iapply (wp_load_whole 𝒱₀ (c : Thread nD τ) none Set.univ) $$ H8
  iintro H8
  iapply (wp_load_whole 𝒱₀ (c : Thread nD τ) none Set.univ) $$ H12
  iintro H12
  iapply (wp_store_whole 𝒱₀ (c : Thread nD τ) none Set.univ) $$ H12
  iintro H12
  simp only [bind_assoc_bind, Prog.bind_ret]
  iapply (hh_spec c arg4 arg5 arg11 harg11 x4 x5) $$ [H4 H5 H11]
  · isplitl [H4]; · iexact H4
    isplitl [H5]; · iexact H5
    iexact H11
  iintro ⟨H4, H5, H11⟩
  iapply (head_spec c i k0_h1 arg17 ids) $$ H17
  iintro H17
  iapply (link_spec c i k0_h1 arg1 arg17 arg18 q ids hids) $$ [H1 H17 H18]
  · isplitl [H1]; · iexact H1
    isplitl [H17]; · iexact H17
    iexact H18
  iintro ⟨H1, H17, H18⟩
  iapply Hk
  isplitl [H1]; · iexact H1
  isplitl [H4]; · iexact H4
  isplitl [H5]; · iexact H5
  isplitl [H8]; · iexact H8
  isplitl [H11]; · iexact H11
  isplitl [H12]; · iexact H12
  isplitl [H16]; · iexact H16
  isplitl [H17]; · iexact H17
  iexact H18

/-! ## The products -/

/-- What the products leave. -/
theorem mid_spec {Q : PUnit → sProp 𝕄} (c : Dev nD) (i : grid0.Coords)
    (arg2 : Memref sig .tc .vmem S768x768 .fp8e5m2) (arg3 : Memref sig .tc .vmem S6x2x384 .f32)
    (arg6 : Memref sig .tc .vmem S576x768 .i8) (arg7 : Memref sig .tc .vmem S36x768 .f32)
    (arg9 : Memref sig .tc .vmem S768x1152 .f32)
    (arg11 : Memref sig .tc .vmem S768x1152 .bf16)
    (arg13 : Memref sig .tc .vmem S768x768 .bf16) (harg13 : arg13.IsWhole)
    (arg14 : Memref sig .tc .vmem S1152x768 .bf16) (harg14 : arg14.IsWhole)
    (arg15 : Memref sig .tc .vmem S36x768 .f32) (arg16 : Memref sig .tc .vmem S1152x768 .f32)
    (x2 : Vec F S768x768 .fp8e5m2) (x3 : Vec F S6x2x384 .f32) (x6 : Vec F S576x768 .i8) (x7 : Vec F S36x768 .f32)
    (H : FVec F S768x1152 .bf16) (A : FVec F S1152x768 .f32)
    (K : Prog (TpuEff nD τ sig (Elt F) (Λ₀ F) .tc) PUnit) :
    iprop(owns (c : Thread nD τ) arg2 fullShare x2 ∗ owns (c : Thread nD τ) arg3 fullShare x3 ∗ owns (c : Thread nD τ) arg6 fullShare x6 ∗ owns (c : Thread nD τ) arg7 fullShare x7
        ∗ (∃ Y, owns (c : Thread nD τ) arg9 fullShare Y) ∗ owns (c : Thread nD τ) arg11 fullShare H
        ∗ (∃ Y, owns (c : Thread nD τ) arg13 fullShare Y) ∗ (∃ Y, owns (c : Thread nD τ) arg14 fullShare Y) ∗ (∃ Y, owns (c : Thread nD τ) arg15 fullShare Y)
        ∗ owns (c : Thread nD τ) arg16 fullShare A) ⊢
      iprop((iprop(owns (c : Thread nD τ) arg2 fullShare x2 ∗ owns (c : Thread nD τ) arg3 fullShare x3 ∗ owns (c : Thread nD τ) arg6 fullShare x6 ∗ owns (c : Thread nD τ) arg7 fullShare x7
            ∗ owns (c : Thread nD τ) arg9 fullShare (headDE x2 x3 H) ∗ owns (c : Thread nD τ) arg11 fullShare H
            ∗ (∃ Y, owns (c : Thread nD τ) arg13 fullShare Y) ∗ (∃ Y, owns (c : Thread nD τ) arg14 fullShare Y) ∗ (∃ Y, owns (c : Thread nD τ) arg15 fullShare Y)
            ∗ owns (c : Thread nD τ) arg16 fullShare (accNext x2 x3 x6 x7 A))
          -∗ wp frame (wpE (defs₀ (F := F)) 𝒱₀ (c : Thread nD τ) none) Set.univ K Q)
        -∗ wp frame (wpE (defs₀ (F := F)) 𝒱₀ (c : Thread nD τ) none) Set.univ
            (midPhase i arg2 arg3 arg6 arg7 arg9 arg11 arg13 harg13 arg14 harg14 arg15 arg16 K) Q) := by
  unfold midPhase
  simp only [Prog.lift, Prog.bind_op, Prog.bind_ret, Prog.pure_eq_ret, Prog.bind_assoc]
  iintro ⟨H2, H3, H6, H7, ⟨%Y9, H9⟩, H11, H13, H14, ⟨%Y15, H15⟩, H16⟩ Hk
  iapply (dlt_spec c arg2 arg3 arg13 harg13 x2 x3) $$ [H2 H3 H13]
  · isplitl [H2]; · iexact H2
    isplitl [H3]; · iexact H3
    iexact H13
  iintro ⟨H2, H3, H13⟩
  iapply (wp_load_whole 𝒱₀ (c : Thread nD τ) none Set.univ) $$ H7
  iintro H7
  iapply (wp_load_whole 𝒱₀ (c : Thread nD τ) none Set.univ) $$ H15
  iintro H15
  iapply (wp_store_whole 𝒱₀ (c : Thread nD τ) none Set.univ) $$ H15
  iintro H15
  iapply (ets_spec c arg6 arg14 harg14 arg15 x6 (esrPay x7)) $$ [H6 H15 H14]
  · isplitl [H6]; · iexact H6
    isplitl [H15]; · iexact H15
    iexact H14
  iintro ⟨H6, H15, H14⟩
  iapply (wp_load_whole 𝒱₀ (c : Thread nD τ) none Set.univ) $$ H13
  iintro H13
  iapply (wp_load_whole 𝒱₀ (c : Thread nD τ) none Set.univ) $$ H11
  iintro H11
  iapply (wp_load_whole 𝒱₀ (c : Thread nD τ) none Set.univ) $$ H9
  iintro H9
  iapply (wp_store_whole 𝒱₀ (c : Thread nD τ) none Set.univ) $$ H9
  iintro H9
  iapply (wp_load_whole 𝒱₀ (c : Thread nD τ) none Set.univ) $$ H16
  iintro H16
  iapply (wp_load_whole 𝒱₀ (c : Thread nD τ) none Set.univ) $$ H14
  iintro H14
  iapply (wp_load_whole 𝒱₀ (c : Thread nD τ) none Set.univ) $$ H13
  iintro H13
  iapply (wp_load_whole 𝒱₀ (c : Thread nD τ) none Set.univ) $$ H16
  iintro H16
  iapply (wp_store_whole 𝒱₀ (c : Thread nD τ) none Set.univ) $$ H16
  iintro H16
  iapply Hk
  isplitl [H2]; · iexact H2
  isplitl [H3]; · iexact H3
  isplitl [H6]; · iexact H6
  isplitl [H7]; · iexact H7
  isplitl [H9]; · iexact H9
  isplitl [H11]; · iexact H11
  isplitl [H13]; · iexists _; iexact H13
  isplitl [H14]; · iexists _; iexact H14
  isplitl [H15]; · iexists _; iexact H15
  iexact H16

/-! ## The list walk and the second result -/

/-- What the list walk and the last point's write leave. -/
theorem tail_spec (c : Dev nD) (i : grid0.Coords) (arg1 : Memref sig .tc .smem S768 .i32) (harg1 : arg1.IsWhole) (arg2 : Memref sig .tc .vmem S768x768 .fp8e5m2) (harg2 : arg2.IsWhole) (arg3 : Memref sig .tc .vmem S6x2x384 .f32) (harg3 : arg3.IsWhole) (arg4 : Memref sig .tc .vmem S768x1152 .fp8e4m3) (harg4 : arg4.IsWhole) (arg5 : Memref sig .tc .vmem S2x384 .f32) (harg5 : arg5.IsWhole) (arg6 : Memref sig .tc .vmem S576x768 .i8) (harg6 : arg6.IsWhole) (arg7 : Memref sig .tc .vmem S36x768 .f32) (harg7 : arg7.IsWhole) (arg8 : Memref sig .tc .vmem S768x1152 .bf16) (harg8 : arg8.IsWhole) (arg9 : Memref sig .tc .vmem S768x1152 .f32) (harg9 : arg9.IsWhole) (arg10 : Memref sig .tc .vmem S768x1152 .bf16) (harg10 : arg10.IsWhole) (arg11 : Memref sig .tc .vmem S768x1152 .bf16) (harg11 : arg11.IsWhole) (arg12 : Memref sig .tc .vmem S768x1152 .f32) (harg12 : arg12.IsWhole) (arg13 : Memref sig .tc .vmem S768x768 .bf16) (harg13 : arg13.IsWhole) (arg14 : Memref sig .tc .vmem S1152x768 .bf16) (harg14 : arg14.IsWhole) (arg15 : Memref sig .tc .vmem S36x768 .f32) (harg15 : arg15.IsWhole) (arg16 : Memref sig .tc .vmem S1152x768 .f32) (harg16 : arg16.IsWhole) (arg17 : Memref sig .tc .smem S167 .i32) (harg17 : arg17.IsWhole) (arg18 : Memref sig .tc .smem S768 .i32) (harg18 : arg18.IsWhole)
    (q : PosShare TreeShare) (ids : S768.Idx → BitVec 32) (hids : InVocab ids)
    (D X : FVec F S768x1152 .f32) (A : FVec F S1152x768 .f32) (Y10 : FVec F S768x1152 .bf16) {Q : PUnit → sProp 𝕄} :
    iprop(owns (c : Thread nD τ) arg1 q ids ∗ owns (c : Thread nD τ) arg9 fullShare X ∗ owns (c : Thread nD τ) arg10 fullShare Y10
        ∗ owns (c : Thread nD τ) arg12 fullShare D ∗ owns (c : Thread nD τ) arg16 fullShare A
        ∗ owns (c : Thread nD τ) arg17 fullShare (headG ids 768 : S167.Idx → BitVec 32) ∗ owns (c : Thread nD τ) arg18 fullShare (nextG ids : S768.Idx → BitVec 32)) ⊢
      iprop((iprop(owns (c : Thread nD τ) arg1 q ids ∗ owns (c : Thread nD τ) arg9 fullShare (addAll ids D (i 0).val 768 X)
            ∗ owns (c : Thread nD τ) arg10 fullShare (if k0_cond2 i = 1#1 then dhG A else Y10)
            ∗ owns (c : Thread nD τ) arg12 fullShare D ∗ owns (c : Thread nD τ) arg16 fullShare A
            ∗ owns (c : Thread nD τ) arg17 fullShare (headG ids 768 : S167.Idx → BitVec 32) ∗ owns (c : Thread nD τ) arg18 fullShare (nextG ids : S768.Idx → BitVec 32))
          -∗ Q ⟨⟩)
        -∗ wp frame (wpE (defs₀ (F := F)) 𝒱₀ (c : Thread nD τ) none) Set.univ (tailPhase i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q) := by
  unfold tailPhase
  have hi : (i 0).val < 167 := (i 0).isLt
  simp only [Prog.lift, Prog.bind_op, Prog.bind_ret, Prog.pure_eq_ret]
  iintro ⟨H1, H9, H10, H12, H16, H17, H18⟩ Hk
  iapply (wp_smemLoad_val 𝒱₀ (c : Thread nD τ) none Set.univ (ix1 (⟨(i 0).val, hi⟩ : Fin 167)) (lastB ids (i 0).val 768)
    (idx_one _ _ _ (congrFun (k0_off5_eq i) 0) _) rfl) $$ H17
  iintro H17
  iapply (wp_call_spec 𝒱₀ (c : Thread nD τ) none Set.univ (walk c i arg1 arg9 arg12 arg18 q ids D 768 X) 768
    (fun u hu => nomatch hu) (fun K => walk_le c i arg1 harg1 arg9 harg9 arg12 harg12 arg18 harg18 q ids hids D Set.univ 768 le_rfl X K))
  rw [walk_apply]
  isplitl [H1 H9 H12 H18]
  · isplitl [H1]; · iexact H1
    isplitl [H9]; · iexact H9
    isplitl [H12]; · iexact H12
    iexact H18
  iintro ⟨H1, H9, H12, H18⟩
  by_cases h2 : k0_cond2 i = 1#1
  · rw [dif_pos h2, if_pos h2]
    iapply (fin_spec c arg10 harg10 arg16 A) $$ [H16 H10]
    · isplitl [H16]; · iexact H16
      iexists _; iexact H10
    iintro ⟨H16, H10⟩
    rw [wp_ret]
    imodintro
    iapply Hk
    isplitl [H1]; · iexact H1
    isplitl [H9]; · iexact H9
    isplitl [H10]; · iexact H10
    isplitl [H12]; · iexact H12
    isplitl [H16]; · iexact H16
    isplitl [H17]; · iexact H17
    iexact H18
  · rw [dif_neg h2, if_neg h2]
    simp only [Prog.bind_ret]
    rw [wp_ret]
    imodintro
    iapply Hk
    isplitl [H1]; · iexact H1
    isplitl [H9]; · iexact H9
    isplitl [H10]; · iexact H10
    isplitl [H12]; · iexact H12
    isplitl [H16]; · iexact H16
    isplitl [H17]; · iexact H17
    iexact H18

/-! ## The whole body -/

/-- The second window's buffer after the body: written at the last point, untouched elsewhere. -/
def dhOut (i : grid0.Coords) (A : FVec F S1152x768 .f32) (Y10 : FVec F S768x1152 .bf16) : FVec F S768x1152 .bf16 :=
  if k0_cond2 i = 1#1 then dhG A else Y10

/-- What the body keeps between points: the dequantised hidden states, the wide embedding gradients, the accumulator, the lists. -/
def state (c : Dev nD) (arg11 : Memref sig .tc .vmem S768x1152 .bf16) (arg12 : Memref sig .tc .vmem S768x1152 .f32)
    (arg13 : Memref sig .tc .vmem S768x768 .bf16) (arg14 : Memref sig .tc .vmem S1152x768 .bf16) (arg15 : Memref sig .tc .vmem S36x768 .f32)
    (arg16 : Memref sig .tc .vmem S1152x768 .f32) (arg17 : Memref sig .tc .smem S167 .i32) (arg18 : Memref sig .tc .smem S768 .i32)
    (ids : S768.Idx → BitVec 32) (H : FVec F S768x1152 .bf16) (D : FVec F S768x1152 .f32) (A : FVec F S1152x768 .f32) : sProp 𝕄 :=
  iprop(owns (c : Thread nD τ) arg11 fullShare H ∗ owns (c : Thread nD τ) arg12 fullShare D
    ∗ (∃ Y, owns (c : Thread nD τ) arg13 fullShare Y) ∗ (∃ Y, owns (c : Thread nD τ) arg14 fullShare Y) ∗ (∃ Y, owns (c : Thread nD τ) arg15 fullShare Y)
    ∗ owns (c : Thread nD τ) arg16 fullShare A
    ∗ owns (c : Thread nD τ) arg17 fullShare (headG ids 768 : S167.Idx → BitVec 32) ∗ owns (c : Thread nD τ) arg18 fullShare (nextG ids : S768.Idx → BitVec 32))

/-- The same buffers at anything. -/
def junk (c : Dev nD) (arg11 : Memref sig .tc .vmem S768x1152 .bf16) (arg12 : Memref sig .tc .vmem S768x1152 .f32)
    (arg13 : Memref sig .tc .vmem S768x768 .bf16) (arg14 : Memref sig .tc .vmem S1152x768 .bf16) (arg15 : Memref sig .tc .vmem S36x768 .f32)
    (arg16 : Memref sig .tc .vmem S1152x768 .f32) (arg17 : Memref sig .tc .smem S167 .i32) (arg18 : Memref sig .tc .smem S768 .i32) : sProp 𝕄 :=
  iprop((∃ Y, owns (c : Thread nD τ) arg11 fullShare Y) ∗ (∃ Y, owns (c : Thread nD τ) arg12 fullShare Y)
    ∗ (∃ Y, owns (c : Thread nD τ) arg13 fullShare Y) ∗ (∃ Y, owns (c : Thread nD τ) arg14 fullShare Y) ∗ (∃ Y, owns (c : Thread nD τ) arg15 fullShare Y)
    ∗ (∃ Y, owns (c : Thread nD τ) arg16 fullShare Y)
    ∗ (∃ Y, owns (c : Thread nD τ) arg17 fullShare Y) ∗ (∃ Y, owns (c : Thread nD τ) arg18 fullShare Y))

/-- The inputs the body reads. -/
def inputs (c : Dev nD) (arg1 : Memref sig .tc .smem S768 .i32) (arg2 : Memref sig .tc .vmem S768x768 .fp8e5m2) (arg3 : Memref sig .tc .vmem S6x2x384 .f32)
    (arg4 : Memref sig .tc .vmem S768x1152 .fp8e4m3) (arg5 : Memref sig .tc .vmem S2x384 .f32) (arg6 : Memref sig .tc .vmem S576x768 .i8)
    (arg7 : Memref sig .tc .vmem S36x768 .f32) (arg8 : Memref sig .tc .vmem S768x1152 .bf16)
    (q : PosShare TreeShare) (ids : S768.Idx → BitVec 32) (x2 : Vec F S768x768 .fp8e5m2) (x3 : Vec F S6x2x384 .f32)
    (x4 : Vec F S768x1152 .fp8e4m3) (x5 : Vec F S2x384 .f32) (x6 : Vec F S576x768 .i8) (x7 : Vec F S36x768 .f32) (x8 : Vec F S768x1152 .bf16) : sProp 𝕄 :=
  iprop(owns (c : Thread nD τ) arg1 q ids ∗ owns (c : Thread nD τ) arg2 fullShare x2 ∗ owns (c : Thread nD τ) arg3 fullShare x3
    ∗ owns (c : Thread nD τ) arg4 fullShare x4 ∗ owns (c : Thread nD τ) arg5 fullShare x5 ∗ owns (c : Thread nD τ) arg6 fullShare x6
    ∗ owns (c : Thread nD τ) arg7 fullShare x7 ∗ owns (c : Thread nD τ) arg8 fullShare x8)

/-- One vocabulary block of the first result. -/
def deOut (ids : S768.Idx → BitVec 32) (b : ℕ) (x2 : Vec F S768x768 .fp8e5m2) (x3 : Vec F S6x2x384 .f32) (H : FVec F S768x1152 .bf16)
    (D : FVec F S768x1152 .f32) : FVec F S768x1152 .f32 := addAll ids D b 768 (headDE x2 x3 H)

/-- The body from the point where its state is set up. -/
theorem rest_spec (c : Dev nD) (i : grid0.Coords) (arg1 : Memref sig .tc .smem S768 .i32) (harg1 : arg1.IsWhole) (arg2 : Memref sig .tc .vmem S768x768 .fp8e5m2) (harg2 : arg2.IsWhole) (arg3 : Memref sig .tc .vmem S6x2x384 .f32) (harg3 : arg3.IsWhole) (arg4 : Memref sig .tc .vmem S768x1152 .fp8e4m3) (harg4 : arg4.IsWhole) (arg5 : Memref sig .tc .vmem S2x384 .f32) (harg5 : arg5.IsWhole) (arg6 : Memref sig .tc .vmem S576x768 .i8) (harg6 : arg6.IsWhole) (arg7 : Memref sig .tc .vmem S36x768 .f32) (harg7 : arg7.IsWhole) (arg8 : Memref sig .tc .vmem S768x1152 .bf16) (harg8 : arg8.IsWhole) (arg9 : Memref sig .tc .vmem S768x1152 .f32) (harg9 : arg9.IsWhole) (arg10 : Memref sig .tc .vmem S768x1152 .bf16) (harg10 : arg10.IsWhole) (arg11 : Memref sig .tc .vmem S768x1152 .bf16) (harg11 : arg11.IsWhole) (arg12 : Memref sig .tc .vmem S768x1152 .f32) (harg12 : arg12.IsWhole) (arg13 : Memref sig .tc .vmem S768x768 .bf16) (harg13 : arg13.IsWhole) (arg14 : Memref sig .tc .vmem S1152x768 .bf16) (harg14 : arg14.IsWhole) (arg15 : Memref sig .tc .vmem S36x768 .f32) (harg15 : arg15.IsWhole) (arg16 : Memref sig .tc .vmem S1152x768 .f32) (harg16 : arg16.IsWhole) (arg17 : Memref sig .tc .smem S167 .i32) (harg17 : arg17.IsWhole) (arg18 : Memref sig .tc .smem S768 .i32) (harg18 : arg18.IsWhole)
    (q : PosShare TreeShare) (ids : S768.Idx → BitVec 32) (hids : InVocab ids) (x2 : Vec F S768x768 .fp8e5m2) (x3 : Vec F S6x2x384 .f32)
    (x4 : Vec F S768x1152 .fp8e4m3) (x5 : Vec F S2x384 .f32) (x6 : Vec F S576x768 .i8) (x7 : Vec F S36x768 .f32) (x8 : Vec F S768x1152 .bf16)
    (H : FVec F S768x1152 .bf16) (D : FVec F S768x1152 .f32) (A : FVec F S1152x768 .f32) (Y10 : FVec F S768x1152 .bf16) {Q : PUnit → sProp 𝕄} :
    iprop(inputs c arg1 arg2 arg3 arg4 arg5 arg6 arg7 arg8 q ids x2 x3 x4 x5 x6 x7 x8
        ∗ (∃ Y, owns (c : Thread nD τ) arg9 fullShare Y) ∗ owns (c : Thread nD τ) arg10 fullShare Y10
        ∗ state c arg11 arg12 arg13 arg14 arg15 arg16 arg17 arg18 ids H D A) ⊢
      iprop((iprop(inputs c arg1 arg2 arg3 arg4 arg5 arg6 arg7 arg8 q ids x2 x3 x4 x5 x6 x7 x8
            ∗ owns (c : Thread nD τ) arg9 fullShare (deOut ids (i 0).val x2 x3 H D) ∗ owns (c : Thread nD τ) arg10 fullShare (dhOut i (accNext x2 x3 x6 x7 A) Y10)
            ∗ state c arg11 arg12 arg13 arg14 arg15 arg16 arg17 arg18 ids H D (accNext x2 x3 x6 x7 A))
          -∗ Q ⟨⟩)
        -∗ wp frame (wpE (defs₀ (F := F)) 𝒱₀ (c : Thread nD τ) none) Set.univ
            (midPhase i arg2 arg3 arg6 arg7 arg9 arg11 arg13 harg13 arg14 harg14 arg15 arg16 (tailPhase i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)) Q) := by
  unfold inputs state
  iintro ⟨⟨H1, H2, H3, H4, H5, H6, H7, H8⟩, H9, H10, ⟨H11, H12, H13, H14, H15, H16, H17, H18⟩⟩ Hk
  iapply (mid_spec c i arg2 arg3 arg6 arg7 arg9 arg11 arg13 harg13 arg14 harg14 arg15 arg16 x2 x3 x6 x7 H A) $$ [H2 H3 H6 H7 H9 H11 H13 H14 H15 H16]
  · isplitl [H2]; · iexact H2
    isplitl [H3]; · iexact H3
    isplitl [H6]; · iexact H6
    isplitl [H7]; · iexact H7
    isplitl [H9]; · iexact H9
    isplitl [H11]; · iexact H11
    isplitl [H13]; · iexact H13
    isplitl [H14]; · iexact H14
    isplitl [H15]; · iexact H15
    iexact H16
  iintro ⟨H2, H3, H6, H7, H9, H11, H13, H14, H15, H16⟩
  iapply (tail_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q ids hids D (headDE x2 x3 H) (accNext x2 x3 x6 x7 A) Y10) $$ [H1 H9 H10 H12 H16 H17 H18]
  · isplitl [H1]; · iexact H1
    isplitl [H9]; · iexact H9
    isplitl [H10]; · iexact H10
    isplitl [H12]; · iexact H12
    isplitl [H16]; · iexact H16
    isplitl [H17]; · iexact H17
    iexact H18
  iintro ⟨H1, H9, H10, H12, H16, H17, H18⟩
  iapply Hk
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body at the first point, from buffers at anything. -/
theorem first_spec (c : Dev nD) (i : grid0.Coords) (arg1 : Memref sig .tc .smem S768 .i32) (harg1 : arg1.IsWhole) (arg2 : Memref sig .tc .vmem S768x768 .fp8e5m2) (harg2 : arg2.IsWhole) (arg3 : Memref sig .tc .vmem S6x2x384 .f32) (harg3 : arg3.IsWhole) (arg4 : Memref sig .tc .vmem S768x1152 .fp8e4m3) (harg4 : arg4.IsWhole) (arg5 : Memref sig .tc .vmem S2x384 .f32) (harg5 : arg5.IsWhole) (arg6 : Memref sig .tc .vmem S576x768 .i8) (harg6 : arg6.IsWhole) (arg7 : Memref sig .tc .vmem S36x768 .f32) (harg7 : arg7.IsWhole) (arg8 : Memref sig .tc .vmem S768x1152 .bf16) (harg8 : arg8.IsWhole) (arg9 : Memref sig .tc .vmem S768x1152 .f32) (harg9 : arg9.IsWhole) (arg10 : Memref sig .tc .vmem S768x1152 .bf16) (harg10 : arg10.IsWhole) (arg11 : Memref sig .tc .vmem S768x1152 .bf16) (harg11 : arg11.IsWhole) (arg12 : Memref sig .tc .vmem S768x1152 .f32) (harg12 : arg12.IsWhole) (arg13 : Memref sig .tc .vmem S768x768 .bf16) (harg13 : arg13.IsWhole) (arg14 : Memref sig .tc .vmem S1152x768 .bf16) (harg14 : arg14.IsWhole) (arg15 : Memref sig .tc .vmem S36x768 .f32) (harg15 : arg15.IsWhole) (arg16 : Memref sig .tc .vmem S1152x768 .f32) (harg16 : arg16.IsWhole) (arg17 : Memref sig .tc .smem S167 .i32) (harg17 : arg17.IsWhole) (arg18 : Memref sig .tc .smem S768 .i32) (harg18 : arg18.IsWhole)
    (q : PosShare TreeShare) (ids : S768.Idx → BitVec 32) (hids : InVocab ids) (x2 : Vec F S768x768 .fp8e5m2) (x3 : Vec F S6x2x384 .f32)
    (x4 : Vec F S768x1152 .fp8e4m3) (x5 : Vec F S2x384 .f32) (x6 : Vec F S576x768 .i8) (x7 : Vec F S36x768 .f32) (x8 : Vec F S768x1152 .bf16)
    (Y10 : FVec F S768x1152 .bf16) (h1 : k0_cond1 i = 1#1) {Q : PUnit → sProp 𝕄} :
    iprop(inputs c arg1 arg2 arg3 arg4 arg5 arg6 arg7 arg8 q ids x2 x3 x4 x5 x6 x7 x8
        ∗ (∃ Y, owns (c : Thread nD τ) arg9 fullShare Y) ∗ owns (c : Thread nD τ) arg10 fullShare Y10
        ∗ junk c arg11 arg12 arg13 arg14 arg15 arg16 arg17 arg18) ⊢
      iprop((iprop(inputs c arg1 arg2 arg3 arg4 arg5 arg6 arg7 arg8 q ids x2 x3 x4 x5 x6 x7 x8
            ∗ owns (c : Thread nD τ) arg9 fullShare (deOut ids (i 0).val x2 x3 (hhG x4 x5) (embG x8)) ∗ owns (c : Thread nD τ) arg10 fullShare (dhOut i (accNext x2 x3 x6 x7 acc0) Y10)
            ∗ state c arg11 arg12 arg13 arg14 arg15 arg16 arg17 arg18 ids (hhG x4 x5) (embG x8) (accNext x2 x3 x6 x7 acc0))
          -∗ Q ⟨⟩)
        -∗ wp frame (wpE (defs₀ (F := F)) 𝒱₀ (c : Thread nD τ) none) Set.univ
            (cc0_tied_embedding_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q) := by
  rw [body_eq]
  unfold body
  rw [dif_pos h1]
  iintro ⟨HI, H9, H10, HJ⟩ Hk
  unfold junk
  icases HJ with ⟨H11, H12, H13, H14, H15, H16, H17, H18⟩
  unfold inputs
  icases HI with ⟨H1, H2, H3, H4, H5, H6, H7, H8⟩
  iapply (init_spec c i h1 arg1 arg4 arg5 arg8 arg11 harg11 arg12 arg16 arg17 arg18 q ids hids x4 x5 x8) $$ [H1 H4 H5 H8 H11 H12 H16 H17 H18]
  · isplitl [H1]; · iexact H1
    isplitl [H4]; · iexact H4
    isplitl [H5]; · iexact H5
    isplitl [H8]; · iexact H8
    isplitl [H11]; · iexact H11
    isplitl [H12]; · iexact H12
    isplitl [H16]; · iexact H16
    isplitl [H17]; · iexact H17
    iexact H18
  iintro ⟨H1, H4, H5, H8, H11, H12, H16, H17, H18⟩
  iapply (rest_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q ids hids x2 x3 x4 x5 x6 x7 x8 (hhG x4 x5) (embG x8) acc0 Y10) $$ [H1 H2 H3 H4 H5 H6 H7 H8 H9 H10 H11 H12 H13 H14 H15 H16 H17 H18]
  · unfold inputs state
    isplitl [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  unfold inputs
  iexact Hk

/-- The body at a later point, from the state the point before left. -/
theorem later_spec (c : Dev nD) (i : grid0.Coords) (arg1 : Memref sig .tc .smem S768 .i32) (harg1 : arg1.IsWhole) (arg2 : Memref sig .tc .vmem S768x768 .fp8e5m2) (harg2 : arg2.IsWhole) (arg3 : Memref sig .tc .vmem S6x2x384 .f32) (harg3 : arg3.IsWhole) (arg4 : Memref sig .tc .vmem S768x1152 .fp8e4m3) (harg4 : arg4.IsWhole) (arg5 : Memref sig .tc .vmem S2x384 .f32) (harg5 : arg5.IsWhole) (arg6 : Memref sig .tc .vmem S576x768 .i8) (harg6 : arg6.IsWhole) (arg7 : Memref sig .tc .vmem S36x768 .f32) (harg7 : arg7.IsWhole) (arg8 : Memref sig .tc .vmem S768x1152 .bf16) (harg8 : arg8.IsWhole) (arg9 : Memref sig .tc .vmem S768x1152 .f32) (harg9 : arg9.IsWhole) (arg10 : Memref sig .tc .vmem S768x1152 .bf16) (harg10 : arg10.IsWhole) (arg11 : Memref sig .tc .vmem S768x1152 .bf16) (harg11 : arg11.IsWhole) (arg12 : Memref sig .tc .vmem S768x1152 .f32) (harg12 : arg12.IsWhole) (arg13 : Memref sig .tc .vmem S768x768 .bf16) (harg13 : arg13.IsWhole) (arg14 : Memref sig .tc .vmem S1152x768 .bf16) (harg14 : arg14.IsWhole) (arg15 : Memref sig .tc .vmem S36x768 .f32) (harg15 : arg15.IsWhole) (arg16 : Memref sig .tc .vmem S1152x768 .f32) (harg16 : arg16.IsWhole) (arg17 : Memref sig .tc .smem S167 .i32) (harg17 : arg17.IsWhole) (arg18 : Memref sig .tc .smem S768 .i32) (harg18 : arg18.IsWhole)
    (q : PosShare TreeShare) (ids : S768.Idx → BitVec 32) (hids : InVocab ids) (x2 : Vec F S768x768 .fp8e5m2) (x3 : Vec F S6x2x384 .f32)
    (x4 : Vec F S768x1152 .fp8e4m3) (x5 : Vec F S2x384 .f32) (x6 : Vec F S576x768 .i8) (x7 : Vec F S36x768 .f32) (x8 : Vec F S768x1152 .bf16)
    (H : FVec F S768x1152 .bf16) (D : FVec F S768x1152 .f32) (A : FVec F S1152x768 .f32) (Y10 : FVec F S768x1152 .bf16)
    (h1 : ¬k0_cond1 i = 1#1) {Q : PUnit → sProp 𝕄} :
    iprop(inputs c arg1 arg2 arg3 arg4 arg5 arg6 arg7 arg8 q ids x2 x3 x4 x5 x6 x7 x8
        ∗ (∃ Y, owns (c : Thread nD τ) arg9 fullShare Y) ∗ owns (c : Thread nD τ) arg10 fullShare Y10
        ∗ state c arg11 arg12 arg13 arg14 arg15 arg16 arg17 arg18 ids H D A) ⊢
      iprop((iprop(inputs c arg1 arg2 arg3 arg4 arg5 arg6 arg7 arg8 q ids x2 x3 x4 x5 x6 x7 x8
            ∗ owns (c : Thread nD τ) arg9 fullShare (deOut ids (i 0).val x2 x3 H D) ∗ owns (c : Thread nD τ) arg10 fullShare (dhOut i (accNext x2 x3 x6 x7 A) Y10)
            ∗ state c arg11 arg12 arg13 arg14 arg15 arg16 arg17 arg18 ids H D (accNext x2 x3 x6 x7 A))
          -∗ Q ⟨⟩)
        -∗ wp frame (wpE (defs₀ (F := F)) 𝒱₀ (c : Thread nD τ) none) Set.univ
            (cc0_tied_embedding_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q) := by
  rw [body_eq]
  unfold body
  rw [dif_neg h1]
  exact rest_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q ids hids x2 x3 x4 x5 x6 x7 x8 H D A Y10

end Cert.Proof.KI
-- ==== Proof.KI.Frame.lean ====
/- The pipelined call: what every window and scratch buffer holds at each grid point, and the run of the whole program. -/
module

public import proofs.«01_k».proof.Proof.KI.Body
public import proofs.«01_k».proof.Proof.Gen.KernelIdeal.Launch
public import Idealize.ShloMosaic.Lib.Pipeline.FrameBody
public import Idealize.ShloMosaic.Lib.Pipeline.Kit
public import Idealize.ShloMosaic.Lib.WordCmp

@[expose] public section

set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- A core's buffers when the pipelined call starts. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

set_option maxHeartbeats 800000 in
/-- The program up to the pipelined call. -/
theorem hmain (𝒱 : Variants) : Pipeline.HMainP (Ix := Unit) (Name := ℕ) (U := UR sig nD τ) (Lvl := ℕ) pcfgs 0 defs₀ 𝒱 m (main (F := F)) (V m) :=
  Pipeline.hmainP_prefix pcfgs 0 defs₀ 𝒱 m main hostOps0 hostOps0_sub hostOps0_fresh main_chain

/-- A buffer that no host operation writes is as launched. -/
theorem V_keep (c : Dev nD) (b : Ref sig .tc) (h : b ∉ [main_v0, main_v1, main_v2, main_v3, main_v4, main_v5, main_v6]) :
    V m c b = m ((c : Thread nD τ).loc b) :=
  StableHlo.after_of_forall_not_mem (b := Proc.devRef .tc b) _ _ (List.forall_iff_forall_mem.mp (by
    simp only [List.mem_cons, List.not_mem_nil, or_false, not_or] at h
    obtain ⟨h0, h1, h2, h3, h4, h5, h6⟩ := h
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

/-! ## The table of token ids -/

/-- The tables' contents when the call starts. -/
def tbl : pre0.Contents (Elt F) := fun j => V m (0 : Dev nD) (pre0.ref j)
/-- They are the same on every device: there is one. -/
theorem V_pre (c : Dev nD) (j : Fin 1) : V m c (pre0.ref j) = tbl m j := by
  obtain rfl : c = 0 := Subsingleton.elim _ _; rfl
/-- The token ids. -/
abbrev idsM : S768.Idx → BitVec 32 := tbl m 0
/-- No index map reads the table, so any contents will do. -/
abbrev Ok : Prop := ok0 (F := F) (tbl m)
/-- The table's contents as admissible ones. -/
abbrev adm (hO : Ok m) : (pcfg0 (F := F)).Adm := ⟨tbl m, hO⟩
/-- The pipeline at the table's contents. -/
abbrev cfgM (hO : Ok m) : Pipeline.Cfg sig (Λ₀ F) := cfg0 (adm m hO)
/-- The table as the body is handed it. -/
abbrev tbM : Memref sig .tc .smem S768 .i32 := Memref.whole main_v6

/-- The half of the table that the body holds. -/
theorem PhiT_eq (c : Dev nD) : (Pipeline.ΦT pre0 (tbl m) c : sProp 𝕄) = owns (c : Thread nD τ) tbM fullShare.right (idsM m) := by
  unfold Pipeline.ΦT Pipeline.prefHeld
  rw [show (Finset.univ : Finset (Fin 1)) = {(0 : Fin 1)} from by decide, bigSep_singleton, owns_whole]
  rfl

/-! ## The windows -/

/-- A window's block at a point, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0 holds its block at every point. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 holds its block at every point. -/
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 holds its block at every point. -/
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 holds its block at every point. -/
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 holds its block at every point. -/
theorem before4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5 holds its block at every point. -/
theorem before5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6 holds its block at every point. -/
theorem before6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The branch conditions -/

/-- The first branch is taken at the first point only. -/
theorem hcond1 (t : Fin grid0.N) : k0_cond1 (grid0.coords t) = 1#1 ↔ t.val = 0 := by
  have ht : t.val < 167 := Nat.lt_of_lt_of_eq t.isLt N_0
  have e0 : (grid0.coords t 0).val = t.val / 1 % 167 := Pipeline.Grid.coords_val t 0 (by decide) rfl
  simp only [k0_cond1, e0]
  word_cmp

/-- The last branch is taken at the last point only. -/
theorem hcond2 (t : Fin grid0.N) : k0_cond2 (grid0.coords t) = 1#1 ↔ t.val = 166 := by
  have ht : t.val < 167 := Nat.lt_of_lt_of_eq t.isLt N_0
  have e0 : (grid0.coords t 0).val = t.val / 1 % 167 := Pipeline.Grid.coords_val t 0 (by decide) rfl
  simp only [k0_cond2, e0]
  word_cmp

/-- The grid coordinate is the point's number. -/
theorem coord_eq (t : Fin grid0.N) : (grid0.coords t 0).val = t.val := by
  have ht : t.val < 167 := Nat.lt_of_lt_of_eq t.isLt N_0
  have e0 : (grid0.coords t 0).val = t.val / 1 % 167 := Pipeline.Grid.coords_val t 0 (by decide) rfl
  omega

/-- Every window but the last is used at every point. -/
theorem liveAt (hO : Ok m) (w : Fin 9) (hw : w ≠ 8) (t : Fin (cfgM m hO).N) : (cfgM m hO).idle w (grid0.coords t) = false := by
  revert hw; revert w; intro w
  show w ≠ 8 → idle0 w (grid0.coords t) = false
  fin_cases w <;> first | (intro _; rfl) | (intro h; exact absurd rfl h)

/-- The last window is idle except at the last point. -/
theorem idleAt (hO : Ok m) : ∀ t : Fin (cfgM m hO).N, ¬t.val = 166 → (cfgM m hO).idle 8 (grid0.coords t) = true :=
  (by decide +kernel : ∀ t : Fin grid0.N, ¬t.val = 166 → idle0 8 (grid0.coords t) = true)
/-- It is not written back there. -/
theorem noFlushAt (hO : Ok m) : ∀ t : Fin (cfgM m hO).N, ¬t.val = 166 → ((cfgM m hO).win 8).flush t = false :=
  (by decide +kernel : ∀ t : Fin grid0.N, ¬t.val = 166 → Pipeline.Window.flushOf grid0 true cc0_transform_8 t = false)
/-- It is used at the last point. -/
theorem lastAt (hO : Ok m) : ∀ t : Fin (cfgM m hO).N, t.val = 166 → (cfgM m hO).idle 8 (grid0.coords t) = false :=
  (by decide +kernel : ∀ t : Fin grid0.N, t.val = 166 → idle0 8 (grid0.coords t) = false)

/-! ## The buffers of a point -/

/-- Window 0's buffer at a point. -/
abbrev ms0 (hO : Ok m) (t : Fin (cfgM m hO).N) : Memref sig .tc .vmem S768x768 .fp8e5m2 := spec0_0.stage ((cfgM m hO).slots t 0)
/-- It is a whole buffer. -/
abbrev hs0 (hO : Ok m) (t : Fin (cfgM m hO).N) : (ms0 m hO t).IsWhole := hstage0_0 (((cfgM m hO).slots t 0).cast nbuf0_0)

/-- Window 1's buffer at a point. -/
abbrev ms1 (hO : Ok m) (t : Fin (cfgM m hO).N) : Memref sig .tc .vmem S6x2x384 .f32 := spec0_1.stage ((cfgM m hO).slots t 1)
/-- It is a whole buffer. -/
abbrev hs1 (hO : Ok m) (t : Fin (cfgM m hO).N) : (ms1 m hO t).IsWhole := hstage0_1 (((cfgM m hO).slots t 1).cast nbuf0_1)

/-- Window 2's buffer at a point. -/
abbrev ms2 (hO : Ok m) (t : Fin (cfgM m hO).N) : Memref sig .tc .vmem S768x1152 .fp8e4m3 := spec0_2.stage ((cfgM m hO).slots t 2)
/-- It is a whole buffer. -/
abbrev hs2 (hO : Ok m) (t : Fin (cfgM m hO).N) : (ms2 m hO t).IsWhole := hstage0_2 (((cfgM m hO).slots t 2).cast nbuf0_2)

/-- Window 3's buffer at a point. -/
abbrev ms3 (hO : Ok m) (t : Fin (cfgM m hO).N) : Memref sig .tc .vmem S2x384 .f32 := spec0_3.stage ((cfgM m hO).slots t 3)
/-- It is a whole buffer. -/
abbrev hs3 (hO : Ok m) (t : Fin (cfgM m hO).N) : (ms3 m hO t).IsWhole := hstage0_3 (((cfgM m hO).slots t 3).cast nbuf0_3)

/-- Window 4's buffer at a point. -/
abbrev ms4 (hO : Ok m) (t : Fin (cfgM m hO).N) : Memref sig .tc .vmem S576x768 .i8 := spec0_4.stage ((cfgM m hO).slots t 4)
/-- It is a whole buffer. -/
abbrev hs4 (hO : Ok m) (t : Fin (cfgM m hO).N) : (ms4 m hO t).IsWhole := hstage0_4 (((cfgM m hO).slots t 4).cast nbuf0_4)

/-- Window 5's buffer at a point. -/
abbrev ms5 (hO : Ok m) (t : Fin (cfgM m hO).N) : Memref sig .tc .vmem S36x768 .f32 := spec0_5.stage ((cfgM m hO).slots t 5)
/-- It is a whole buffer. -/
abbrev hs5 (hO : Ok m) (t : Fin (cfgM m hO).N) : (ms5 m hO t).IsWhole := hstage0_5 (((cfgM m hO).slots t 5).cast nbuf0_5)

/-- Window 6's buffer at a point. -/
abbrev ms6 (hO : Ok m) (t : Fin (cfgM m hO).N) : Memref sig .tc .vmem S768x1152 .bf16 := spec0_6.stage ((cfgM m hO).slots t 6)
/-- It is a whole buffer. -/
abbrev hs6 (hO : Ok m) (t : Fin (cfgM m hO).N) : (ms6 m hO t).IsWhole := hstage0_6 (((cfgM m hO).slots t 6).cast nbuf0_6)

/-- Window 7's buffer at a point. -/
abbrev ms7 (hO : Ok m) (t : Fin (cfgM m hO).N) : Memref sig .tc .vmem S768x1152 .f32 := spec0_7.stage ((cfgM m hO).slots t 7)
/-- It is a whole buffer. -/
abbrev hs7 (hO : Ok m) (t : Fin (cfgM m hO).N) : (ms7 m hO t).IsWhole := hstage0_7 (((cfgM m hO).slots t 7).cast nbuf0_7)

/-- Window 8's buffer at a point. -/
abbrev ms8 (hO : Ok m) (t : Fin (cfgM m hO).N) : Memref sig .tc .vmem S768x1152 .bf16 := spec0_8.stage ((cfgM m hO).slots t 8)
/-- It is a whole buffer. -/
abbrev hs8 (hO : Ok m) (t : Fin (cfgM m hO).N) : (ms8 m hO t).IsWhole := hstage0_8 (((cfgM m hO).slots t 8).cast nbuf0_8)

/-- Scratch buffer 0. -/
abbrev sc0 : Memref sig .tc .vmem S768x1152 .bf16 := Memref.whole cc0_scratch0

/-- Scratch buffer 1. -/
abbrev sc1 : Memref sig .tc .vmem S768x1152 .f32 := Memref.whole cc0_scratch1

/-- Scratch buffer 2. -/
abbrev sc2 : Memref sig .tc .vmem S768x768 .bf16 := Memref.whole cc0_scratch2

/-- Scratch buffer 3. -/
abbrev sc3 : Memref sig .tc .vmem S1152x768 .bf16 := Memref.whole cc0_scratch3

/-- Scratch buffer 4. -/
abbrev sc4 : Memref sig .tc .vmem S36x768 .f32 := Memref.whole cc0_scratch4

/-- Scratch buffer 5. -/
abbrev sc5 : Memref sig .tc .vmem S1152x768 .f32 := Memref.whole cc0_scratch5

/-- Scratch buffer 6. -/
abbrev sc6 : Memref sig .tc .smem S167 .i32 := Memref.whole cc0_scratch6

/-- Scratch buffer 7. -/
abbrev sc7 : Memref sig .tc .smem S768 .i32 := Memref.whole cc0_scratch7

/-- The body as the pipeline calls it at a point. -/
abbrev bodyAt (hO : Ok m) (t : Fin (cfgM m hO).N) : Prog (TpuEff nD τ sig (Elt F) (Λ₀ F) .tc) PUnit :=
  cc0_tied_embedding_grad (grid0.coords t) tbM (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _)

/-- The scratch buffers at anything, and the generator register at any state. -/
theorem PhiA_eq (c : Dev nD) :
    (Pipeline.ΦA spec0 c : sProp 𝕄)
      = iprop(junk c sc0 sc1 sc2 sc3 sc4 sc5 sc6 sc7 ∗ (∃ r, prngReg c r)) := by
  unfold Pipeline.ΦA junk; rw [scopedRest0_eq]; simp only [sc0, sc1, sc2, sc3, sc4, sc5, sc6, sc7, owns_whole]; try rfl

/-! ## What the points leave -/

/-- The first point. -/
abbrev pt0 (hO : Ok m) : Fin (cfgM m hO).N := ⟨0, Nat.lt_of_lt_of_eq (by decide : 0 < 167) N_0.symm⟩

/-- The dequantised hidden states. -/
def hhM (hO : Ok m) (c : Dev nD) : FVec F S768x1152 .bf16 := hhG (iblk m hO c 2 (pt0 m hO)) (iblk m hO c 3 (pt0 m hO))
/-- The wide embedding gradients. -/
def embM (hO : Ok m) (c : Dev nD) : FVec F S768x1152 .f32 := embG (iblk m hO c 6 (pt0 m hO))

/-- The accumulator after a point, from the one before it. -/
def accStep (hO : Ok m) (c : Dev nD) (t : Fin (cfgM m hO).N) (A : FVec F S1152x768 .f32) : FVec F S1152x768 .f32 :=
  accNext (iblk m hO c 0 t) (iblk m hO c 1 t) (iblk m hO c 4 t) (iblk m hO c 5 t) A

/-- The accumulator after point `n`. -/
def accAt (hO : Ok m) (c : Dev nD) : (n : ℕ) → n < (cfgM m hO).N → FVec F S1152x768 .f32
  | 0, h => accStep m hO c ⟨0, h⟩ acc0
  | n + 1, h => accStep m hO c ⟨n + 1, h⟩ (accAt hO c n (Nat.lt_of_succ_lt h))

/-- The first result's block written at a point. -/
def deM (hO : Ok m) (c : Dev nD) (t : Fin (cfgM m hO).N) : FVec F S768x1152 .f32 :=
  deOut (idsM m) t.val (iblk m hO c 0 t) (iblk m hO c 1 t) (hhM m hO c) (embM m hO c)

/-- What is held between points. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(state c sc0 sc1 sc2 sc3 sc4 sc5 sc6 sc7 (idsM m) (hhM m hO c) (embM m hO c) (accAt m hO c n hn) ∗ (∃ r, prngReg c r)) ∗ Pipeline.ΦT pre0 (tbl m) c)

/-- Before the first point. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After a point. -/
theorem PhiS_succ (hO : Ok m) (c : Dev nD) (n : ℕ) (hn : n < (cfgM m hO).N) :
    PhiS m hO c (n + 1) hn = iprop(iprop(state c sc0 sc1 sc2 sc3 sc4 sc5 sc6 sc7 (idsM m) (hhM m hO c) (embM m hO c) (accAt m hO c n hn) ∗ (∃ r, prngReg c r)) ∗ Pipeline.ΦT pre0 (tbl m) c) := rfl

/-- The proof data of the pipeline. -/
def dats (hO : Ok m) (_ : Fin 1) (c : Dev nD) : Dat τ (Elt F) Unit ℕ (UR sig nD τ) ℕ (cfgM m hO) c where
  A w := V m c (Pipeline.arrRef spec0 w)
  after w t := match w with

    | ⟨0, _⟩ => iblk m hO c 0 t

    | ⟨1, _⟩ => iblk m hO c 1 t

    | ⟨2, _⟩ => iblk m hO c 2 t

    | ⟨3, _⟩ => iblk m hO c 3 t

    | ⟨4, _⟩ => iblk m hO c 4 t

    | ⟨5, _⟩ => iblk m hO c 5 t

    | ⟨6, _⟩ => iblk m hO c 6 t

    | ⟨7, _⟩ => deM m hO c t
    | ⟨8, _⟩ => dhG (accAt m hO c t.val t.isLt)
  Φ t := PhiS m hO c t.val (Nat.le_of_lt_succ t.isLt)
  q _ := fullShare
  owed _ := 0

/-- The arrays are as the call finds them. -/
theorem A_eq (hO : Ok m) (c : Dev nD) (w : Fin (cfgM m hO).W) : (dats m hO 0 c).A w = V m c (Pipeline.arrRef spec0 w) := by
  dsimp only [dats]

/-- The invariant at a point's start. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves in window 0. -/
theorem after0 (hO : Ok m) (c : Dev nD) (t : Fin (cfgM m hO).N) : (dats m hO 0 c).after 0 t = iblk m hO c 0 t := by dsimp only [dats]; try rfl

/-- What the body leaves in window 1. -/
theorem after1 (hO : Ok m) (c : Dev nD) (t : Fin (cfgM m hO).N) : (dats m hO 0 c).after 1 t = iblk m hO c 1 t := by dsimp only [dats]; try rfl

/-- What the body leaves in window 2. -/
theorem after2 (hO : Ok m) (c : Dev nD) (t : Fin (cfgM m hO).N) : (dats m hO 0 c).after 2 t = iblk m hO c 2 t := by dsimp only [dats]; try rfl

/-- What the body leaves in window 3. -/
theorem after3 (hO : Ok m) (c : Dev nD) (t : Fin (cfgM m hO).N) : (dats m hO 0 c).after 3 t = iblk m hO c 3 t := by dsimp only [dats]; try rfl

/-- What the body leaves in window 4. -/
theorem after4 (hO : Ok m) (c : Dev nD) (t : Fin (cfgM m hO).N) : (dats m hO 0 c).after 4 t = iblk m hO c 4 t := by dsimp only [dats]; try rfl

/-- What the body leaves in window 5. -/
theorem after5 (hO : Ok m) (c : Dev nD) (t : Fin (cfgM m hO).N) : (dats m hO 0 c).after 5 t = iblk m hO c 5 t := by dsimp only [dats]; try rfl

/-- What the body leaves in window 6. -/
theorem after6 (hO : Ok m) (c : Dev nD) (t : Fin (cfgM m hO).N) : (dats m hO 0 c).after 6 t = iblk m hO c 6 t := by dsimp only [dats]; try rfl

/-- What the body leaves in window 7. -/
theorem after7 (hO : Ok m) (c : Dev nD) (t : Fin (cfgM m hO).N) : (dats m hO 0 c).after 7 t = deM m hO c t := by dsimp only [dats]; try rfl

/-- What the body leaves in window 8. -/
theorem after8 (hO : Ok m) (c : Dev nD) (t : Fin (cfgM m hO).N) : (dats m hO 0 c).after 8 t = dhG (accAt m hO c t.val t.isLt) := by dsimp only [dats]; try rfl

/-- What the body finds in window 0. -/
theorem before0 (hO : Ok m) (c : Dev nD) (t : Fin (cfgM m hO).N) (d) : (dats m hO 0 c).before 0 t d = iblk m hO c 0 t :=
  before0_of m hO (dats m hO 0 c) (A_eq m hO c 0) (after0 m hO c) t d

/-- What the body finds in window 1. -/
theorem before1 (hO : Ok m) (c : Dev nD) (t : Fin (cfgM m hO).N) (d) : (dats m hO 0 c).before 1 t d = iblk m hO c 1 t :=
  before1_of m hO (dats m hO 0 c) (A_eq m hO c 1) (after1 m hO c) t d

/-- What the body finds in window 2. -/
theorem before2 (hO : Ok m) (c : Dev nD) (t : Fin (cfgM m hO).N) (d) : (dats m hO 0 c).before 2 t d = iblk m hO c 2 t :=
  before2_of m hO (dats m hO 0 c) (A_eq m hO c 2) (after2 m hO c) t d

/-- What the body finds in window 3. -/
theorem before3 (hO : Ok m) (c : Dev nD) (t : Fin (cfgM m hO).N) (d) : (dats m hO 0 c).before 3 t d = iblk m hO c 3 t :=
  before3_of m hO (dats m hO 0 c) (A_eq m hO c 3) (after3 m hO c) t d

/-- What the body finds in window 4. -/
theorem before4 (hO : Ok m) (c : Dev nD) (t : Fin (cfgM m hO).N) (d) : (dats m hO 0 c).before 4 t d = iblk m hO c 4 t :=
  before4_of m hO (dats m hO 0 c) (A_eq m hO c 4) (after4 m hO c) t d

/-- What the body finds in window 5. -/
theorem before5 (hO : Ok m) (c : Dev nD) (t : Fin (cfgM m hO).N) (d) : (dats m hO 0 c).before 5 t d = iblk m hO c 5 t :=
  before5_of m hO (dats m hO 0 c) (A_eq m hO c 5) (after5 m hO c) t d

/-- What the body finds in window 6. -/
theorem before6 (hO : Ok m) (c : Dev nD) (t : Fin (cfgM m hO).N) (d) : (dats m hO 0 c).before 6 t d = iblk m hO c 6 t :=
  before6_of m hO (dats m hO 0 c) (A_eq m hO c 6) (after6 m hO c) t d

/-- A window in use must hold what the body leaves. -/
theorem leaves_live {cfg : Cfg sig (Λ₀ F)} {c : Dev nD} (dat : Dat τ (Elt F) Unit ℕ (UR sig nD τ) ℕ cfg c) (w : Fin cfg.W) (t : Fin cfg.N)
    (hi : cfg.idle w (cfg.grid.coords t) = false) :
    (dat.leavesExact w t : sProp 𝕄) = owns (c : Thread nD τ) ((cfg.win w).stage (cfg.slots t w)) fullShare (dat.after w t) := by
  unfold Dat.leavesExact; rw [hi]

/-- What window 0 must hold after the body. -/
theorem leaves0 (hO : Ok m) (c : Dev nD) (t : Fin (cfgM m hO).N) :
    owns (c : Thread nD τ) (ms0 m hO t) fullShare (iblk m hO c 0 t) ⊢ ((dats m hO 0 c).leavesExact 0 t : sProp 𝕄) :=
  ((leaves_live (dats m hO 0 c) 0 t (liveAt m hO 0 (by decide) t)).trans (congrArg (fun X => owns (c : Thread nD τ) (ms0 m hO t) fullShare X) (after0 m hO c t))).symm.subst
    (motive := fun P => owns (c : Thread nD τ) (ms0 m hO t) fullShare (iblk m hO c 0 t) ⊢ P) (Idealize.SL.BI.Entails.refl _)

/-- What window 1 must hold after the body. -/
theorem leaves1 (hO : Ok m) (c : Dev nD) (t : Fin (cfgM m hO).N) :
    owns (c : Thread nD τ) (ms1 m hO t) fullShare (iblk m hO c 1 t) ⊢ ((dats m hO 0 c).leavesExact 1 t : sProp 𝕄) :=
  ((leaves_live (dats m hO 0 c) 1 t (liveAt m hO 1 (by decide) t)).trans (congrArg (fun X => owns (c : Thread nD τ) (ms1 m hO t) fullShare X) (after1 m hO c t))).symm.subst
    (motive := fun P => owns (c : Thread nD τ) (ms1 m hO t) fullShare (iblk m hO c 1 t) ⊢ P) (Idealize.SL.BI.Entails.refl _)

/-- What window 2 must hold after the body. -/
theorem leaves2 (hO : Ok m) (c : Dev nD) (t : Fin (cfgM m hO).N) :
    owns (c : Thread nD τ) (ms2 m hO t) fullShare (iblk m hO c 2 t) ⊢ ((dats m hO 0 c).leavesExact 2 t : sProp 𝕄) :=
  ((leaves_live (dats m hO 0 c) 2 t (liveAt m hO 2 (by decide) t)).trans (congrArg (fun X => owns (c : Thread nD τ) (ms2 m hO t) fullShare X) (after2 m hO c t))).symm.subst
    (motive := fun P => owns (c : Thread nD τ) (ms2 m hO t) fullShare (iblk m hO c 2 t) ⊢ P) (Idealize.SL.BI.Entails.refl _)

/-- What window 3 must hold after the body. -/
theorem leaves3 (hO : Ok m) (c : Dev nD) (t : Fin (cfgM m hO).N) :
    owns (c : Thread nD τ) (ms3 m hO t) fullShare (iblk m hO c 3 t) ⊢ ((dats m hO 0 c).leavesExact 3 t : sProp 𝕄) :=
  ((leaves_live (dats m hO 0 c) 3 t (liveAt m hO 3 (by decide) t)).trans (congrArg (fun X => owns (c : Thread nD τ) (ms3 m hO t) fullShare X) (after3 m hO c t))).symm.subst
    (motive := fun P => owns (c : Thread nD τ) (ms3 m hO t) fullShare (iblk m hO c 3 t) ⊢ P) (Idealize.SL.BI.Entails.refl _)

/-- What window 4 must hold after the body. -/
theorem leaves4 (hO : Ok m) (c : Dev nD) (t : Fin (cfgM m hO).N) :
    owns (c : Thread nD τ) (ms4 m hO t) fullShare (iblk m hO c 4 t) ⊢ ((dats m hO 0 c).leavesExact 4 t : sProp 𝕄) :=
  ((leaves_live (dats m hO 0 c) 4 t (liveAt m hO 4 (by decide) t)).trans (congrArg (fun X => owns (c : Thread nD τ) (ms4 m hO t) fullShare X) (after4 m hO c t))).symm.subst
    (motive := fun P => owns (c : Thread nD τ) (ms4 m hO t) fullShare (iblk m hO c 4 t) ⊢ P) (Idealize.SL.BI.Entails.refl _)

/-- What window 5 must hold after the body. -/
theorem leaves5 (hO : Ok m) (c : Dev nD) (t : Fin (cfgM m hO).N) :
    owns (c : Thread nD τ) (ms5 m hO t) fullShare (iblk m hO c 5 t) ⊢ ((dats m hO 0 c).leavesExact 5 t : sProp 𝕄) :=
  ((leaves_live (dats m hO 0 c) 5 t (liveAt m hO 5 (by decide) t)).trans (congrArg (fun X => owns (c : Thread nD τ) (ms5 m hO t) fullShare X) (after5 m hO c t))).symm.subst
    (motive := fun P => owns (c : Thread nD τ) (ms5 m hO t) fullShare (iblk m hO c 5 t) ⊢ P) (Idealize.SL.BI.Entails.refl _)

/-- What window 6 must hold after the body. -/
theorem leaves6 (hO : Ok m) (c : Dev nD) (t : Fin (cfgM m hO).N) :
    owns (c : Thread nD τ) (ms6 m hO t) fullShare (iblk m hO c 6 t) ⊢ ((dats m hO 0 c).leavesExact 6 t : sProp 𝕄) :=
  ((leaves_live (dats m hO 0 c) 6 t (liveAt m hO 6 (by decide) t)).trans (congrArg (fun X => owns (c : Thread nD τ) (ms6 m hO t) fullShare X) (after6 m hO c t))).symm.subst
    (motive := fun P => owns (c : Thread nD τ) (ms6 m hO t) fullShare (iblk m hO c 6 t) ⊢ P) (Idealize.SL.BI.Entails.refl _)

/-- What window 7 must hold after the body. -/
theorem leaves7 (hO : Ok m) (c : Dev nD) (t : Fin (cfgM m hO).N) :
    owns (c : Thread nD τ) (ms7 m hO t) fullShare (deM m hO c t) ⊢ ((dats m hO 0 c).leavesExact 7 t : sProp 𝕄) :=
  ((leaves_live (dats m hO 0 c) 7 t (liveAt m hO 7 (by decide) t)).trans (congrArg (fun X => owns (c : Thread nD τ) (ms7 m hO t) fullShare X) (after7 m hO c t))).symm.subst
    (motive := fun P => owns (c : Thread nD τ) (ms7 m hO t) fullShare (deM m hO c t) ⊢ P) (Idealize.SL.BI.Entails.refl _)

/-- What the body is called with at a point. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d))
    ∗ (∃ d, owns (c : Thread nD τ) (ms8 m hO t) fullShare ((dats m hO 0 c).before 8 t d)))

/-- What it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t)

/-- The last window's buffer after the body is what the pipeline wants of it. -/
theorem leaves8 (hO : Ok m) (c : Dev nD) (t : Fin (cfgM m hO).N) (d) :
    owns (c : Thread nD τ) (ms8 m hO t) fullShare (dhOut (grid0.coords t) (accAt m hO c t.val t.isLt) ((dats m hO 0 c).before 8 t d))
      ⊢ ((dats m hO 0 c).leavesExact 8 t : sProp 𝕄) := by
  by_cases h2 : t.val = 166
  · have e : dhOut (grid0.coords t) (accAt m hO c t.val t.isLt) ((dats m hO 0 c).before 8 t d) = dhG (accAt m hO c t.val t.isLt) :=
      if_pos ((hcond2 t).mpr h2)
    refine e.symm.subst (motive := fun X => owns (c : Thread nD τ) (ms8 m hO t) fullShare X ⊢ ((dats m hO 0 c).leavesExact 8 t : sProp 𝕄)) ?_
    exact ((leaves_live (dats m hO 0 c) 8 t (lastAt m hO t h2)).trans
      (congrArg (fun X => owns (c : Thread nD τ) (ms8 m hO t) fullShare X) (after8 m hO c t))).symm.subst
      (motive := fun P => owns (c : Thread nD τ) (ms8 m hO t) fullShare (dhG (accAt m hO c t.val t.isLt)) ⊢ P) (Idealize.SL.BI.Entails.refl _)
  · have e : dhOut (grid0.coords t) (accAt m hO c t.val t.isLt) ((dats m hO 0 c).before 8 t d) = (dats m hO 0 c).before 8 t d :=
      if_neg (fun h => h2 ((hcond2 t).mp h))
    refine e.symm.subst (motive := fun X => owns (c : Thread nD τ) (ms8 m hO t) fullShare X ⊢ ((dats m hO 0 c).leavesExact 8 t : sProp 𝕄)) ?_
    rw [Dat.leavesExact_idle (dats m hO 0 c) 8 t (idleAt m hO t h2) (noFlushAt m hO t h2)]
    iintro H; iexists _; iexact H

set_option maxHeartbeats 4800000 in
/-- The body at any point. -/
theorem sound_body (hO : Ok m) (hids : InVocab (idsM m)) (c : Dev nD) (t : Fin (cfgM m hO).N) :
    bodyPre m hO c t ⊢ wp frame (wpE (defs₀ (F := F)) 𝒱₀ c none) Set.univ (bodyAt m hO t) (fun _ => bodyPost m hO c t) := by
  have hN : t.val < 167 := lt_of_lt_of_eq t.isLt (show (cfgM m hO).N = 167 from N_0)
  have htm := t.isLt
  unfold bodyPre bodyPost
  simp only [before0, before1, before2, before3, before4, before5, before6]
  rw [show (dats m hO 0 c).owesAt () t.succ = (dats m hO 0 c).owesAt () t.castSucc from rfl,
    show (dats m hO 0 c).Φ t.succ = PhiS m hO c (t.val + 1) t.isLt from rfl, PhiS_succ, PhiT_eq, PhiS_castSucc]
  by_cases hz : t.val = 0
  · rw [PhiS_zero m hO c _ _ hz, PhiT_eq, PhiA_eq]
    have hacc : accAt m hO c t.val t.isLt = accStep m hO c t acc0 := by
      obtain ⟨n, hn⟩ := t; obtain rfl : n = 0 := hz; rfl
    have h2 : hhM m hO c = hhG (iblk m hO c 2 t) (iblk m hO c 3 t) := by
      obtain ⟨n, hn⟩ := t; obtain rfl : n = 0 := hz; rfl
    have h6 : embM m hO c = embG (iblk m hO c 6 t) := by
      obtain ⟨n, hn⟩ := t; obtain rfl : n = 0 := hz; rfl
    iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (first_spec c (grid0.coords t) tbM (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) fullShare.right (idsM m) hids (iblk m hO c 0 t) (iblk m hO c 1 t) (iblk m hO c 2 t) (iblk m hO c 3 t) (iblk m hO c 4 t) (iblk m hO c 5 t) (iblk m hO c 6 t) ((dats m hO 0 c).before 8 t d8) (hcond1 t |>.mpr hz)) $$ [HT H0 H1 H2 H3 H4 H5 H6 H7 H8 HS]
    · unfold inputs
      isplitl [HT H0 H1 H2 H3 H4 H5 H6]
      · isplitl [HT]; · iexact HT
        isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      isplitl [H8]; · iexact H8
      iexact HS
    rw [← h2, ← h6, coord_eq, ← show accAt m hO c t.val t.isLt = accNext (iblk m hO c 0 t) (iblk m hO c 1 t) (iblk m hO c 4 t) (iblk m hO c 5 t) acc0 from hacc]
    iintro ⟨HI, H7, H8, HS⟩
    unfold inputs
    icases HI with ⟨HT, H0, H1, H2, H3, H4, H5, H6⟩
    isplitl [HS Hg HT]
    · isplitl [HS Hg]
      · isplitl [HS]; · iexact HS
        iexact Hg
      iexact HT
    isplitl [Ho]; · iexact Ho
    isplitl [H0]; · iapply (leaves0 m hO c t); iexact H0
    isplitl [H1]; · iapply (leaves1 m hO c t); iexact H1
    isplitl [H2]; · iapply (leaves2 m hO c t); iexact H2
    isplitl [H3]; · iapply (leaves3 m hO c t); iexact H3
    isplitl [H4]; · iapply (leaves4 m hO c t); iexact H4
    isplitl [H5]; · iapply (leaves5 m hO c t); iexact H5
    isplitl [H6]; · iapply (leaves6 m hO c t); iexact H6
    isplitl [H7]; · iapply (leaves7 m hO c t); iexact H7
    iapply (leaves8 m hO c t d8)
    iexact H8
  · have hacc : accAt m hO c t.val t.isLt = accStep m hO c t (accAt m hO c (t.val - 1) (by omega)) := by
      obtain ⟨n, hn⟩ := t
      cases n with
      | zero => exact absurd rfl hz
      | succ n => rfl
    have hΦ : PhiS m hO c t.val (Nat.le_of_lt t.isLt) = iprop(iprop(state c sc0 sc1 sc2 sc3 sc4 sc5 sc6 sc7 (idsM m) (hhM m hO c) (embM m hO c) (accAt m hO c (t.val - 1) (by omega)) ∗ (∃ r, prngReg c r)) ∗ Pipeline.ΦT pre0 (tbl m) c) := by
      obtain ⟨n, hn⟩ := t
      cases n with
      | zero => exact absurd rfl hz
      | succ n => rfl
    rw [hΦ, PhiT_eq]
    iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (later_spec c (grid0.coords t) tbM (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) fullShare.right (idsM m) hids (iblk m hO c 0 t) (iblk m hO c 1 t) (iblk m hO c 2 t) (iblk m hO c 3 t) (iblk m hO c 4 t) (iblk m hO c 5 t) (iblk m hO c 6 t) (hhM m hO c) (embM m hO c) (accAt m hO c (t.val - 1) (by omega)) ((dats m hO 0 c).before 8 t d8) (fun h => hz ((hcond1 t).mp h))) $$ [HT H0 H1 H2 H3 H4 H5 H6 H7 H8 HS]
    · unfold inputs
      isplitl [HT H0 H1 H2 H3 H4 H5 H6]
      · isplitl [HT]; · iexact HT
        isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      isplitl [H8]; · iexact H8
      iexact HS
    rw [coord_eq, ← show accAt m hO c t.val t.isLt = accNext (iblk m hO c 0 t) (iblk m hO c 1 t) (iblk m hO c 4 t) (iblk m hO c 5 t) (accAt m hO c (t.val - 1) (by omega)) from hacc]
    iintro ⟨HI, H7, H8, HS⟩
    unfold inputs
    icases HI with ⟨HT, H0, H1, H2, H3, H4, H5, H6⟩
    isplitl [HS Hg HT]
    · isplitl [HS Hg]
      · isplitl [HS]; · iexact HS
        iexact Hg
      iexact HT
    isplitl [Ho]; · iexact Ho
    isplitl [H0]; · iapply (leaves0 m hO c t); iexact H0
    isplitl [H1]; · iapply (leaves1 m hO c t); iexact H1
    isplitl [H2]; · iapply (leaves2 m hO c t); iexact H2
    isplitl [H3]; · iapply (leaves3 m hO c t); iexact H3
    isplitl [H4]; · iapply (leaves4 m hO c t); iexact H4
    isplitl [H5]; · iapply (leaves5 m hO c t); iexact H5
    isplitl [H6]; · iapply (leaves6 m hO c t); iexact H6
    isplitl [H7]; · iapply (leaves7 m hO c t); iexact H7
    iapply (leaves8 m hO c t d8)
    iexact H8

/-- The body table's row is the body. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body obligation of the pipeline. -/
theorem body_obligation (hO : Ok m) (hids : InVocab (idsM m)) (c : Dev nD) : BodyObligation (dats (F := F) m hO 0 c) (defs₀ (F := F)) 𝒱₀ () Set.univ := fun t => by
  rw [bigSep_W0, bigSep_W0, defs₀_row m hO]
  exact triple_restated (sound_body m hO hids c t) rfl .rfl fun _ => .rfl

/-- The invariant before the first point is what the launch hands over. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After the last point the scratch buffers are given back. -/
theorem hout (hO : Ok m) (c : Dev nD) : (dats m hO 0 c).Φ (Fin.last (cfgM m hO).N) ⊢ Pipeline.ΦA spec0 c := by
  have hN : (cfgM m hO).N = 167 := N_0
  have h166 : (166 : ℕ) < (cfgM m hO).N := by omega
  have e : (dats m hO 0 c).Φ (Fin.last (cfgM m hO).N) = PhiS m hO c (166 + 1) h166 := by
    show PhiS m hO c (cfgM m hO).N _ = _
    congr 1
  rw [e, PhiS_succ, PhiA_eq]
  unfold state junk
  iintro ⟨⟨⟨H0, H1, H2, H3, H4, H5, H6, H7⟩, Hg⟩, -⟩
  isplitr [Hg]
  · isplitl [H0]; · iexists _; iexact H0
    isplitl [H1]; · iexists _; iexact H1
    isplitl [H2]; · iexact H2
    isplitl [H3]; · iexact H3
    isplitl [H4]; · iexact H4
    isplitl [H5]; · iexists _; iexact H5
    isplitl [H6]; · iexists _; iexact H6
    iexists _; iexact H7
  iexact Hg

/-! ## The run -/

set_option backward.isDefEq.respectTransparency.types false in
/-- The whole program runs to the arrays the pipeline computes, with every semaphore at zero. -/
theorem run_main_quiescent (hO : Ok m) (hids : InVocab (idsM m)) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ 𝒱₀ m ρ main
    (hbody := fun c => (body_obligation m hO hids c).loose) (hshare := fun c => (dats m hO 0 c).share_full fun _ => rfl)
    (howed := fun _ _ => rfl) (V := V m) (hmain := hmain m 𝒱₀) (hA := A_eq m hO) (hpf := V_pre m)
    (hin := hin m hO) (hout := hout m hO)

/-- An argument that no window stages and no host operation writes is unchanged. -/
theorem rest_keep (hO : Ok m) (c : Dev nD) (r) (h : (Pipeline.FramePost (Pipeline.pin pcfgs fun _ => adm m hO) (dats m hO) 0 (V m)) r) (b : Ref sig .tc)
    (hb : b ∈ Pipeline.restRefs sig spec0) (h' : b ∉ [main_v0, main_v1, main_v2, main_v3, main_v4, main_v5, main_v6]) :
    r.2.mem ((c.tc : Thread nD τ).loc b) = m ((c.tc : Thread nD τ).loc b) :=
  ((h c).2 b hb).trans (V_keep m c b h')

/-- The arguments end unchanged. -/
theorem args_keep (hO : Ok m) (r) (h : (Pipeline.FramePost (Pipeline.pin pcfgs fun _ => adm m hO) (dats m hO) 0 (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨rest_keep m hO c r h main_arg0 (by decide) (by decide),
    rest_keep m hO c r h main_arg1 (by decide) (by decide),
    rest_keep m hO c r h main_arg2 (by decide) (by decide),
    ((h c).1 3).trans (((dats m hO 0 c).arrAt_in 3 rfl _).trans ((A_eq m hO c 3).trans (V_keep m c main_arg3 (by decide)))),
    rest_keep m hO c r h main_arg4 (by decide) (by decide),
    rest_keep m hO c r h main_arg5 (by decide) (by decide),
    rest_keep m hO c r h main_arg6 (by decide) (by decide),
    rest_keep m hO c r h main_arg7 (by decide) (by decide)⟩

/-- The program runs, its arguments end unchanged, and every semaphore is at zero. -/
theorem frame_run (hO : Ok m) (hids : InVocab (idsM m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => args_keep m hO _ h.1 c, h.2⟩) (run_main_quiescent m ρ hO hids)

end Cert.Proof.KI
-- ==== Proof.Vocab.lean ====
/- What the precondition says of the token ids. -/
module

public import proofs.«01_k».proof.Pre_in_vocabulary
public import proofs.«01_k».proof.Proof.Gen.Pre_in_vocabulary
public import Idealize.ShloMosaic.Lib.ReduceAll

@[expose] public section

noncomputable section

namespace Cert.Proof

open Idealize.ShloMosaic Cert.Pre_in_vocabulary

variable {F : FTy → Type} [FloatOps F]

/-- A word that is nonnegative and below the vocabulary's size as a signed number is below it as a natural number. -/
theorem toNat_of_signed (x : BitVec 32) (h0 : BitVec.sle 0#32 x = true) (h1 : BitVec.slt x 128256#32 = true) : x.toNat < 128256 := by
  rw [BitVec.sle, decide_eq_true_eq] at h0
  rw [BitVec.slt, decide_eq_true_eq] at h1
  have e0 : (0#32 : BitVec 32).toInt = 0 := by decide
  have e := BitVec.toInt_eq_toNat_cond x
  have hx := x.isLt
  rw [e0] at h0
  split at e
  all_goals
    have e2 : (128256#32 : BitVec 32).toInt = 128256 := by decide
    omega

attribute [local instance] Cert.Pre_in_vocabulary.Gen.facts in
/-- Under the precondition every token id is below the vocabulary's size. -/
theorem vocab (a0 : FVec F S2x384x128256 .fp8e5m2) (a1 : FVec F S2x384x1002 .f32) (a2 : FVec F S2x384x1152 .fp8e4m3) (a3 : FVec F S2x384 .f32)
    (a4 : IVec S128256x576 8) (a5 : FVec F S128256x36 .f32) (a6 : IVec S2x384 32) (a7 : FVec F S2x384x1152 .bf16)
    (h : Cert.Pre_in_vocabulary.fn a0 a1 a2 a3 a4 a5 a6 a7 = (fun _ => 1#1)) (i : S2x384.Idx) : (a6 i).toNat < 128256 := by
  have hs : Subsingleton S_.Idx := ⟨fun a b => funext fun x => x.elim0⟩
  have e := congrFun h (Shape.Idx.first Facts.h_S_)
  have e1 := Host.reduce_andi_all _ _ _ _ _ e i
  have e2 : IntOp.andi (cmpi .sge a6 (broadcastInDim S2x384 ![] Facts.bcast_S_S2x384 (constantI S_ 32 0#32)) i)
      (cmpi .slt a6 (broadcastInDim S2x384 ![] Facts.bcast_S_S2x384 (constantI S_ 32 128256#32)) i) = 1#1 := e1
  have e3 : BitVec.ofBool (BitVec.sle 0#32 (a6 i)) &&& BitVec.ofBool (BitVec.slt (a6 i) 128256#32) = 1#1 := e2
  have key : ∀ p q : Bool, BitVec.ofBool p &&& BitVec.ofBool q = 1#1 → p = true ∧ q = true := by decide
  obtain ⟨p, q⟩ := key _ _ e3
  exact toNat_of_signed _ p q

end Cert.Proof
-- ==== Proof.KI.Entry.lean ====
/- What the arrays hold when the pipelined call starts, and the frame claim. -/
module

public import proofs.«01_k».proof.Proof.KI.Frame
public import proofs.«01_k».proof.Proof.Vocab
public import Idealize.ShloMosaic.Lib.StableHlo.RunRead

@[expose] public section

noncomputable section

namespace Cert.Proof.KI

open Cert.KernelIdeal Cert.KernelIdeal.Gen

open Idealize.ShloMosaic Idealize.ShloMosaic.TcCoe Idealize.ShloMosaic.Tactic Idealize.SL.Sem

variable {F : FTy → Type} [FloatOps F]

variable (m : (ℓ : Loc nD τ sig) → Buf (Elt F) ℓ) (ρ : Dev nD → PrngReg)

/-- An argument array at launch. -/
abbrev arg (c : Dev nD) (b : Ref sig .tc) : Buf (Elt F) ((c : Thread nD τ).loc b) := m ((c : Thread nD τ).loc b)

/-- The logit gradients. -/
theorem V_v0 (c : Dev nD) : V m c main_v0 = (shapeCast S768x128256 (arg m c main_arg0 : S2x384x128256.Idx → F .fp8e5m2) shapeCasts_S2x384x128256_S768x128256 : S768x128256.Idx → F .fp8e5m2) := by
  after_reads_simp
  rfl
/-- Their scales. -/
theorem V_v1 (c : Dev nD) : V m c main_v1 = (transpose S1002x2x384 [2, 0, 1] (arg m c main_arg1 : S2x384x1002.Idx → F .f32) transposes_S2x384x1002_S1002x2x384_2_0_1 : S1002x2x384.Idx → F .f32) := by
  after_reads_simp
/-- The hidden states. -/
theorem V_v2 (c : Dev nD) : V m c main_v2 = (shapeCast S768x1152 (arg m c main_arg2 : S2x384x1152.Idx → F .fp8e4m3) shapeCasts_S2x384x1152_S768x1152 : S768x1152.Idx → F .fp8e4m3) := by
  after_reads_simp
  rfl
/-- The packed weights. -/
theorem V_v3 (c : Dev nD) : V m c main_v3 = (transpose S576x128256 [1, 0] (arg m c main_arg4 : S128256x576.Idx → BitVec 8) transposes_S128256x576_S576x128256_1_0 : S576x128256.Idx → BitVec 8) := by
  after_reads_simp
/-- Their scales. -/
theorem V_v4 (c : Dev nD) : V m c main_v4 = (transpose S36x128256 [1, 0] (arg m c main_arg5 : S128256x36.Idx → F .f32) transposes_S128256x36_S36x128256_1_0 : S36x128256.Idx → F .f32) := by
  after_reads_simp
/-- The embedding gradients. -/
theorem V_v5 (c : Dev nD) : V m c main_v5 = (shapeCast S768x1152 (arg m c main_arg7 : S2x384x1152.Idx → F .bf16) shapeCasts_S2x384x1152_S768x1152 : S768x1152.Idx → F .bf16) := by
  after_reads_simp
  rfl
/-- The token ids. -/
theorem V_v6 (c : Dev nD) : V m c main_v6 = (shapeCast S768 (arg m c main_arg6 : S2x384.Idx → BitVec 32) shapeCasts_S2x384_S768 : S768.Idx → BitVec 32) := by
  after_reads_simp
  rfl

/-- No index map reads the table, so its side condition holds. -/
theorem ok : Ok m := trivial

/-- The token ids as the table holds them. -/
theorem ids_table : idsM m = (shapeCast S768 (arg m 0 main_arg6 : S2x384.Idx → BitVec 32) shapeCasts_S2x384_S768 : S768.Idx → BitVec 32) := V_v6 m 0

/-- Ids that are in the vocabulary as given are so in the table. -/
theorem inVocab (h : ∀ i : S2x384.Idx, ((arg m 0 main_arg6 : S2x384.Idx → BitVec 32) i).toNat < 128256) : InVocab (idsM m) := by
  intro t
  rw [ids_table]
  exact h _

end Cert.Proof.KI
-- ==== Proof.KB.Prog.lean ====
/- The kernel body as nested loops over blocks, and its equality with the printed straight-line body. -/
module

public import proofs.«01_k».proof.Proof.Gen.Kernel
public import proofs.«01_k».proof.Proof.Gen.Kernel.Launch
public import proofs.«01_k».proof.Proof.Loops

@[expose] public section

noncomputable section

namespace Cert.Proof.KB

open Cert.Kernel Cert.Kernel.Gen

open Idealize.ShloMosaic Idealize.ShloMosaic.TcCoe Idealize.ShloMosaic.Tactic
open Idealize.SL.Sem

variable {F : FTy → Type} [FloatOps F]

/-! ## Blocks -/

/-- A block of 128 by 128 at block row `a` and block column `b` of a 768 by 1152 array. -/
abbrev rH (a : Fin 6) (b : Fin 9) : Rect S768x1152 :=
  Rect.unit (s := S768x1152) ![128 * a.val, 128 * b.val] S128x128.size (by
    intro x; fin_cases x <;> simp [S128x128, S768x1152] <;> omega)

theorem packH (a : Fin 6) (b : Fin 9) : (rH a b).PackedRows (EltTy.packing .bf16) :=
  .inr ⟨by decide, rfl, .inl ⟨⟨64 * a.val, by show 128 * a.val = 2 * _; omega⟩, ⟨64, rfl⟩⟩⟩

/-- A block of 128 by 128 of a 768 by 768 array. -/
abbrev rD (a b : Fin 6) : Rect S768x768 :=
  Rect.unit (s := S768x768) ![128 * a.val, 128 * b.val] S128x128.size (by
    intro x; fin_cases x <;> simp [S128x128, S768x768] <;> omega)

theorem packD (a b : Fin 6) : (rD a b).PackedRows (EltTy.packing .bf16) :=
  .inr ⟨by decide, rfl, .inl ⟨⟨64 * a.val, by show 128 * a.val = 2 * _; omega⟩, ⟨64, rfl⟩⟩⟩

/-- A block of 128 by 128 of a 1152 by 768 array. -/
abbrev rA (a : Fin 9) (b : Fin 6) : Rect S1152x768 :=
  Rect.unit (s := S1152x768) ![128 * a.val, 128 * b.val] S128x128.size (by
    intro x; fin_cases x <;> simp [S128x128, S1152x768] <;> omega)

/-- The 16 rows `64 q + 16 k …` and the 128 columns `128 c …` of a 1152 by 768 array. -/
abbrev rE (q : Fin 18) (c : Fin 6) (k : Fin 4) : Rect S1152x768 :=
  Rect.unit (s := S1152x768) ![64 * q.val + 16 * k.val, 128 * c.val] S16x128.size (by
    intro x; fin_cases x <;> simp [S16x128, S1152x768] <;> omega)

theorem packE (q : Fin 18) (c : Fin 6) (k : Fin 4) : (rE q c k).PackedRows (EltTy.packing .bf16) :=
  .inr ⟨by decide, rfl, .inl ⟨⟨32 * q.val + 8 * k.val, by show 64 * q.val + 16 * k.val = 2 * _; omega⟩, ⟨8, rfl⟩⟩⟩

/-- Storing such a block is a store of whole words. -/
theorem stH {m : Memref sig .tc .vmem S768x1152 .bf16} (h : m.IsWhole) (t : Fin 6) (d : Fin 9) : (m.access (rH t d)).Stores Finset.univ :=
  View.stores_vmem h_S128x128 (h.storeExact_slice rfl _ (packH t d)) (fun _ => rfl)

/-- Storing such a block is a store of whole words. -/
theorem stD {m : Memref sig .tc .vmem S768x768 .bf16} (h : m.IsWhole) (v t : Fin 6) : (m.access (rD v t)).Stores Finset.univ :=
  View.stores_vmem h_S128x128 (h.storeExact_slice rfl _ (packD v t)) (fun _ => rfl)

/-- Storing such a block is a store of whole words. -/
theorem stE {m : Memref sig .tc .vmem S1152x768 .bf16} (h : m.IsWhole) (q : Fin 18) (c : Fin 6) (k : Fin 4) : (m.access (rE q c k)).Stores Finset.univ :=
  View.stores_vmem h_S16x128 (h.storeExact_slice rfl _ (packE q c k)) (fun _ => rfl)

/-- Row `b`, columns `128 k …` of the 2 by 384 table of row scales; block `t = 3 b + k`. -/
abbrev rS (t : Fin 6) : Rect S2x384 :=
  Rect.unit (s := S2x384) ![t.val / 3, 128 * (t.val % 3)] S1x128.size (by
    intro x; fin_cases x <;> simp [S1x128, S2x384] <;> omega)

/-- The scales of vocabulary group `v` and token block `t` in the 6 by 2 by 384 table. -/
abbrev rT (v t : Fin 6) : Rect S6x2x384 :=
  Rect.unit (s := S6x2x384) ![v.val, t.val / 3, 128 * (t.val % 3)] S1x1x128.size (by
    intro x; fin_cases x <;> simp [S1x1x128, S6x2x384] <;> omega)

/-- Row `g`, columns `128 c …` of the 36 by 768 table of group scales. -/
abbrev rG (g : Fin 36) (c : Fin 6) : Rect S36x768 :=
  Rect.unit (s := S36x768) ![g.val, 128 * c.val] S1x128.size (by
    intro x; fin_cases x <;> simp [S1x128, S36x768] <;> omega)

/-- The 32 byte rows `32 q …`, columns `128 c …` of the packed table. -/
abbrev rB (q : Fin 18) (c : Fin 6) : Rect S576x768 :=
  Rect.unit (s := S576x768) ![32 * q.val, 128 * c.val] S32x128.size (by
    intro x; fin_cases x <;> simp [S32x128, S576x768] <;> omega)

/-! ## Payloads -/

/-- The scales of one block of 128 tokens, one per row. -/
def hhScale (x : Vec F S1x128 .f32) : FVec F S128x128 .bf16 :=
  truncf .bf16 (transpose S128x128 [1, 0] (broadcastTo S128x128 (shapeCast S1x128 x shapeCasts_S1x128_S1x128 : FVec F S1x128 .f32) broadcasts_S1x128_S128x128) transposes_S128x128_p1_0_S128x128) bitsLt_bf16_f32

/-- One block of the dequantised hidden states. -/
def hhPay (s : FVec F S128x128 .bf16) (x : Vec F S128x128 .fp8e4m3) : FVec F S128x128 .bf16 :=
  shapeCast S128x128 (mulf (extf .bf16 (shapeCast S128x128 x shapeCasts_S128x128_S128x128 : FVec F S128x128 .fp8e4m3) bitsLt_fp8e4m3_bf16) s) shapeCasts_S128x128_S128x128

/-- One transposed block of the dequantised logit gradients. -/
def dltPay (x : Vec F S128x128 .fp8e5m2) (s : Vec F S1x1x128 .f32) : FVec F S128x128 .bf16 :=
  shapeCast S128x128 (mulf
    (transpose S128x128 [1, 0] (extf .bf16 (shapeCast S128x128 x shapeCasts_S128x128_S128x128 : FVec F S128x128 .fp8e5m2) bitsLt_fp8e5m2_bf16 : FVec F S128x128 .bf16) transposes_S128x128_p1_0_S128x128)
    (broadcastTo S128x128 (truncf .bf16 (shapeCast S1x128 s shapeCasts_S1x1x128_S1x128 : FVec F S1x128 .f32) bitsLt_bf16_f32 : FVec F S1x128 .bf16) broadcasts_S1x128_S128x128)) shapeCasts_S128x128_S128x128

/-- The group scales rounded to bfloat16. -/
def esrPay (x : Vec F S36x768 .f32) : FVec F S36x768 .f32 :=
  shapeCast S36x768 (extf .f32 (truncf .bf16 (shapeCast S36x768 x shapeCasts_S36x768_S36x768 : FVec F S36x768 .f32) bitsLt_bf16_f32 : FVec F S36x768 .bf16) bitsLt_bf16_f32) shapeCasts_S36x768_S36x768

/-- The first eight of sixteen rows. -/
def lower : IVec S16x128 1 :=
  cmpi .slt (iota .tc S16x128 32 [0] iota_S16x128_d0_w32) (broadcast S16x128 8#32)

/-- The scales of sixteen rows: the first row of scales for the first eight, the second for the rest. -/
def etsScale (a b : Vec F S1x128 .f32) : FVec F S16x128 .bf16 :=
  truncf .bf16 (select lower
    (broadcastTo S16x128 (shapeCast S1x128 a shapeCasts_S1x128_S1x128 : FVec F S1x128 .f32) broadcasts_S1x128_S16x128)
    (broadcastTo S16x128 (shapeCast S1x128 b shapeCasts_S1x128_S1x128 : FVec F S1x128 .f32) broadcasts_S1x128_S16x128)) bitsLt_bf16_f32

/-- Thirty-two rows of bytes as eight rows of words. -/
def etsWord (x : Vec F S32x128 .i8) : IVec S8x128 32 :=
  bitcast S8x128 32 (shapeCast S32x128 x shapeCasts_S32x128_S32x128 : IVec S32x128 8) bitcasts_S32x128_w8_S8x128_w32

/-- The words shifted right by `4 k`. -/
def etsShift (w : IVec S8x128 32) : ℕ → IVec S8x128 32
  | 0 => w
  | k + 1 => shrui w (broadcast S8x128 (BitVec.ofNat 32 (4 * (k + 1))))

/-- Sixteen rows of dequantised weights: nibble `k` of every halfword, offset by eight and scaled. -/
def etsPay (sc : FVec F S16x128 .bf16) (w : IVec S8x128 32) (k : ℕ) : FVec F S16x128 .bf16 :=
  shapeCast S16x128 (mulf (subf
    (bitcastToFloat .bf16 (bitcast S16x128 16 (xori (andi (etsShift w k) (broadcast S8x128 983055#32)) (broadcast S8x128 1124614920#32)) bitcasts_S8x128_w32_S16x128_w16))
    (broadcast S16x128 (Scalar.ofBits .bf16 0x4308#16))) sc) shapeCasts_S16x128_S16x128

/-- One block of the hidden-state gradient, features put back in order, transposed and rounded. -/
def dhPay (x : Vec F S128x128 .f32) : FVec F S128x128 .bf16 :=
  truncf .bf16 (transpose S128x128 [1, 0] (shapeCast S128x128 (transpose S2x16x4x128 [0, 2, 1, 3]
    (shapeCast S2x4x16x128 x shapeCasts_S128x128_S2x4x16x128 : FVec F S2x4x16x128 .f32) transposes_S2x4x16x128_p0_2_1_3_S2x16x4x128)
    shapeCasts_S2x16x4x128_S128x128 : FVec F S128x128 .f32) transposes_S128x128_p1_0_S128x128 : FVec F S128x128 .f32) bitsLt_bf16_f32

/-! ## The phases -/

/-- The dequantised hidden states, block by block. -/
def hhPhase (arg4 : Memref sig .tc .vmem S768x1152 .fp8e4m3) (arg5 : Memref sig .tc .vmem S2x384 .f32)
    (arg11 : Memref sig .tc .vmem S768x1152 .bf16) (harg11 : arg11.IsWhole) : Prog (TpuEff nD τ sig (Elt F) (Λ₀ F) .tc) PUnit :=
  forN 6 fun t => do
    let s : Vec F S1x128 .f32 ← Prog.lift (.load arg5 (rS t).toLoadRect (View.loadsAt_vmem h_S1x128))
    forN 9 fun d => do
      let x : Vec F S128x128 .fp8e4m3 ← Prog.lift (.load arg4 (rH t d).toLoadRect (View.loadsAt_vmem h_S128x128))
      let _ : Vec F S128x128 .bf16 ← Prog.lift (.load arg11 (rH t d).toLoadRect (View.loadsAt_vmem h_S128x128))
      Prog.lift (.store arg11 (rH t d) (hhPay (hhScale s) x) Finset.univ (stH harg11 t d) (.inl rfl))

/-- The dequantised logit gradients, transposed block by block. -/
def dltPhase (arg2 : Memref sig .tc .vmem S768x768 .fp8e5m2) (arg3 : Memref sig .tc .vmem S6x2x384 .f32)
    (arg13 : Memref sig .tc .vmem S768x768 .bf16) (harg13 : arg13.IsWhole) : Prog (TpuEff nD τ sig (Elt F) (Λ₀ F) .tc) PUnit :=
  forN 6 fun v => forN 6 fun t => do
    let x : Vec F S128x128 .fp8e5m2 ← Prog.lift (.load arg2 (rD t v).toLoadRect (View.loadsAt_vmem h_S128x128))
    let s : Vec F S1x1x128 .f32 ← Prog.lift (.load arg3 (rT v t).toLoadRect (View.loadsAt_vmem h_S1x1x128))
    let _ : Vec F S128x128 .bf16 ← Prog.lift (.load arg13 (rD v t).toLoadRect (View.loadsAt_vmem h_S128x128))
    Prog.lift (.store arg13 (rD v t) (dltPay x s) Finset.univ (stD harg13 v t) (.inl rfl))

/-- The dequantised weights, sixteen rows at a time. -/
def etsPhase (arg6 : Memref sig .tc .vmem S576x768 .i8) (arg14 : Memref sig .tc .vmem S1152x768 .bf16) (harg14 : arg14.IsWhole)
    (arg15 : Memref sig .tc .vmem S36x768 .f32) : Prog (TpuEff nD τ sig (Elt F) (Λ₀ F) .tc) PUnit :=
  forN 18 fun q => forN 6 fun c => do
    let a : Vec F S1x128 .f32 ← Prog.lift (.load arg15 (rG ⟨2 * q.val, by omega⟩ c).toLoadRect (View.loadsAt_vmem h_S1x128))
    let b : Vec F S1x128 .f32 ← Prog.lift (.load arg15 (rG ⟨2 * q.val + 1, by omega⟩ c).toLoadRect (View.loadsAt_vmem h_S1x128))
    let x : Vec F S32x128 .i8 ← Prog.lift (.load arg6 (rB q c).toLoadRect (View.loadsAt_vmem h_S32x128))
    forN 4 fun k => do
      let _ : Vec F S16x128 .bf16 ← Prog.lift (.load arg14 (rE q c k).toLoadRect (View.loadsAt_vmem h_S16x128))
      Prog.lift (.store arg14 (rE q c k) (etsPay (etsScale a b) (etsWord x) k.val) Finset.univ (stE harg14 q c k) (.inl rfl))

/-- The hidden-state gradient written out, block by block. -/
def finPhase (arg10 : Memref sig .tc .vmem S768x1152 .bf16) (harg10 : arg10.IsWhole)
    (arg16 : Memref sig .tc .vmem S1152x768 .f32) : Prog (TpuEff nD τ sig (Elt F) (Λ₀ F) .tc) PUnit :=
  forN 6 fun t => forN 9 fun d => do
    let x : Vec F S128x128 .f32 ← Prog.lift (.load arg16 (rA d t).toLoadRect (View.loadsAt_vmem h_S128x128))
    let _ : Vec F S128x128 .bf16 ← Prog.lift (.load arg10 (rH t d).toLoadRect (View.loadsAt_vmem h_S128x128))
    Prog.lift (.store arg10 (rH t d) (dhPay x) Finset.univ (stH harg10 t d) (.inl rfl))

/-- The heads of the token lists set to "none". -/
def headLoop (i : grid0.Coords) (k0_h1 : k0_cond1 i = 1#1) (arg17 : Memref sig .tc .smem S167 .i32) : Prog (TpuEff nD τ sig (Elt F) (Λ₀ F) .tc) PUnit :=
  Scf.Loop.for k0_t1_loop (k0_t1_ok i k0_h1) ⟨⟩ fun k0_t1 _ => do
    let _ : Elt F .i32 ← smemLoad arg17 (Rect.unit (s := S167) (k0_off1 k0_t1) S1.size (k0_off1_inb i k0_t1 k0_h1)) numel1_S1 rfl
    Prog.lift (.store arg17 (Rect.unit (s := S167) (k0_off1 k0_t1) S1.size (k0_off1_inb i k0_t1 k0_h1)) (fun _ => 4294967295#32) Finset.univ (View.stores_smem_one rfl numel1_S1) (.inl rfl))
    pure ⟨⟩

/-- Every token put in front of the list of its vocabulary block. -/
def linkLoop (i : grid0.Coords) (k0_h1 : k0_cond1 i = 1#1) (arg1 : Memref sig .tc .smem S768 .i32)
    (arg17 : Memref sig .tc .smem S167 .i32) (arg18 : Memref sig .tc .smem S768 .i32) : Prog (TpuEff nD τ sig (Elt F) (Λ₀ F) .tc) PUnit :=
  Scf.Loop.for k0_t2_loop (k0_t2_ok i k0_h1) ⟨⟩ fun k0_t2 _ => do
    let v7472 : Elt F .i32 ← smemLoad arg1 (Rect.unit (s := S768) (k0_off2 k0_t2) S1.size (k0_off2_inb i k0_t2 k0_h1)) numel1_S1 rfl
    have k0_hw1 : k0_chk1 i v7472 := (← Prog.lift (TpuEff.assume (k0_chk1 i v7472) (k0_chk1.dec i v7472))).down
    let v7475 : Elt F .i32 ← smemLoad arg17 (Rect.unit (s := S167) (k0_off3 v7472) S1.size (k0_off3_inb i v7472 k0_hw1 k0_h1)) numel1_S1 rfl
    let _ : Elt F .i32 ← smemLoad arg18 (Rect.unit (s := S768) (k0_off4 k0_t2) S1.size (k0_off4_inb i k0_t2 k0_h1)) numel1_S1 rfl
    Prog.lift (.store arg18 (Rect.unit (s := S768) (k0_off4 k0_t2) S1.size (k0_off4_inb i k0_t2 k0_h1)) (fun _ => v7475) Finset.univ (View.stores_smem_one rfl numel1_S1) (.inl rfl))
    let _ : Elt F .i32 ← smemLoad arg17 (Rect.unit (s := S167) (k0_off3 v7472) S1.size (k0_off3_inb i v7472 k0_hw1 k0_h1)) numel1_S1 rfl
    Prog.lift (.store arg17 (Rect.unit (s := S167) (k0_off3 v7472) S1.size (k0_off3_inb i v7472 k0_hw1 k0_h1)) (fun _ => Scf.iv (0#32) (1#32) k0_t2) Finset.univ (View.stores_smem_one rfl numel1_S1) (.inl rfl))
    pure ⟨⟩

/-- What the first grid point does before the rest. -/
def initPhase (i : grid0.Coords) (k0_h1 : k0_cond1 i = 1#1) (arg1 : Memref sig .tc .smem S768 .i32)
    (arg4 : Memref sig .tc .vmem S768x1152 .fp8e4m3) (arg5 : Memref sig .tc .vmem S2x384 .f32)
    (arg8 : Memref sig .tc .vmem S768x1152 .bf16)
    (arg11 : Memref sig .tc .vmem S768x1152 .bf16) (harg11 : arg11.IsWhole) (arg12 : Memref sig .tc .vmem S768x1152 .f32)
    (arg16 : Memref sig .tc .vmem S1152x768 .f32)
    (arg17 : Memref sig .tc .smem S167 .i32) (arg18 : Memref sig .tc .smem S768 .i32) : Prog (TpuEff nD τ sig (Elt F) (Λ₀ F) .tc) PUnit := do
  let _ : Vec F S1152x768 .f32 ← Prog.lift (.load arg16 (Rect.unit (s := S1152x768) ![0, 0] S1152x768.size inb_S1152x768_S1152x768_0_0).toLoadRect (View.loadsAt_vmem h_S1152x768))
  Prog.lift (.store arg16 (Rect.unit (s := S1152x768) ![0, 0] S1152x768.size inb_S1152x768_S1152x768_0_0) (shapeCast S1152x768 (broadcast S1152x768 (Scalar.ofBits .f32 0x00000000#32) : FVec F S1152x768 .f32) shapeCasts_S1152x768_S1152x768 : FVec F S1152x768 .f32) Finset.univ (View.stores_vmem_bits_univ h_S1152x768 rfl) (.inl rfl))
  let x : Vec F S768x1152 .bf16 ← Prog.lift (.load arg8 (Rect.unit (s := S768x1152) ![0, 0] S768x1152.size inb_S768x1152_S768x1152_0_0).toLoadRect (View.loadsAt_vmem h_S768x1152))
  let _ : Vec F S768x1152 .f32 ← Prog.lift (.load arg12 (Rect.unit (s := S768x1152) ![0, 0] S768x1152.size inb_S768x1152_S768x1152_0_0).toLoadRect (View.loadsAt_vmem h_S768x1152))
  Prog.lift (.store arg12 (Rect.unit (s := S768x1152) ![0, 0] S768x1152.size inb_S768x1152_S768x1152_0_0) (shapeCast S768x1152 (extf .f32 (shapeCast S768x1152 x shapeCasts_S768x1152_S768x1152 : FVec F S768x1152 .bf16) bitsLt_bf16_f32 : FVec F S768x1152 .f32) shapeCasts_S768x1152_S768x1152 : FVec F S768x1152 .f32) Finset.univ (View.stores_vmem_bits_univ h_S768x1152 rfl) (.inl rfl))
  hhPhase arg4 arg5 arg11 harg11
  (do headLoop i k0_h1 arg17
      linkLoop i k0_h1 arg1 arg17 arg18
      pure ⟨⟩)
  pure ⟨⟩

/-- What every grid point does after that, up to the list walk. -/
def midPhase (i : grid0.Coords)
    (arg2 : Memref sig .tc .vmem S768x768 .fp8e5m2) (arg3 : Memref sig .tc .vmem S6x2x384 .f32)
    (arg6 : Memref sig .tc .vmem S576x768 .i8) (arg7 : Memref sig .tc .vmem S36x768 .f32)
    (arg9 : Memref sig .tc .vmem S768x1152 .f32)
    (arg11 : Memref sig .tc .vmem S768x1152 .bf16)
    (arg13 : Memref sig .tc .vmem S768x768 .bf16) (harg13 : arg13.IsWhole)
    (arg14 : Memref sig .tc .vmem S1152x768 .bf16) (harg14 : arg14.IsWhole)
    (arg15 : Memref sig .tc .vmem S36x768 .f32) (arg16 : Memref sig .tc .vmem S1152x768 .f32)
    (K : Prog (TpuEff nD τ sig (Elt F) (Λ₀ F) .tc) PUnit) : Prog (TpuEff nD τ sig (Elt F) (Λ₀ F) .tc) PUnit := do
  dltPhase arg2 arg3 arg13 harg13
  let es : Vec F S36x768 .f32 ← Prog.lift (.load arg7 (Rect.unit (s := S36x768) ![0, 0] S36x768.size inb_S36x768_S36x768_0_0).toLoadRect (View.loadsAt_vmem h_S36x768))
  let _ : Vec F S36x768 .f32 ← Prog.lift (.load arg15 (Rect.unit (s := S36x768) ![0, 0] S36x768.size inb_S36x768_S36x768_0_0).toLoadRect (View.loadsAt_vmem h_S36x768))
  Prog.lift (.store arg15 (Rect.unit (s := S36x768) ![0, 0] S36x768.size inb_S36x768_S36x768_0_0) (esrPay es) Finset.univ (View.stores_vmem_bits_univ h_S36x768 rfl) (.inl rfl))
  etsPhase arg6 arg14 harg14 arg15
  let v7033 : Vec F S768x768 .bf16 ← Prog.lift (.load arg13 (Rect.unit (s := S768x768) ![0, 0] S768x768.size inb_S768x768_S768x768_0_0).toLoadRect (View.loadsAt_vmem h_S768x768))
  let v7034 : Vec F S768x1152 .bf16 ← Prog.lift (.load arg11 (Rect.unit (s := S768x1152) ![0, 0] S768x1152.size inb_S768x1152_S768x1152_0_0).toLoadRect (View.loadsAt_vmem h_S768x1152))
  let _ : Vec F S768x1152 .f32 ← Prog.lift (.load arg9 (Rect.unit (s := S768x1152) ![0, 0] S768x1152.size inb_S768x1152_S768x1152_0_0).toLoadRect (View.loadsAt_vmem h_S768x1152))
  Prog.lift (.store arg9 (Rect.unit (s := S768x1152) ![0, 0] S768x1152.size inb_S768x1152_S768x1152_0_0) (matmul dot_S768x768_S768x1152_S768x1152_1_0_0_1_n_n none v7033 v7034 (constant S768x1152 .f32 0x00000000#32 : FVec F S768x1152 .f32) : FVec F S768x1152 .f32) Finset.univ (View.stores_vmem_bits_univ h_S768x1152 rfl) (.inl rfl))
  let v7037 : Vec F S1152x768 .f32 ← Prog.lift (.load arg16 (Rect.unit (s := S1152x768) ![0, 0] S1152x768.size inb_S1152x768_S1152x768_0_0).toLoadRect (View.loadsAt_vmem h_S1152x768))
  let v7038 : Vec F S1152x768 .bf16 ← Prog.lift (.load arg14 (Rect.unit (s := S1152x768) ![0, 0] S1152x768.size inb_S1152x768_S1152x768_0_0).toLoadRect (View.loadsAt_vmem h_S1152x768))
  let v7039 : Vec F S768x768 .bf16 ← Prog.lift (.load arg13 (Rect.unit (s := S768x768) ![0, 0] S768x768.size inb_S768x768_S768x768_0_0).toLoadRect (View.loadsAt_vmem h_S768x768))
  let _ : Vec F S1152x768 .f32 ← Prog.lift (.load arg16 (Rect.unit (s := S1152x768) ![0, 0] S1152x768.size inb_S1152x768_S1152x768_0_0).toLoadRect (View.loadsAt_vmem h_S1152x768))
  Prog.lift (.store arg16 (Rect.unit (s := S1152x768) ![0, 0] S1152x768.size inb_S1152x768_S1152x768_0_0) (shapeCast S1152x768 (addf v7037 (matmul dot_S1152x768_S768x768_S1152x768_1_0_0_1_n_n none v7038 v7039 (constant S1152x768 .f32 0x00000000#32 : FVec F S1152x768 .f32) : FVec F S1152x768 .f32) : FVec F S1152x768 .f32) shapeCasts_S1152x768_S1152x768 : FVec F S1152x768 .f32) Finset.univ (View.stores_vmem_bits_univ h_S1152x768 rfl) (.inl rfl))
  K

/-- What follows the matrix products at every grid point: the list walk and, at the last point, the second result. -/
def tailPhase (i : grid0.Coords) (arg1 : Memref sig .tc .smem S768 .i32) (harg1 : arg1.IsWhole) (arg2 : Memref sig .tc .vmem S768x768 .fp8e5m2) (harg2 : arg2.IsWhole) (arg3 : Memref sig .tc .vmem S6x2x384 .f32) (harg3 : arg3.IsWhole) (arg4 : Memref sig .tc .vmem S768x1152 .fp8e4m3) (harg4 : arg4.IsWhole) (arg5 : Memref sig .tc .vmem S2x384 .f32) (harg5 : arg5.IsWhole) (arg6 : Memref sig .tc .vmem S576x768 .i8) (harg6 : arg6.IsWhole) (arg7 : Memref sig .tc .vmem S36x768 .f32) (harg7 : arg7.IsWhole) (arg8 : Memref sig .tc .vmem S768x1152 .bf16) (harg8 : arg8.IsWhole) (arg9 : Memref sig .tc .vmem S768x1152 .f32) (harg9 : arg9.IsWhole) (arg10 : Memref sig .tc .vmem S768x1152 .bf16) (harg10 : arg10.IsWhole) (arg11 : Memref sig .tc .vmem S768x1152 .bf16) (harg11 : arg11.IsWhole) (arg12 : Memref sig .tc .vmem S768x1152 .f32) (harg12 : arg12.IsWhole) (arg13 : Memref sig .tc .vmem S768x768 .bf16) (harg13 : arg13.IsWhole) (arg14 : Memref sig .tc .vmem S1152x768 .bf16) (harg14 : arg14.IsWhole) (arg15 : Memref sig .tc .vmem S36x768 .f32) (harg15 : arg15.IsWhole) (arg16 : Memref sig .tc .vmem S1152x768 .f32) (harg16 : arg16.IsWhole) (arg17 : Memref sig .tc .smem S167 .i32) (harg17 : arg17.IsWhole) (arg18 : Memref sig .tc .smem S768 .i32) (harg18 : arg18.IsWhole) : Prog (TpuEff nD τ sig (Elt F) (Λ₀ F) .tc) PUnit := do
  let v7046 : Elt F .i32 ← smemLoad arg17 (Rect.unit (s := S167) (k0_off5 i) S1.size (k0_off5_inb i)) numel1_S1 rfl
  let _ : BitVec 32 ← Prog.lift (.call (1 : (Λ₀ F).Label) ⟨i, arg1, harg1, arg9, harg9, arg12, harg12, arg18, harg18, v7046⟩)
  if k0_h2 : k0_cond2 i = 1#1 then finPhase arg10 harg10 arg16 else pure ⟨⟩
  pure ⟨⟩

/-- The kernel body as phases. -/
def body (i : grid0.Coords) (arg1 : Memref sig .tc .smem S768 .i32) (harg1 : arg1.IsWhole) (arg2 : Memref sig .tc .vmem S768x768 .fp8e5m2) (harg2 : arg2.IsWhole) (arg3 : Memref sig .tc .vmem S6x2x384 .f32) (harg3 : arg3.IsWhole) (arg4 : Memref sig .tc .vmem S768x1152 .fp8e4m3) (harg4 : arg4.IsWhole) (arg5 : Memref sig .tc .vmem S2x384 .f32) (harg5 : arg5.IsWhole) (arg6 : Memref sig .tc .vmem S576x768 .i8) (harg6 : arg6.IsWhole) (arg7 : Memref sig .tc .vmem S36x768 .f32) (harg7 : arg7.IsWhole) (arg8 : Memref sig .tc .vmem S768x1152 .bf16) (harg8 : arg8.IsWhole) (arg9 : Memref sig .tc .vmem S768x1152 .f32) (harg9 : arg9.IsWhole) (arg10 : Memref sig .tc .vmem S768x1152 .bf16) (harg10 : arg10.IsWhole) (arg11 : Memref sig .tc .vmem S768x1152 .bf16) (harg11 : arg11.IsWhole) (arg12 : Memref sig .tc .vmem S768x1152 .f32) (harg12 : arg12.IsWhole) (arg13 : Memref sig .tc .vmem S768x768 .bf16) (harg13 : arg13.IsWhole) (arg14 : Memref sig .tc .vmem S1152x768 .bf16) (harg14 : arg14.IsWhole) (arg15 : Memref sig .tc .vmem S36x768 .f32) (harg15 : arg15.IsWhole) (arg16 : Memref sig .tc .vmem S1152x768 .f32) (harg16 : arg16.IsWhole) (arg17 : Memref sig .tc .smem S167 .i32) (harg17 : arg17.IsWhole) (arg18 : Memref sig .tc .smem S768 .i32) (harg18 : arg18.IsWhole) : Prog (TpuEff nD τ sig (Elt F) (Λ₀ F) .tc) PUnit := do
  if k0_h1 : k0_cond1 i = 1#1 then initPhase i k0_h1 arg1 arg4 arg5 arg8 arg11 harg11 arg12 arg16 arg17 arg18 else pure ⟨⟩
  midPhase i arg2 arg3 arg6 arg7 arg9 arg11 arg13 harg13 arg14 harg14 arg15 arg16
    (tailPhase i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)

/-- The printed work of the first grid point is `initPhase`. -/
theorem init_eq (i : grid0.Coords) (arg1 : Memref sig .tc .smem S768 .i32) (harg1 : arg1.IsWhole) (arg2 : Memref sig .tc .vmem S768x768 .fp8e5m2) (harg2 : arg2.IsWhole) (arg3 : Memref sig .tc .vmem S6x2x384 .f32) (harg3 : arg3.IsWhole) (arg4 : Memref sig .tc .vmem S768x1152 .fp8e4m3) (harg4 : arg4.IsWhole) (arg5 : Memref sig .tc .vmem S2x384 .f32) (harg5 : arg5.IsWhole) (arg6 : Memref sig .tc .vmem S576x768 .i8) (harg6 : arg6.IsWhole) (arg7 : Memref sig .tc .vmem S36x768 .f32) (harg7 : arg7.IsWhole) (arg8 : Memref sig .tc .vmem S768x1152 .bf16) (harg8 : arg8.IsWhole) (arg9 : Memref sig .tc .vmem S768x1152 .f32) (harg9 : arg9.IsWhole) (arg10 : Memref sig .tc .vmem S768x1152 .bf16) (harg10 : arg10.IsWhole) (arg11 : Memref sig .tc .vmem S768x1152 .bf16) (harg11 : arg11.IsWhole) (arg12 : Memref sig .tc .vmem S768x1152 .f32) (harg12 : arg12.IsWhole) (arg13 : Memref sig .tc .vmem S768x768 .bf16) (harg13 : arg13.IsWhole) (arg14 : Memref sig .tc .vmem S1152x768 .bf16) (harg14 : arg14.IsWhole) (arg15 : Memref sig .tc .vmem S36x768 .f32) (harg15 : arg15.IsWhole) (arg16 : Memref sig .tc .vmem S1152x768 .f32) (harg16 : arg16.IsWhole) (arg17 : Memref sig .tc .smem S167 .i32) (harg17 : arg17.IsWhole) (arg18 : Memref sig .tc .smem S768 .i32) (harg18 : arg18.IsWhole) (k0_h1 : k0_cond1 i = 1#1) :
    (do
    let ⟨v7065, v7083⟩ : Σ' (v7065 : FVec F S128x128 .bf16), FVec F S128x128 .bf16 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    let v7118 : FVec F S128x128 .bf16 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7065 v7083
    let ⟨v7133, v7155⟩ : Σ' (v7133 : FVec F S128x128 .bf16), Vec F S128x128 .fp8e4m3 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7065 v7118
    let v7190 : Vec F S128x128 .fp8e4m3 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7133 v7155
    let ⟨v7201, v7226⟩ : Σ' (v7201 : FVec F S128x128 .bf16), FVec F S128x128 .bf16 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7133 v7190
    let v7261 : FVec F S128x128 .bf16 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7201 v7226
    let v7269 : FVec F S128x128 .bf16 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7261
    k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7269
    let ⟨v7337, v7369⟩ : Σ' (v7337 : FVec F S128x128 .bf16), FVec F S128x128 .bf16 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    let v7404 : FVec F S128x128 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7337 v7369
    let ⟨v7405, v7440⟩ : Σ' (v7405 : FVec F S128x128 .bf16), FVec F S128x128 .bf16 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7404
    k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 v7405 v7440
    let c768_i32_3535 : BitVec 32 := 768#32
    pure ⟨⟩ : Prog (TpuEff nD τ sig (Elt F) (Λ₀ F) .tc) PUnit) = initPhase i k0_h1 arg1 arg4 arg5 arg8 arg11 harg11 arg12 arg16 arg17 arg18 := by
  chain_rfl

/-- The printed body is the phases in order. -/
theorem body_eq (i : grid0.Coords) (arg1 : Memref sig .tc .smem S768 .i32) (harg1 : arg1.IsWhole) (arg2 : Memref sig .tc .vmem S768x768 .fp8e5m2) (harg2 : arg2.IsWhole) (arg3 : Memref sig .tc .vmem S6x2x384 .f32) (harg3 : arg3.IsWhole) (arg4 : Memref sig .tc .vmem S768x1152 .fp8e4m3) (harg4 : arg4.IsWhole) (arg5 : Memref sig .tc .vmem S2x384 .f32) (harg5 : arg5.IsWhole) (arg6 : Memref sig .tc .vmem S576x768 .i8) (harg6 : arg6.IsWhole) (arg7 : Memref sig .tc .vmem S36x768 .f32) (harg7 : arg7.IsWhole) (arg8 : Memref sig .tc .vmem S768x1152 .bf16) (harg8 : arg8.IsWhole) (arg9 : Memref sig .tc .vmem S768x1152 .f32) (harg9 : arg9.IsWhole) (arg10 : Memref sig .tc .vmem S768x1152 .bf16) (harg10 : arg10.IsWhole) (arg11 : Memref sig .tc .vmem S768x1152 .bf16) (harg11 : arg11.IsWhole) (arg12 : Memref sig .tc .vmem S768x1152 .f32) (harg12 : arg12.IsWhole) (arg13 : Memref sig .tc .vmem S768x768 .bf16) (harg13 : arg13.IsWhole) (arg14 : Memref sig .tc .vmem S1152x768 .bf16) (harg14 : arg14.IsWhole) (arg15 : Memref sig .tc .vmem S36x768 .f32) (harg15 : arg15.IsWhole) (arg16 : Memref sig .tc .vmem S1152x768 .f32) (harg16 : arg16.IsWhole) (arg17 : Memref sig .tc .smem S167 .i32) (harg17 : arg17.IsWhole) (arg18 : Memref sig .tc .smem S768 .i32) (harg18 : arg18.IsWhole) :
    cc0_tied_embedding_grad (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 := by
  unfold cc0_tied_embedding_grad k0_part205 k0_part23 body
  by_cases k0_h1 : k0_cond1 i = 1#1
  · rw [dif_pos k0_h1, dif_pos k0_h1, ← init_eq (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1]
    simp only [bind_assoc]
    refine congrArg _ ?_
    funext _
    chain_rfl
  · rw [dif_neg k0_h1, dif_neg k0_h1]
    chain_rfl
end Cert.Proof.KB
-- ==== Proof.KB.Phases.lean ====
/- What the block loops of the kernel body leave in the buffers they fill. -/
module

public import proofs.«01_k».proof.Proof.KB.Prog
public import proofs.«01_k».proof.Proof.Rules

@[expose] public section

noncomputable section

namespace Cert.Proof.KB

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The recursion measure of the kernel's loop over a token list. -/
abbrev 𝒱₀ : Variants := Variants.nat

/-! ## The dequantised hidden states -/

/-- Block `(t, d)` of the dequantised hidden states. -/
def hhAt (x4 : Vec F S768x1152 .fp8e4m3) (x5 : Vec F S2x384 .f32) (t : Fin 6) (d : Fin 9) : FVec F S128x128 .bf16 :=
  hhPay (hhScale fun x => x5 ((rS t).idx x)) (fun x => x4 ((rH t d).idx x))

/-- The dequantised hidden states. -/
def hhG (x4 : Vec F S768x1152 .fp8e4m3) (x5 : Vec F S2x384 .f32) : FVec F S768x1152 .bf16 :=
  blocked (M := 6) (N := 9) (p := 128) (q := 128) (by decide) (by decide) rfl rfl (hhAt x4 x5)

theorem hhG_idx (x4 : Vec F S768x1152 .fp8e4m3) (x5 : Vec F S2x384 .f32) (t : Fin 6) (d : Fin 9) (x : S128x128.Idx) :
    hhAt x4 x5 t d x = hhG x4 x5 ((rH t d).idx x) :=
  (blocked_eq _ _ t d x (by show 128 * t.val + 1 * _ = _; omega) (by show 128 * d.val + 1 * _ = _; omega)).symm

/-- Of a 768-row array of blocks, the part filled before block `(t, d)`. -/
def Done (t d : ℕ) {P Q : ℕ} (y : (⟨2, ![P, Q]⟩ : Shape).Idx) : Prop :=
  (y 0).val < 128 * t ∨ ((y 0).val < 128 * (t + 1) ∧ (y 1).val < 128 * d)

/-- What the loop over the blocks keeps. -/
def hhInv (c : Dev nD) (arg4 : Memref sig .tc .vmem S768x1152 .fp8e4m3) (arg5 : Memref sig .tc .vmem S2x384 .f32)
    (arg11 : Memref sig .tc .vmem S768x1152 .bf16) (x4 : Vec F S768x1152 .fp8e4m3) (x5 : Vec F S2x384 .f32) (t d : ℕ) : sProp 𝕄 :=
  iprop(owns (c : Thread nD τ) arg4 fullShare x4 ∗ owns (c : Thread nD τ) arg5 fullShare x5
    ∗ ∃ Y, ⌜∀ y, Done t d y → Y y = hhG x4 x5 y⌝ ∗ owns (c : Thread nD τ) arg11 fullShare Y)

theorem hh_inner (c : Dev nD) (arg4 : Memref sig .tc .vmem S768x1152 .fp8e4m3) (arg5 : Memref sig .tc .vmem S2x384 .f32)
    (arg11 : Memref sig .tc .vmem S768x1152 .bf16) (harg11 : arg11.IsWhole) (x4 : Vec F S768x1152 .fp8e4m3) (x5 : Vec F S2x384 .f32)
    (t : Fin 6) (d : Fin 9) :
    hhInv c arg4 arg5 arg11 x4 x5 t d ⊢ wp frame (wpE (defs₀ (F := F)) 𝒱₀ (c : Thread nD τ) none) Set.univ
      (do
        let x : Vec F S128x128 .fp8e4m3 ← Prog.lift (.load arg4 (rH t d).toLoadRect (View.loadsAt_vmem h_S128x128))
        let _ : Vec F S128x128 .bf16 ← Prog.lift (.load arg11 (rH t d).toLoadRect (View.loadsAt_vmem h_S128x128))
        Prog.lift (.store arg11 (rH t d) (hhPay (hhScale fun x => x5 ((rS t).idx x)) x) Finset.univ (stH harg11 t d) (.inl rfl)) : Prog (TpuEff nD τ sig (Elt F) (Λ₀ F) .tc) PUnit)
      (fun _ => hhInv c arg4 arg5 arg11 x4 x5 t (d + 1)) := by
  unfold hhInv
  simp only [Prog.lift, Prog.bind_op, Prog.bind_ret, Prog.pure_eq_ret]
  iintro ⟨H4, H5, ⟨%Y, %hY, H11⟩⟩
  iapply (wp_load_owns 𝒱₀ (c : Thread nD τ) none Set.univ) $$ H4
  iintro H4
  iapply (wp_load_owns 𝒱₀ (c : Thread nD τ) none Set.univ) $$ H11
  iintro H11
  iapply (wp_store_owns 𝒱₀ (c : Thread nD τ) none Set.univ) $$ H11
  iintro H11
  rw [wp_ret]
  imodintro
  isplitl [H4]; · iexact H4
  isplitl [H5]; · iexact H5
  iexists _
  isplitr
  swap; · iexact H11
  ipureintro
  intro y hy
  by_cases h : Done t.val d.val y
  · exact overlay_keep _ _ (hhG x4 x5) _ (hhG_idx x4 x5 t d) y (hY y h)
  · refine overlay_new _ _ (hhG x4 x5) _ (hhG_idx x4 x5 t d) y (exists_idx _ (fun _ => rfl) y fun a => ?_)
    unfold Done at h hy
    match a with
    | 0 => show 128 * t.val ≤ (y 0).val ∧ (y 0).val < 128 * t.val + 128; omega
    | 1 => show 128 * d.val ≤ (y 1).val ∧ (y 1).val < 128 * d.val + 128; omega

/-- The hidden-state phase fills its buffer with the dequantised hidden states. -/
theorem hh_spec {α : Type} {Q : α → sProp 𝕄} (c : Dev nD) (arg4 : Memref sig .tc .vmem S768x1152 .fp8e4m3) (arg5 : Memref sig .tc .vmem S2x384 .f32)
    (arg11 : Memref sig .tc .vmem S768x1152 .bf16) (harg11 : arg11.IsWhole) (x4 : Vec F S768x1152 .fp8e4m3) (x5 : Vec F S2x384 .f32)
    (k : PUnit → Prog (TpuEff nD τ sig (Elt F) (Λ₀ F) .tc) α) :
    iprop(owns (c : Thread nD τ) arg4 fullShare x4 ∗ owns (c : Thread nD τ) arg5 fullShare x5 ∗ (∃ Y, owns (c : Thread nD τ) arg11 fullShare Y)) ⊢
      iprop((iprop(owns (c : Thread nD τ) arg4 fullShare x4 ∗ owns (c : Thread nD τ) arg5 fullShare x5 ∗ owns (c : Thread nD τ) arg11 fullShare (hhG x4 x5))
          -∗ wp frame (wpE (defs₀ (F := F)) 𝒱₀ (c : Thread nD τ) none) Set.univ (k ⟨⟩) Q)
        -∗ wp frame (wpE (defs₀ (F := F)) 𝒱₀ (c : Thread nD τ) none) Set.univ ((hhPhase arg4 arg5 arg11 harg11).bind k) Q) := by
  have loop : ∀ t : Fin 6, hhInv c arg4 arg5 arg11 x4 x5 t 0 ⊢ wp frame (wpE (defs₀ (F := F)) 𝒱₀ (c : Thread nD τ) none) Set.univ
      (do
        let s : Vec F S1x128 .f32 ← Prog.lift (.load arg5 (rS t).toLoadRect (View.loadsAt_vmem h_S1x128))
        forN 9 fun d => do
          let x : Vec F S128x128 .fp8e4m3 ← Prog.lift (.load arg4 (rH t d).toLoadRect (View.loadsAt_vmem h_S128x128))
          let _ : Vec F S128x128 .bf16 ← Prog.lift (.load arg11 (rH t d).toLoadRect (View.loadsAt_vmem h_S128x128))
          Prog.lift (.store arg11 (rH t d) (hhPay (hhScale s) x) Finset.univ (stH harg11 t d) (.inl rfl)) : Prog (TpuEff nD τ sig (Elt F) (Λ₀ F) .tc) PUnit)
      (fun _ => hhInv c arg4 arg5 arg11 x4 x5 (t + 1) 0) := by
    intro t
    have inner := fun (Q' : PUnit → sProp 𝕄) hQ => wp_forN_tail 𝒱₀ (c : Thread nD τ) none (defs := defs₀ (F := F)) Set.univ (fun d => hhInv c arg4 arg5 arg11 x4 x5 t d) 9 _
      (Q := Q') (hh_inner c arg4 arg5 arg11 harg11 x4 x5 t) hQ
    have inner := inner (fun _ => hhInv c arg4 arg5 arg11 x4 x5 (t + 1) 0) (by
      unfold hhInv
      iintro ⟨H4, H5, ⟨%Y, %hY, H11⟩⟩
      isplitl [H4]; · iexact H4
      isplitl [H5]; · iexact H5
      iexists _
      isplitr
      swap; · iexact H11
      ipureintro
      intro y hy
      refine hY y ?_
      have h1 : (y 1).val < 1152 := (y 1).isLt
      unfold Done at hy ⊢
      omega)
    simp only [Prog.lift, Prog.bind_op, Prog.bind_ret, Prog.pure_eq_ret] at inner ⊢
    rw [show hhInv c arg4 arg5 arg11 x4 x5 t 0 = iprop(owns (c : Thread nD τ) arg4 fullShare x4 ∗ owns (c : Thread nD τ) arg5 fullShare x5
      ∗ ∃ Y, ⌜∀ y, Done t 0 y → Y y = hhG x4 x5 y⌝ ∗ owns (c : Thread nD τ) arg11 fullShare Y) from rfl]
    iintro ⟨H4, H5, H⟩
    iapply (wp_load_owns 𝒱₀ (c : Thread nD τ) none Set.univ) $$ H5
    iintro H5
    iapply inner
    unfold hhInv
    isplitl [H4]; · iexact H4
    isplitl [H5]; · iexact H5
    iexact H
  unfold hhPhase
  iintro ⟨H4, H5, ⟨%Y, H11⟩⟩ Hk
  iapply (wp_forN_bind 𝒱₀ (c : Thread nD τ) none Set.univ (fun t => hhInv c arg4 arg5 arg11 x4 x5 t 0) 6 _ loop) $$ [H4 H5 H11]
  · unfold hhInv
    isplitl [H4]; · iexact H4
    isplitl [H5]; · iexact H5
    iexists Y
    isplitr
    swap; · iexact H11
    ipureintro
    intro y hy
    unfold Done at hy
    omega
  unfold hhInv
  iintro ⟨H4, H5, ⟨%Y', %hY, H11⟩⟩
  iapply Hk
  obtain rfl : Y' = hhG x4 x5 := funext fun y => hY y (.inl (y 0).isLt)
  isplitl [H4]; · iexact H4
  isplitl [H5]; · iexact H5
  iexact H11

/-! ## The dequantised logit gradients -/

/-- Block `(v, t)` of the transposed dequantised logit gradients. -/
def dltAt (x2 : Vec F S768x768 .fp8e5m2) (x3 : Vec F S6x2x384 .f32) (v t : Fin 6) : FVec F S128x128 .bf16 :=
  dltPay (fun x => x2 ((rD t v).idx x)) (fun x => x3 ((rT v t).idx x))

/-- The dequantised logit gradients, vocabulary by tokens. -/
def dltG (x2 : Vec F S768x768 .fp8e5m2) (x3 : Vec F S6x2x384 .f32) : FVec F S768x768 .bf16 :=
  blocked (M := 6) (N := 6) (p := 128) (q := 128) (by decide) (by decide) rfl rfl (dltAt x2 x3)

theorem dltG_idx (x2 : Vec F S768x768 .fp8e5m2) (x3 : Vec F S6x2x384 .f32) (v t : Fin 6) (x : S128x128.Idx) :
    dltAt x2 x3 v t x = dltG x2 x3 ((rD v t).idx x) :=
  (blocked_eq _ _ v t x (by show 128 * v.val + 1 * _ = _; omega) (by show 128 * t.val + 1 * _ = _; omega)).symm

/-- What the loop over the blocks keeps. -/
def dltInv (c : Dev nD) (arg2 : Memref sig .tc .vmem S768x768 .fp8e5m2) (arg3 : Memref sig .tc .vmem S6x2x384 .f32)
    (arg13 : Memref sig .tc .vmem S768x768 .bf16) (x2 : Vec F S768x768 .fp8e5m2) (x3 : Vec F S6x2x384 .f32) (v t : ℕ) : sProp 𝕄 :=
  iprop(owns (c : Thread nD τ) arg2 fullShare x2 ∗ owns (c : Thread nD τ) arg3 fullShare x3
    ∗ ∃ Y, ⌜∀ y, Done v t y → Y y = dltG x2 x3 y⌝ ∗ owns (c : Thread nD τ) arg13 fullShare Y)

/-- The logit-gradient phase fills its buffer with the dequantised logit gradients. -/
theorem dlt_spec {α : Type} {Q : α → sProp 𝕄} (c : Dev nD) (arg2 : Memref sig .tc .vmem S768x768 .fp8e5m2) (arg3 : Memref sig .tc .vmem S6x2x384 .f32)
    (arg13 : Memref sig .tc .vmem S768x768 .bf16) (harg13 : arg13.IsWhole) (x2 : Vec F S768x768 .fp8e5m2) (x3 : Vec F S6x2x384 .f32)
    (k : PUnit → Prog (TpuEff nD τ sig (Elt F) (Λ₀ F) .tc) α) :
    iprop(owns (c : Thread nD τ) arg2 fullShare x2 ∗ owns (c : Thread nD τ) arg3 fullShare x3 ∗ (∃ Y, owns (c : Thread nD τ) arg13 fullShare Y)) ⊢
      iprop((iprop(owns (c : Thread nD τ) arg2 fullShare x2 ∗ owns (c : Thread nD τ) arg3 fullShare x3 ∗ owns (c : Thread nD τ) arg13 fullShare (dltG x2 x3))
          -∗ wp frame (wpE (defs₀ (F := F)) 𝒱₀ (c : Thread nD τ) none) Set.univ (k ⟨⟩) Q)
        -∗ wp frame (wpE (defs₀ (F := F)) 𝒱₀ (c : Thread nD τ) none) Set.univ ((dltPhase arg2 arg3 arg13 harg13).bind k) Q) := by
  have inner : ∀ v t : Fin 6, dltInv c arg2 arg3 arg13 x2 x3 v t ⊢ wp frame (wpE (defs₀ (F := F)) 𝒱₀ (c : Thread nD τ) none) Set.univ
      (do
        let x : Vec F S128x128 .fp8e5m2 ← Prog.lift (.load arg2 (rD t v).toLoadRect (View.loadsAt_vmem h_S128x128))
        let s : Vec F S1x1x128 .f32 ← Prog.lift (.load arg3 (rT v t).toLoadRect (View.loadsAt_vmem h_S1x1x128))
        let _ : Vec F S128x128 .bf16 ← Prog.lift (.load arg13 (rD v t).toLoadRect (View.loadsAt_vmem h_S128x128))
        Prog.lift (.store arg13 (rD v t) (dltPay x s) Finset.univ (stD harg13 v t) (.inl rfl)) : Prog (TpuEff nD τ sig (Elt F) (Λ₀ F) .tc) PUnit)
      (fun _ => dltInv c arg2 arg3 arg13 x2 x3 v (t + 1)) := by
    intro v t
    unfold dltInv
    simp only [Prog.lift, Prog.bind_op, Prog.bind_ret, Prog.pure_eq_ret]
    iintro ⟨H2, H3, ⟨%Y, %hY, H13⟩⟩
    iapply (wp_load_owns 𝒱₀ (c : Thread nD τ) none Set.univ) $$ H2
    iintro H2
    iapply (wp_load_owns 𝒱₀ (c : Thread nD τ) none Set.univ) $$ H3
    iintro H3
    iapply (wp_load_owns 𝒱₀ (c : Thread nD τ) none Set.univ) $$ H13
    iintro H13
    iapply (wp_store_owns 𝒱₀ (c : Thread nD τ) none Set.univ) $$ H13
    iintro H13
    rw [wp_ret]
    imodintro
    isplitl [H2]; · iexact H2
    isplitl [H3]; · iexact H3
    iexists _
    isplitr
    swap; · iexact H13
    ipureintro
    intro y hy
    by_cases h : Done v.val t.val y
    · exact overlay_keep _ _ (dltG x2 x3) _ (dltG_idx x2 x3 v t) y (hY y h)
    · refine overlay_new _ _ (dltG x2 x3) _ (dltG_idx x2 x3 v t) y (exists_idx _ (fun _ => rfl) y fun a => ?_)
      unfold Done at h hy
      match a with
      | 0 => show 128 * v.val ≤ (y 0).val ∧ (y 0).val < 128 * v.val + 128; omega
      | 1 => show 128 * t.val ≤ (y 1).val ∧ (y 1).val < 128 * t.val + 128; omega
  have loop := fun v : Fin 6 => wp_forN_tail 𝒱₀ (c : Thread nD τ) none (defs := defs₀ (F := F)) Set.univ
    (fun t => dltInv c arg2 arg3 arg13 x2 x3 v t) 6 _ (Q := fun _ => dltInv c arg2 arg3 arg13 x2 x3 (v + 1) 0) (inner v) (by
      unfold dltInv
      iintro ⟨H2, H3, ⟨%Y, %hY, H13⟩⟩
      isplitl [H2]; · iexact H2
      isplitl [H3]; · iexact H3
      iexists _
      isplitr
      swap; · iexact H13
      ipureintro
      intro y hy
      refine hY y ?_
      have h1 : (y 1).val < 768 := (y 1).isLt
      unfold Done at hy ⊢
      omega)
  unfold dltPhase
  iintro ⟨H2, H3, ⟨%Y, H13⟩⟩ Hk
  iapply (wp_forN_bind 𝒱₀ (c : Thread nD τ) none Set.univ (fun v => dltInv c arg2 arg3 arg13 x2 x3 v 0) 6 _ loop) $$ [H2 H3 H13]
  · unfold dltInv
    isplitl [H2]; · iexact H2
    isplitl [H3]; · iexact H3
    iexists Y
    isplitr
    swap; · iexact H13
    ipureintro
    intro y hy
    unfold Done at hy
    omega
  unfold dltInv
  iintro ⟨H2, H3, ⟨%Y', %hY, H13⟩⟩
  iapply Hk
  obtain rfl : Y' = dltG x2 x3 := funext fun y => hY y (.inl (y 0).isLt)
  isplitl [H2]; · iexact H2
  isplitl [H3]; · iexact H3
  iexact H13

/-! ## The dequantised weights -/

/-- Sixteen rows of dequantised weights: nibble `k` of the halfwords of the byte rows of group pair `q`. -/
def etsQ (r : Vec F S36x768 .f32) (x6 : Vec F S576x768 .i8) (q : Fin 18) (c : Fin 6) (k : ℕ) : FVec F S16x128 .bf16 :=
  etsPay (etsScale (fun x => r ((rG ⟨2 * q.val, by omega⟩ c).idx x)) (fun x => r ((rG ⟨2 * q.val + 1, by omega⟩ c).idx x)))
    (etsWord fun x => x6 ((rB q c).idx x)) k

/-- The same by row block. -/
def etsAt (r : Vec F S36x768 .f32) (x6 : Vec F S576x768 .i8) (a : Fin 72) (c : Fin 6) : FVec F S16x128 .bf16 :=
  etsQ r x6 ⟨a.val / 4, by omega⟩ c (a.val % 4)

/-- The dequantised weights, in the row order the kernel keeps them in, by vocabulary. -/
def etsG (r : Vec F S36x768 .f32) (x6 : Vec F S576x768 .i8) : FVec F S1152x768 .bf16 :=
  blocked (M := 72) (N := 6) (p := 16) (q := 128) (by decide) (by decide) rfl rfl (etsAt r x6)

theorem etsG_idx (r : Vec F S36x768 .f32) (x6 : Vec F S576x768 .i8) (q : Fin 18) (c : Fin 6) (k : Fin 4) (x : S16x128.Idx) :
    etsQ r x6 q c k.val x = etsG r x6 ((rE q c k).idx x) := by
  have h := blocked_eq (M := 72) (N := 6) (p := 16) (q := 128) (hp := by decide) (hq := by decide) (hP := rfl) (hQ := rfl)
    (etsAt r x6) ((rE q c k).idx x) ⟨4 * q.val + k.val, by omega⟩ c x
    (by show 64 * q.val + 16 * k.val + 1 * _ = 16 * (4 * q.val + k.val) + _; omega) (by show 128 * c.val + 1 * _ = _; omega)
  have e1 : (⟨(4 * q.val + k.val) / 4, by omega⟩ : Fin 18) = q := Fin.ext (by show (4 * q.val + k.val) / 4 = q.val; omega)
  have e2 : (4 * q.val + k.val) % 4 = k.val := by omega
  refine Eq.trans ?_ h.symm
  show _ = etsQ r x6 ⟨(4 * q.val + k.val) / 4, _⟩ c ((4 * q.val + k.val) % 4) x
  rw [e1, e2]

/-- Of the weight buffer, the part filled before row block `k` of group pair `q` in block column `c`. -/
def DoneE (q c k : ℕ) (y : S1152x768.Idx) : Prop :=
  (y 0).val < 64 * q ∨ ((y 0).val < 64 * (q + 1) ∧ ((y 1).val < 128 * c ∨ ((y 1).val < 128 * (c + 1) ∧ (y 0).val < 64 * q + 16 * k)))

/-- What the loop over the blocks keeps. -/
def etsInv (d : Dev nD) (arg6 : Memref sig .tc .vmem S576x768 .i8) (arg14 : Memref sig .tc .vmem S1152x768 .bf16)
    (arg15 : Memref sig .tc .vmem S36x768 .f32) (x6 : Vec F S576x768 .i8) (r : Vec F S36x768 .f32) (q c k : ℕ) : sProp 𝕄 :=
  iprop(owns (d : Thread nD τ) arg6 fullShare x6 ∗ owns (d : Thread nD τ) arg15 fullShare r
    ∗ ∃ Y, ⌜∀ y, DoneE q c k y → Y y = etsG r x6 y⌝ ∗ owns (d : Thread nD τ) arg14 fullShare Y)

/-- More of the buffer filled is enough. -/
theorem etsInv_mono (d : Dev nD) (arg6 : Memref sig .tc .vmem S576x768 .i8) (arg14 : Memref sig .tc .vmem S1152x768 .bf16)
    (arg15 : Memref sig .tc .vmem S36x768 .f32) (x6 : Vec F S576x768 .i8) (r : Vec F S36x768 .f32) (q c k q' c' k' : ℕ)
    (h : ∀ y, DoneE q' c' k' y → DoneE q c k y) :
    etsInv d arg6 arg14 arg15 x6 r q c k ⊢ etsInv d arg6 arg14 arg15 x6 r q' c' k' := by
  unfold etsInv
  iintro ⟨H6, H15, ⟨%Y, %hY, H14⟩⟩
  isplitl [H6]; · iexact H6
  isplitl [H15]; · iexact H15
  iexists _
  isplitr
  swap; · iexact H14
  ipureintro
  exact fun y hy => hY y (h y hy)

/-- The weight phase fills its buffer with the dequantised weights. -/
theorem ets_spec {α : Type} {Q : α → sProp 𝕄} (d : Dev nD) (arg6 : Memref sig .tc .vmem S576x768 .i8) (arg14 : Memref sig .tc .vmem S1152x768 .bf16)
    (harg14 : arg14.IsWhole) (arg15 : Memref sig .tc .vmem S36x768 .f32) (x6 : Vec F S576x768 .i8) (r : Vec F S36x768 .f32)
    (k : PUnit → Prog (TpuEff nD τ sig (Elt F) (Λ₀ F) .tc) α) :
    iprop(owns (d : Thread nD τ) arg6 fullShare x6 ∗ owns (d : Thread nD τ) arg15 fullShare r ∗ (∃ Y, owns (d : Thread nD τ) arg14 fullShare Y)) ⊢
      iprop((iprop(owns (d : Thread nD τ) arg6 fullShare x6 ∗ owns (d : Thread nD τ) arg15 fullShare r ∗ owns (d : Thread nD τ) arg14 fullShare (etsG r x6))
          -∗ wp frame (wpE (defs₀ (F := F)) 𝒱₀ (d : Thread nD τ) none) Set.univ (k ⟨⟩) Q)
        -∗ wp frame (wpE (defs₀ (F := F)) 𝒱₀ (d : Thread nD τ) none) Set.univ ((etsPhase arg6 arg14 harg14 arg15).bind k) Q) := by
  have inner : ∀ (q : Fin 18) (c : Fin 6) (k : Fin 4), etsInv d arg6 arg14 arg15 x6 r q c k ⊢ wp frame (wpE (defs₀ (F := F)) 𝒱₀ (d : Thread nD τ) none) Set.univ
      (do
        let _ : Vec F S16x128 .bf16 ← Prog.lift (.load arg14 (rE q c k).toLoadRect (View.loadsAt_vmem h_S16x128))
        Prog.lift (.store arg14 (rE q c k) (etsQ r x6 q c k.val) Finset.univ (stE harg14 q c k) (.inl rfl)) : Prog (TpuEff nD τ sig (Elt F) (Λ₀ F) .tc) PUnit)
      (fun _ => etsInv d arg6 arg14 arg15 x6 r q c (k + 1)) := by
    intro q c k
    unfold etsInv
    simp only [Prog.lift, Prog.bind_op, Prog.bind_ret, Prog.pure_eq_ret]
    iintro ⟨H6, H15, ⟨%Y, %hY, H14⟩⟩
    iapply (wp_load_owns 𝒱₀ (d : Thread nD τ) none Set.univ) $$ H14
    iintro H14
    iapply (wp_store_owns 𝒱₀ (d : Thread nD τ) none Set.univ) $$ H14
    iintro H14
    rw [wp_ret]
    imodintro
    isplitl [H6]; · iexact H6
    isplitl [H15]; · iexact H15
    iexists _
    isplitr
    swap; · iexact H14
    ipureintro
    intro y hy
    by_cases h : DoneE q.val c.val k.val y
    · exact overlay_keep _ _ (etsG r x6) _ (etsG_idx r x6 q c k) y (hY y h)
    · refine overlay_new _ _ (etsG r x6) _ (etsG_idx r x6 q c k) y (exists_idx _ (fun _ => rfl) y fun a => ?_)
      unfold DoneE at h hy
      match a with
      | 0 => show 64 * q.val + 16 * k.val ≤ (y 0).val ∧ (y 0).val < 64 * q.val + 16 * k.val + 16; omega
      | 1 => show 128 * c.val ≤ (y 1).val ∧ (y 1).val < 128 * c.val + 128; omega
  have mid : ∀ (q : Fin 18) (c : Fin 6), etsInv d arg6 arg14 arg15 x6 r q c 0 ⊢ wp frame (wpE (defs₀ (F := F)) 𝒱₀ (d : Thread nD τ) none) Set.univ
      (do
        let a : Vec F S1x128 .f32 ← Prog.lift (.load arg15 (rG ⟨2 * q.val, by omega⟩ c).toLoadRect (View.loadsAt_vmem h_S1x128))
        let b : Vec F S1x128 .f32 ← Prog.lift (.load arg15 (rG ⟨2 * q.val + 1, by omega⟩ c).toLoadRect (View.loadsAt_vmem h_S1x128))
        let x : Vec F S32x128 .i8 ← Prog.lift (.load arg6 (rB q c).toLoadRect (View.loadsAt_vmem h_S32x128))
        forN 4 fun k => do
          let _ : Vec F S16x128 .bf16 ← Prog.lift (.load arg14 (rE q c k).toLoadRect (View.loadsAt_vmem h_S16x128))
          Prog.lift (.store arg14 (rE q c k) (etsPay (etsScale a b) (etsWord x) k.val) Finset.univ (stE harg14 q c k) (.inl rfl)) : Prog (TpuEff nD τ sig (Elt F) (Λ₀ F) .tc) PUnit)
      (fun _ => etsInv d arg6 arg14 arg15 x6 r q (c + 1) 0) := by
    intro q c
    have inner := wp_forN_tail 𝒱₀ (d : Thread nD τ) none (defs := defs₀ (F := F)) Set.univ
      (fun k => etsInv d arg6 arg14 arg15 x6 r q c k) 4 _ (Q := fun _ => etsInv d arg6 arg14 arg15 x6 r q (c + 1) 0) (inner q c)
      (etsInv_mono d arg6 arg14 arg15 x6 r _ _ _ _ _ _ fun y hy => by unfold DoneE at hy ⊢; omega)
    simp only [Prog.lift, Prog.bind_op, Prog.bind_ret, Prog.pure_eq_ret] at inner ⊢
    rw [show etsInv d arg6 arg14 arg15 x6 r q c 0 = iprop(owns (d : Thread nD τ) arg6 fullShare x6 ∗ owns (d : Thread nD τ) arg15 fullShare r
      ∗ ∃ Y, ⌜∀ y, DoneE q c 0 y → Y y = etsG r x6 y⌝ ∗ owns (d : Thread nD τ) arg14 fullShare Y) from rfl]
    iintro ⟨H6, H15, H⟩
    iapply (wp_load_owns 𝒱₀ (d : Thread nD τ) none Set.univ) $$ H15
    iintro H15
    iapply (wp_load_owns 𝒱₀ (d : Thread nD τ) none Set.univ) $$ H15
    iintro H15
    iapply (wp_load_owns 𝒱₀ (d : Thread nD τ) none Set.univ) $$ H6
    iintro H6
    iapply inner
    unfold etsInv
    isplitl [H6]; · iexact H6
    isplitl [H15]; · iexact H15
    iexact H
  have loop := fun q : Fin 18 => wp_forN_tail 𝒱₀ (d : Thread nD τ) none (defs := defs₀ (F := F)) Set.univ
    (fun c => etsInv d arg6 arg14 arg15 x6 r q c 0) 6 _ (Q := fun _ => etsInv d arg6 arg14 arg15 x6 r (q + 1) 0 0) (mid q)
    (etsInv_mono d arg6 arg14 arg15 x6 r _ _ _ _ _ _ fun y hy => by
      have h1 : (y 1).val < 768 := (y 1).isLt
      unfold DoneE at hy ⊢; omega)
  unfold etsPhase
  iintro ⟨H6, H15, ⟨%Y, H14⟩⟩ Hk
  iapply (wp_forN_bind 𝒱₀ (d : Thread nD τ) none Set.univ (fun q => etsInv d arg6 arg14 arg15 x6 r q 0 0) 18 _ loop) $$ [H6 H15 H14]
  · unfold etsInv
    isplitl [H6]; · iexact H6
    isplitl [H15]; · iexact H15
    iexists Y
    isplitr
    swap; · iexact H14
    ipureintro
    intro y hy
    unfold DoneE at hy
    omega
  unfold etsInv
  iintro ⟨H6, H15, ⟨%Y', %hY, H14⟩⟩
  iapply Hk
  obtain rfl : Y' = etsG r x6 := funext fun y => hY y (.inl (y 0).isLt)
  isplitl [H6]; · iexact H6
  isplitl [H15]; · iexact H15
  iexact H14

/-! ## The hidden-state gradient written out -/

/-- Block `(t, d)` of the second result. -/
def dhAt (x16 : Vec F S1152x768 .f32) (t : Fin 6) (d : Fin 9) : FVec F S128x128 .bf16 :=
  dhPay fun x => x16 ((rA d t).idx x)

/-- The second result from the accumulated products. -/
def dhG (x16 : Vec F S1152x768 .f32) : FVec F S768x1152 .bf16 :=
  blocked (M := 6) (N := 9) (p := 128) (q := 128) (by decide) (by decide) rfl rfl (dhAt x16)

theorem dhG_idx (x16 : Vec F S1152x768 .f32) (t : Fin 6) (d : Fin 9) (x : S128x128.Idx) :
    dhAt x16 t d x = dhG x16 ((rH t d).idx x) :=
  (blocked_eq _ _ t d x (by show 128 * t.val + 1 * _ = _; omega) (by show 128 * d.val + 1 * _ = _; omega)).symm

/-- What the loop over the blocks keeps. -/
def finInv (c : Dev nD) (arg10 : Memref sig .tc .vmem S768x1152 .bf16) (arg16 : Memref sig .tc .vmem S1152x768 .f32)
    (x16 : Vec F S1152x768 .f32) (t d : ℕ) : sProp 𝕄 :=
  iprop(owns (c : Thread nD τ) arg16 fullShare x16 ∗ ∃ Y, ⌜∀ y, Done t d y → Y y = dhG x16 y⌝ ∗ owns (c : Thread nD τ) arg10 fullShare Y)

/-- The last phase fills its buffer with the second result. -/
theorem fin_spec {α : Type} {Q : α → sProp 𝕄} (c : Dev nD) (arg10 : Memref sig .tc .vmem S768x1152 .bf16) (harg10 : arg10.IsWhole)
    (arg16 : Memref sig .tc .vmem S1152x768 .f32) (x16 : Vec F S1152x768 .f32)
    (k : PUnit → Prog (TpuEff nD τ sig (Elt F) (Λ₀ F) .tc) α) :
    iprop(owns (c : Thread nD τ) arg16 fullShare x16 ∗ (∃ Y, owns (c : Thread nD τ) arg10 fullShare Y)) ⊢
      iprop((iprop(owns (c : Thread nD τ) arg16 fullShare x16 ∗ owns (c : Thread nD τ) arg10 fullShare (dhG x16))
          -∗ wp frame (wpE (defs₀ (F := F)) 𝒱₀ (c : Thread nD τ) none) Set.univ (k ⟨⟩) Q)
        -∗ wp frame (wpE (defs₀ (F := F)) 𝒱₀ (c : Thread nD τ) none) Set.univ ((finPhase arg10 harg10 arg16).bind k) Q) := by
  have inner : ∀ (t : Fin 6) (d : Fin 9), finInv c arg10 arg16 x16 t d ⊢ wp frame (wpE (defs₀ (F := F)) 𝒱₀ (c : Thread nD τ) none) Set.univ
      (do
        let x : Vec F S128x128 .f32 ← Prog.lift (.load arg16 (rA d t).toLoadRect (View.loadsAt_vmem h_S128x128))
        let _ : Vec F S128x128 .bf16 ← Prog.lift (.load arg10 (rH t d).toLoadRect (View.loadsAt_vmem h_S128x128))
        Prog.lift (.store arg10 (rH t d) (dhPay x) Finset.univ (stH harg10 t d) (.inl rfl)) : Prog (TpuEff nD τ sig (Elt F) (Λ₀ F) .tc) PUnit)
      (fun _ => finInv c arg10 arg16 x16 t (d + 1)) := by
    intro t d
    unfold finInv
    simp only [Prog.lift, Prog.bind_op, Prog.bind_ret, Prog.pure_eq_ret]
    iintro ⟨H16, ⟨%Y, %hY, H10⟩⟩
    iapply (wp_load_owns 𝒱₀ (c : Thread nD τ) none Set.univ) $$ H16
    iintro H16
    iapply (wp_load_owns 𝒱₀ (c : Thread nD τ) none Set.univ) $$ H10
    iintro H10
    iapply (wp_store_owns 𝒱₀ (c : Thread nD τ) none Set.univ) $$ H10
    iintro H10
    rw [wp_ret]
    imodintro
    isplitl [H16]; · iexact H16
    iexists _
    isplitr
    swap; · iexact H10
    ipureintro
    intro y hy
    by_cases h : Done t.val d.val y
    · exact overlay_keep _ _ (dhG x16) _ (dhG_idx x16 t d) y (hY y h)
    · refine overlay_new _ _ (dhG x16) _ (dhG_idx x16 t d) y (exists_idx _ (fun _ => rfl) y fun a => ?_)
      unfold Done at h hy
      match a with
      | 0 => show 128 * t.val ≤ (y 0).val ∧ (y 0).val < 128 * t.val + 128; omega
      | 1 => show 128 * d.val ≤ (y 1).val ∧ (y 1).val < 128 * d.val + 128; omega
  have loop := fun t : Fin 6 => wp_forN_tail 𝒱₀ (c : Thread nD τ) none (defs := defs₀ (F := F)) Set.univ
    (fun d => finInv c arg10 arg16 x16 t d) 9 _ (Q := fun _ => finInv c arg10 arg16 x16 (t + 1) 0) (inner t) (by
      unfold finInv
      iintro ⟨H16, ⟨%Y, %hY, H10⟩⟩
      isplitl [H16]; · iexact H16
      iexists _
      isplitr
      swap; · iexact H10
      ipureintro
      intro y hy
      refine hY y ?_
      have h1 : (y 1).val < 1152 := (y 1).isLt
      unfold Done at hy ⊢
      omega)
  unfold finPhase
  iintro ⟨H16, ⟨%Y, H10⟩⟩ Hk
  iapply (wp_forN_bind 𝒱₀ (c : Thread nD τ) none Set.univ (fun t => finInv c arg10 arg16 x16 t 0) 6 _ loop) $$ [H16 H10]
  · unfold finInv
    isplitl [H16]; · iexact H16
    iexists Y
    isplitr
    swap; · iexact H10
    ipureintro
    intro y hy
    unfold Done at hy
    omega
  unfold finInv
  iintro ⟨H16, ⟨%Y', %hY, H10⟩⟩
  iapply Hk
  obtain rfl : Y' = dhG x16 := funext fun y => hY y (.inl (y 0).isLt)
  isplitl [H16]; · iexact H16
  iexact H10

end Cert.Proof.KB
-- ==== Proof.KB.Lists.lean ====
/- The lists of tokens by vocabulary block that the kernel builds at its first grid point and walks at every one. -/
module

public import proofs.«01_k».proof.Proof.KB.Phases
public import Idealize.ShloMosaic.Lib.Routing.Words

@[expose] public section

noncomputable section

namespace Cert.Proof.KB

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open sWPT (consume produce)

variable {F : FTy → Type} [FloatOps F]

local notation "𝕄" => MT nD τ sig Unit (Elt F) ℕ (UR sig nD τ) ℕ

/-! ## The lists -/

/-- The vocabulary word of token `k`. -/
def idN (ids : S768.Idx → BitVec 32) (k : ℕ) : ℕ := (ids (ix1 (⟨k % 768, Nat.mod_lt _ (by decide)⟩ : Fin 768))).toNat

/-- Its vocabulary block. -/
def blk (ids : S768.Idx → BitVec 32) (k : ℕ) : ℕ := idN ids k / 768

/-- The last token before token `n` in vocabulary block `b`, or minus one. -/
def lastB (ids : S768.Idx → BitVec 32) (b : ℕ) : ℕ → BitVec 32
  | 0 => 4294967295#32
  | k + 1 => if blk ids k = b then BitVec.ofNat 32 k else lastB ids b k

/-- The heads of the lists of the tokens before token `n`. -/
def headG (ids : S768.Idx → BitVec 32) (n : ℕ) : S167.Idx → BitVec 32 := fun y => lastB ids (y 0).val n

/-- The token after each token in its list. -/
def nextG (ids : S768.Idx → BitVec 32) : S768.Idx → BitVec 32 := fun y => lastB ids (blk ids (y 0).val) (y 0).val

/-- Every token is a word of the vocabulary. -/
def InVocab (ids : S768.Idx → BitVec 32) : Prop := ∀ t, (ids t).toNat < 128256

theorem idN_lt {ids : S768.Idx → BitVec 32} (h : InVocab ids) (k : ℕ) : idN ids k < 128256 := h _

theorem blk_lt {ids : S768.Idx → BitVec 32} (h : InVocab ids) (k : ℕ) : blk ids k < 167 := by
  have := idN_lt h k
  unfold blk
  omega

theorem ids_eq (ids : S768.Idx → BitVec 32) (k : Fin 768) : ids (ix1 k) = BitVec.ofNat 32 (idN ids k) := by
  unfold idN
  rw [BitVec.ofNat_toNat, BitVec.setWidth_eq]
  exact congrArg ids (congrArg ix1 (Fin.ext (Nat.mod_eq_of_lt k.isLt).symm))

theorem toNat_word {k : ℕ} (h : k < 4294967296) : (Scalar.indexCast (BitVec.ofNat 32 k)).toNat = k := by
  show (BitVec.ofNat 32 k).toNat = k
  rw [BitVec.toNat_ofNat]
  omega

theorem trips1 : k0_t1_loop.trips = 167 := by decide
theorem trips2 : k0_t2_loop.trips = 768 := by decide

/-- Where a token's list head is kept. -/
theorem off3_eq {v : ℕ} (h : v < 128256) : k0_off3 (BitVec.ofNat 32 v) 0 = v / 768 := by
  show (Scalar.indexCast (IntOp.divsi _ (BitVec.ofNat 32 v) (BitVec.ofNat 32 768))).toNat = v / 768
  rw [Routing.divsi_word _ (by omega) (by omega) (by omega)]
  exact toNat_word (by omega)

theorem chk1 (i : grid0.Coords) {v : ℕ} (h : v < 128256) : k0_chk1 i (BitVec.ofNat 32 v) := by
  intro _ a
  match a with
  | 0 =>
    rw [off3_eq h]
    show v / 768 + 1 ≤ 167
    omega

/-! ## Building the lists -/

/-- The first loop empties every list. -/
theorem head_spec {α : Type} {Q : α → sProp 𝕄} (c : Dev nD) (i : grid0.Coords) (k0_h1 : k0_cond1 i = 1#1)
    (arg17 : Memref sig .tc .smem S167 .i32) (ids : S768.Idx → BitVec 32)
    (k : PUnit → Prog (TpuEff nD τ sig (Elt F) (Λ₀ F) .tc) α) :
    iprop(∃ Y, owns (c : Thread nD τ) arg17 fullShare Y) ⊢
      iprop((iprop(owns (c : Thread nD τ) arg17 fullShare (headG ids 0 : S167.Idx → BitVec 32))
          -∗ wp frame (wpE (defs₀ (F := F)) 𝒱₀ (c : Thread nD τ) none) Set.univ (k ⟨⟩) Q)
        -∗ wp frame (wpE (defs₀ (F := F)) 𝒱₀ (c : Thread nD τ) none) Set.univ ((headLoop i k0_h1 arg17).bind k) Q) := by
  iintro ⟨%Y, H17⟩ Hk
  unfold headLoop
  iapply (Scf.wp_for_bind frame (wpE (defs₀ (F := F)) 𝒱₀ (c : Thread nD τ) none) Set.univ k0_t1_loop.lb k0_t1_loop.ub k0_t1_loop.st _ _ _
    (fun n _ => iprop(∃ Y : S167.Idx → BitVec 32, ⌜∀ y, (y 0).val < n → Y y = 4294967295#32⌝ ∗ owns (c : Thread nD τ) arg17 fullShare Y)) ?_) $$ [H17]
  · intro j _
    simp only [Prog.lift, Prog.bind_op, Prog.bind_ret, Prog.pure_eq_ret]
    iintro ⟨%Y, %hY, H17⟩
    have hj : j.val < 167 := lt_of_lt_of_eq j.isLt trips1
    iapply (wp_smemLoad_owns 𝒱₀ (c : Thread nD τ) none Set.univ _ rfl) $$ H17
    iintro H17
    iapply (wp_store_owns 𝒱₀ (c : Thread nD τ) none Set.univ) $$ H17
    iintro H17
    rw [wp_ret]
    imodintro
    iexists _
    isplitr
    swap; · iexact H17
    ipureintro
    intro y hy
    refine (congrFun (overlay_one _ _ _ _ j.val (congrFun (k0_off1_eq j) 0)) y).trans ?_
    by_cases h : (y 0).val = j.val
    · rw [if_pos h]
    · rw [if_neg h]
      exact hY y (by omega)
  · iexists Y
    isplitr
    swap; · iexact H17
    ipureintro
    intro y hy
    omega
  iintro %_ ⟨%Y', %hY, H17⟩
  iapply Hk
  obtain rfl : Y' = headG ids 0 := funext fun y => hY y (by rw [show Scf.trips k0_t1_loop.lb k0_t1_loop.ub k0_t1_loop.st = 167 from trips1]; exact (y 0).isLt)
  iexact H17

/-- The second loop puts every token in front of the list of its block. -/
theorem link_spec {α : Type} {Q : α → sProp 𝕄} (c : Dev nD) (i : grid0.Coords) (k0_h1 : k0_cond1 i = 1#1)
    (arg1 : Memref sig .tc .smem S768 .i32) (arg17 : Memref sig .tc .smem S167 .i32) (arg18 : Memref sig .tc .smem S768 .i32)
    (q : PosShare TreeShare) (ids : S768.Idx → BitVec 32) (hids : InVocab ids)
    (k : PUnit → Prog (TpuEff nD τ sig (Elt F) (Λ₀ F) .tc) α) :
    iprop(owns (c : Thread nD τ) arg1 q ids ∗ owns (c : Thread nD τ) arg17 fullShare (headG ids 0 : S167.Idx → BitVec 32) ∗ ∃ Y, owns (c : Thread nD τ) arg18 fullShare Y) ⊢
      iprop((iprop(owns (c : Thread nD τ) arg1 q ids ∗ owns (c : Thread nD τ) arg17 fullShare (headG ids 768 : S167.Idx → BitVec 32)
            ∗ owns (c : Thread nD τ) arg18 fullShare (nextG ids : S768.Idx → BitVec 32))
          -∗ wp frame (wpE (defs₀ (F := F)) 𝒱₀ (c : Thread nD τ) none) Set.univ (k ⟨⟩) Q)
        -∗ wp frame (wpE (defs₀ (F := F)) 𝒱₀ (c : Thread nD τ) none) Set.univ ((linkLoop i k0_h1 arg1 arg17 arg18).bind k) Q) := by
  iintro ⟨H1, H17, ⟨%Y, H18⟩⟩ Hk
  unfold linkLoop
  iapply (Scf.wp_for_bind frame (wpE (defs₀ (F := F)) 𝒱₀ (c : Thread nD τ) none) Set.univ k0_t2_loop.lb k0_t2_loop.ub k0_t2_loop.st _ _ _
    (fun n _ => iprop(owns (c : Thread nD τ) arg1 q ids ∗ owns (c : Thread nD τ) arg17 fullShare (headG ids n : S167.Idx → BitVec 32)
      ∗ ∃ Y : S768.Idx → BitVec 32, ⌜∀ y, (y 0).val < n → Y y = nextG ids y⌝ ∗ owns (c : Thread nD τ) arg18 fullShare Y)) ?_) $$ [H1 H17 H18]
  · intro j _
    simp only [Prog.lift, Prog.bind_op, Prog.bind_ret, Prog.pure_eq_ret]
    iintro ⟨H1, H17, ⟨%Y, %hY, H18⟩⟩
    have hj : j.val < 768 := lt_of_lt_of_eq j.isLt trips2
    have hid := idN_lt hids j.val
    have hb := blk_lt hids j.val
    iapply (wp_smemLoad_val 𝒱₀ (c : Thread nD τ) none Set.univ (ix1 (⟨j.val, hj⟩ : Fin 768)) (BitVec.ofNat 32 (idN ids j.val)) (idx_one _ _ _ (congrFun (k0_off2_eq j) 0) _) (ids_eq ids ⟨j.val, hj⟩)) $$ H1
    iintro H1
    iapply (wp_assume 𝒱₀ (c : Thread nD τ) none Set.univ (chk1 i hid))
    iapply (wp_smemLoad_owns 𝒱₀ (c : Thread nD τ) none Set.univ (ix1 (⟨blk ids j.val, hb⟩ : Fin 167)) (idx_one _ _ _ (off3_eq hid) _)) $$ H17
    iintro H17
    iapply (wp_smemLoad_owns 𝒱₀ (c : Thread nD τ) none Set.univ _ rfl) $$ H18
    iintro H18
    iapply (wp_store_owns 𝒱₀ (c : Thread nD τ) none Set.univ) $$ H18
    iintro H18
    iapply (wp_smemLoad_owns 𝒱₀ (c : Thread nD τ) none Set.univ _ rfl) $$ H17
    iintro H17
    iapply (wp_store_owns 𝒱₀ (c : Thread nD τ) none Set.univ) $$ H17
    iintro H17
    rw [wp_ret]
    imodintro
    isplitl [H1]; · iexact H1
    isplitl [H17]
    · have e : (Rect.unit (s := S167) (k0_off3 (BitVec.ofNat 32 (idN ids j.val))) S1.size (k0_off3_inb i _ (chk1 i hid) k0_h1)).overlay
          (headG ids j.val) (fun _ => Scf.iv (0#32) (1#32) j.val) = headG ids (j.val + 1) := by
        refine (overlay_one _ _ _ _ (blk ids j.val) (off3_eq hid)).trans (funext fun y => ?_)
        show _ = if blk ids j.val = (y 0).val then BitVec.ofNat 32 j.val else lastB ids (y 0).val j.val
        by_cases h : (y 0).val = blk ids j.val
        · rw [if_pos h, if_pos h.symm]
          simp [Scf.iv]
        · rw [if_neg h, if_neg fun h' => h h'.symm]
          rfl
      rw [e]
      iexact H17
    iexists _
    isplitr
    swap; · iexact H18
    ipureintro
    intro y hy
    refine (congrFun (overlay_one _ _ _ _ j.val (congrFun (k0_off4_eq j) 0)) y).trans ?_
    by_cases h : (y 0).val = j.val
    · rw [if_pos h]
      show lastB ids (blk ids j.val) j.val = lastB ids (blk ids (y 0).val) (y 0).val
      rw [h]
    · rw [if_neg h]
      exact hY y (by omega)
  · isplitl [H1]; · iexact H1
    isplitl [H17]; · iexact H17
    iexists Y
    isplitr
    swap; · iexact H18
    ipureintro
    intro y hy
    omega
  rw [show Scf.trips k0_t2_loop.lb k0_t2_loop.ub k0_t2_loop.st = 768 from trips2]
  iintro %_ ⟨H1, H17, ⟨%Y', %hY, H18⟩⟩
  iapply Hk
  obtain rfl : Y' = nextG ids := funext fun y => hY y (y 0).isLt
  isplitl [H1]; · iexact H1
  isplitl [H17]; · iexact H17
  iexact H18

/-! ## Walking a list -/

/-- Row `k` of `D` added to row `r` of `X`. -/
def addRow (D X : FVec F S768x1152 .f32) (r k : ℕ) : FVec F S768x1152 .f32 := fun y =>
  if (y 0).val = r then FloatOps.addf (X y) (D (ix2 (⟨k % 768, Nat.mod_lt _ (by decide)⟩ : Fin 768) (y 1))) else X y

/-- The rows of the tokens before token `n` in block `b` added to their words' rows, last token first. -/
def addAll (ids : S768.Idx → BitVec 32) (D : FVec F S768x1152 .f32) (b : ℕ) : ℕ → FVec F S768x1152 .f32 → FVec F S768x1152 .f32
  | 0, X => X
  | k + 1, X => if blk ids k = b then addAll ids D b k (addRow D X (idN ids k % 768) k) else addAll ids D b k X

/-- A list is empty, or its first token is the last one in the block. -/
theorem list_cases (ids : S768.Idx → BitVec 32) (D : FVec F S768x1152 .f32) (b : ℕ) : ∀ n : ℕ,
    (lastB ids b n = 4294967295#32 ∧ ∀ X, addAll ids D b n X = X)
      ∨ ∃ k < n, blk ids k = b ∧ lastB ids b n = BitVec.ofNat 32 k ∧ ∀ X, addAll ids D b n X = addAll ids D b k (addRow D X (idN ids k % 768) k)
  | 0 => .inl ⟨rfl, fun _ => rfl⟩
  | n + 1 => by
    by_cases h : blk ids n = b
    · exact .inr ⟨n, Nat.lt_succ_self n, h, if_pos h, fun X => if_pos h⟩
    · rcases list_cases ids D b n with ⟨h1, h2⟩ | ⟨k, hk, hb, h1, h2⟩
      · exact .inl ⟨(if_neg h).trans h1, fun X => (if_neg h).trans (h2 X)⟩
      · exact .inr ⟨k, Nat.lt_succ_of_lt hk, hb, (if_neg h).trans h1, fun X => (if_neg h).trans (h2 X)⟩

/-- The walk's specification at the list of the tokens before token `n`: their rows are added to their words' rows. -/
def walk (c : Dev nD) (i : grid0.Coords) (arg1 : Memref sig .tc .smem S768 .i32) (arg9 arg12 : Memref sig .tc .vmem S768x1152 .f32)
    (arg18 : Memref sig .tc .smem S768 .i32) (q : PosShare TreeShare) (ids : S768.Idx → BitVec 32) (D : FVec F S768x1152 .f32)
    (n : ℕ) (X : FVec F S768x1152 .f32) : sWPT 𝕄 (BitVec 32) := do
  consume iprop(owns (c : Thread nD τ) arg1 q ids ∗ owns (c : Thread nD τ) arg9 fullShare X ∗ owns (c : Thread nD τ) arg12 fullShare D
    ∗ owns (c : Thread nD τ) arg18 fullShare (nextG ids : S768.Idx → BitVec 32))
  produce iprop(owns (c : Thread nD τ) arg1 q ids ∗ owns (c : Thread nD τ) arg9 fullShare (addAll ids D (i 0).val n X) ∗ owns (c : Thread nD τ) arg12 fullShare D
    ∗ owns (c : Thread nD τ) arg18 fullShare (nextG ids : S768.Idx → BitVec 32))
  pure (4294967295#32)

theorem walk_apply (c : Dev nD) (i : grid0.Coords) (arg1 : Memref sig .tc .smem S768 .i32) (arg9 arg12 : Memref sig .tc .vmem S768x1152 .f32)
    (arg18 : Memref sig .tc .smem S768 .i32) (q : PosShare TreeShare) (ids : S768.Idx → BitVec 32) (D : FVec F S768x1152 .f32)
    (n : ℕ) (X : FVec F S768x1152 .f32) (K : BitVec 32 → sProp 𝕄) :
    walk c i arg1 arg9 arg12 arg18 q ids D n X K
      = iprop(iprop(owns (c : Thread nD τ) arg1 q ids ∗ owns (c : Thread nD τ) arg9 fullShare X ∗ owns (c : Thread nD τ) arg12 fullShare D
          ∗ owns (c : Thread nD τ) arg18 fullShare (nextG ids : S768.Idx → BitVec 32))
        ∗ (iprop(owns (c : Thread nD τ) arg1 q ids ∗ owns (c : Thread nD τ) arg9 fullShare (addAll ids D (i 0).val n X) ∗ owns (c : Thread nD τ) arg12 fullShare D
          ∗ owns (c : Thread nD τ) arg18 fullShare (nextG ids : S768.Idx → BitVec 32)) -∗ K (4294967295#32))) := rfl

theorem off7_eq (i : grid0.Coords) {v : ℕ} (h : v < 128256) (hb : v / 768 = (i 0).val) :
    k0_off7 i (BitVec.ofNat 32 v) 0 = v % 768 := by
  have hi : (i 0).val < 167 := (i 0).isLt
  show (BitVec.ofNat 32 v - BitVec.ofNat 32 (i 0).val * 768#32).toNat = v % 768
  rw [BitVec.toNat_sub, BitVec.toNat_mul, BitVec.toNat_ofNat, BitVec.toNat_ofNat, BitVec.toNat_ofNat]
  omega

theorem chk3 (i : grid0.Coords) {v : ℕ} (h : v < 128256) (hb : v / 768 = (i 0).val) : k0_chk3 i (BitVec.ofNat 32 v) := by
  intro a
  match a with
  | 0 => rw [off7_eq i h hb]; show v % 768 + 1 ≤ 768; omega
  | 1 => show 0 + 1152 ≤ 1152; omega

theorem off6_eq {k : ℕ} (h : k < 768) : k0_off6 (BitVec.ofNat 32 k) 0 = k := toNat_word (by omega)
theorem off8_eq {k : ℕ} (h : k < 768) : k0_off8 (BitVec.ofNat 32 k) 0 = k := toNat_word (by omega)
theorem off9_eq {k : ℕ} (h : k < 768) : k0_off9 (BitVec.ofNat 32 k) 0 = k := toNat_word (by omega)

theorem chk2 {k : ℕ} (h : k < 768) : k0_chk2 (BitVec.ofNat 32 k) := by
  refine ⟨fun a => ?_, fun a => ?_, fun a => ?_⟩
  · match a with | 0 => rw [off6_eq h]; show k + 1 ≤ 768; omega
  · match a with
    | 0 => rw [off8_eq h]; show k + 1 ≤ 768; omega
    | 1 => show 0 + 1152 ≤ 1152; omega
  · match a with | 0 => rw [off9_eq h]; show k + 1 ≤ 768; omega

theorem going {k : ℕ} (h : k < 768) : Scalar.cmpi .sge (BitVec.ofNat 32 k) 0#32 = 1#1 := by
  show BitVec.ofBool _ = 1#1
  have : (BitVec.ofNat 32 k).toInt = k := by
    rw [BitVec.toInt_ofNat']
    exact Int.bmod_eq_of_le (by omega) (by omega)
  simp [BitVec.sle, this]

/-- The loop meets it. -/
theorem walk_le (c : Dev nD) (i : grid0.Coords) (arg1 : Memref sig .tc .smem S768 .i32) (harg1 : arg1.IsWhole)
    (arg9 : Memref sig .tc .vmem S768x1152 .f32) (harg9 : arg9.IsWhole) (arg12 : Memref sig .tc .vmem S768x1152 .f32) (harg12 : arg12.IsWhole)
    (arg18 : Memref sig .tc .smem S768 .i32) (harg18 : arg18.IsWhole) (q : PosShare TreeShare) (ids : S768.Idx → BitVec 32) (hids : InVocab ids)
    (D : FVec F S768x1152 .f32) (E : Set ℕ) (n : ℕ) : n ≤ 768 → ∀ (X : FVec F S768x1152 .f32) (K : BitVec 32 → sProp 𝕄),
    walk c i arg1 arg9 arg12 arg18 q ids D n X K
      ⊢ wp frame (wpE (defs₀ (F := F)) 𝒱₀ (c : Thread nD τ) (some n)) E
          (defs₀ (F := F) .tc 1 ⟨i, arg1, harg1, arg9, harg9, arg12, harg12, arg18, harg18, lastB ids (i 0).val n⟩) K := by
  induction n using Nat.strong_induction_on with
  | _ n ih =>
    intro hn X K
    rw [walk_apply]
    show _ ⊢ wp frame (wpE (defs₀ (F := F)) 𝒱₀ (c : Thread nD τ) (some n)) E
      (cc0_while1 i arg1 harg1 arg9 harg9 arg12 harg12 arg18 harg18 (lastB ids (i 0).val n)) K
    unfold cc0_while1
    rcases list_cases ids D (i 0).val n with ⟨h1, h2⟩ | ⟨k, hk, hb, h1, h2⟩
    · rw [h1, h2, if_neg (by decide), Prog.pure_eq_ret, wp_ret]
      iintro ⟨H, HK⟩
      imodintro
      iapply HK
      iexact H
    · have hk' : k < 768 := by omega
      have hid := idN_lt hids k
      rw [h1, h2, if_pos (going hk')]
      simp only [Prog.lift, Prog.bind_op, Prog.bind_ret, Prog.pure_eq_ret]
      iintro ⟨⟨H1, H9, H12, H18⟩, HK⟩
      iapply (wp_assume 𝒱₀ (c : Thread nD τ) _ E (chk2 hk'))
      iapply (wp_smemLoad_val 𝒱₀ (c : Thread nD τ) _ E (ix1 (⟨k, hk'⟩ : Fin 768)) (BitVec.ofNat 32 (idN ids k)) (idx_one _ _ _ (off6_eq hk') _) (ids_eq ids ⟨k, hk'⟩)) $$ H1
      iintro H1
      iapply (wp_assume 𝒱₀ (c : Thread nD τ) _ E (chk3 i hid hb))
      iapply (wp_load_owns 𝒱₀ (c : Thread nD τ) _ E) $$ H9
      iintro H9
      iapply (wp_load_owns 𝒱₀ (c : Thread nD τ) _ E) $$ H12
      iintro H12
      iapply (wp_load_owns 𝒱₀ (c : Thread nD τ) _ E) $$ H9
      iintro H9
      iapply (wp_store_owns 𝒱₀ (c : Thread nD τ) _ E) $$ H9
      iintro H9
      iapply (wp_smemLoad_val 𝒱₀ (c : Thread nD τ) _ E (ix1 (⟨k, hk'⟩ : Fin 768)) (lastB ids (i 0).val k) (idx_one _ _ _ (off9_eq hk') _) (by rw [← hb]; rfl)) $$ H18
      iintro H18
      iapply (wp_call_spec 𝒱₀ (c : Thread nD τ) (some n) E (walk c i arg1 arg9 arg12 arg18 q ids D k (addRow D X (idN ids k % 768) k)) k
        (fun u hu => by cases hu; exact hk) (fun K => ih k hk (by omega) _ K))
      rw [walk_apply]
      isplitl [H1 H9 H12 H18]
      · isplitl [H1]; · iexact H1
        isplitl [H9]
        · have e : (Rect.unit (s := S768x1152) (k0_off7 i (BitVec.ofNat 32 (idN ids k))) S1x1152.size (k0_off7_inb i _ (chk3 i hid hb))).overlay
              X (addf (shapeCast S1x1152 (fun x => X ((Rect.unit (s := S768x1152) (k0_off7 i (BitVec.ofNat 32 (idN ids k))) S1x1152.size (k0_off7_inb i _ (chk3 i hid hb))).idx x) : Vec F S1x1152 .f32) shapeCasts_S1x1152_S1x1152 : FVec F S1x1152 .f32)
                (fun x => D ((Rect.unit (s := S768x1152) (k0_off8 (BitVec.ofNat 32 k)) S1x1152.size (k0_off8_inb _ (chk2 hk'))).idx x))) = addRow D X (idN ids k % 768) k := by
            refine (overlay_row _ _ _ _ (idN ids k % 768) (off7_eq i hid hb) rfl).trans (funext fun y => ?_)
            unfold addRow
            by_cases h : (y 0).val = idN ids k % 768
            · rw [if_pos h, if_pos h, recast]
              refine congr (congrArg FloatOps.addf (congrArg X ?_)) (congrArg D ?_)
              · refine (idx_row _ _ (⟨(y 0).val, (y 0).isLt⟩ : Fin 768) ((off7_eq i hid hb).trans h.symm) rfl _).trans (eq_ix2 y).symm
              · refine (idx_row _ _ (⟨k % 768, Nat.mod_lt _ (by decide)⟩ : Fin 768) ((off8_eq hk').trans (Nat.mod_eq_of_lt hk').symm) rfl _)
            · rw [if_neg h, if_neg h]
          rw [← e]
          iexact H9
        isplitl [H12]; · iexact H12
        iexact H18
      iintro H
      rw [wp_ret]
      imodintro
      iapply HK
      iexact H

end Cert.Proof.KB
-- ==== Proof.KB.Body.lean ====
/- The kernel body at one grid point: what it needs and what it leaves. -/
module

public import proofs.«01_k».proof.Proof.KB.Lists

@[expose] public section

noncomputable section

namespace Cert.Proof.KB

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

/-! ## The values -/

/-- The accumulator before the first product. -/
def acc0 : FVec F S1152x768 .f32 :=
  shapeCast S1152x768 (broadcast S1152x768 (Scalar.ofBits .f32 0x00000000#32) : FVec F S1152x768 .f32) shapeCasts_S1152x768_S1152x768

/-- The input embedding gradients in the wide format. -/
def embG (x8 : Vec F S768x1152 .bf16) : FVec F S768x1152 .f32 :=
  shapeCast S768x1152 (extf .f32 (shapeCast S768x1152 x8 shapeCasts_S768x1152_S768x1152 : FVec F S768x1152 .bf16) bitsLt_bf16_f32 : FVec F S768x1152 .f32) shapeCasts_S768x1152_S768x1152

/-- One vocabulary block of the head's weight gradient. -/
def headDE (x2 : Vec F S768x768 .fp8e5m2) (x3 : Vec F S6x2x384 .f32) (H : FVec F S768x1152 .bf16) : FVec F S768x1152 .f32 :=
  matmul dot_S768x768_S768x1152_S768x1152_1_0_0_1_n_n none (dltG x2 x3) H (constant S768x1152 .f32 0x00000000#32 : FVec F S768x1152 .f32)

/-- The accumulator after one more vocabulary block. -/
def accNext (x2 : Vec F S768x768 .fp8e5m2) (x3 : Vec F S6x2x384 .f32) (x6 : Vec F S576x768 .i8) (x7 : Vec F S36x768 .f32)
    (A : FVec F S1152x768 .f32) : FVec F S1152x768 .f32 :=
  shapeCast S1152x768 (addf A (matmul dot_S1152x768_S768x768_S1152x768_1_0_0_1_n_n none (etsG (esrPay x7) x6) (dltG x2 x3)
    (constant S1152x768 .f32 0x00000000#32 : FVec F S1152x768 .f32) : FVec F S1152x768 .f32) : FVec F S1152x768 .f32) shapeCasts_S1152x768_S1152x768

/-! ## The first grid point's own work -/

/-- Sequencing is associative. -/
theorem bind_assoc_bind {E : Type → Type*} {α β γ : Type} (p : Prog E α) (f : α → Prog E β) (g : β → Prog E γ) :
    (p >>= f).bind g = p.bind fun x => (f x).bind g := Prog.bind_assoc p f g

/-- What the first grid point sets up. -/
theorem init_spec {α : Type} {Q : α → sProp 𝕄} (c : Dev nD) (i : grid0.Coords) (k0_h1 : k0_cond1 i = 1#1)
    (arg1 : Memref sig .tc .smem S768 .i32)
    (arg4 : Memref sig .tc .vmem S768x1152 .fp8e4m3) (arg5 : Memref sig .tc .vmem S2x384 .f32)
    (arg8 : Memref sig .tc .vmem S768x1152 .bf16)
    (arg11 : Memref sig .tc .vmem S768x1152 .bf16) (harg11 : arg11.IsWhole) (arg12 : Memref sig .tc .vmem S768x1152 .f32)
    (arg16 : Memref sig .tc .vmem S1152x768 .f32)
    (arg17 : Memref sig .tc .smem S167 .i32) (arg18 : Memref sig .tc .smem S768 .i32)
    (q : PosShare TreeShare) (ids : S768.Idx → BitVec 32) (hids : InVocab ids)
    (x4 : Vec F S768x1152 .fp8e4m3) (x5 : Vec F S2x384 .f32) (x8 : Vec F S768x1152 .bf16)
    (k : PUnit → Prog (TpuEff nD τ sig (Elt F) (Λ₀ F) .tc) α) :
    iprop(owns (c : Thread nD τ) arg1 q ids ∗ owns (c : Thread nD τ) arg4 fullShare x4 ∗ owns (c : Thread nD τ) arg5 fullShare x5 ∗ owns (c : Thread nD τ) arg8 fullShare x8
        ∗ (∃ Y, owns (c : Thread nD τ) arg11 fullShare Y) ∗ (∃ Y, owns (c : Thread nD τ) arg12 fullShare Y) ∗ (∃ Y, owns (c : Thread nD τ) arg16 fullShare Y)
        ∗ (∃ Y, owns (c : Thread nD τ) arg17 fullShare Y) ∗ (∃ Y, owns (c : Thread nD τ) arg18 fullShare Y)) ⊢
      iprop((iprop(owns (c : Thread nD τ) arg1 q ids ∗ owns (c : Thread nD τ) arg4 fullShare x4 ∗ owns (c : Thread nD τ) arg5 fullShare x5 ∗ owns (c : Thread nD τ) arg8 fullShare x8
            ∗ owns (c : Thread nD τ) arg11 fullShare (hhG x4 x5) ∗ owns (c : Thread nD τ) arg12 fullShare (embG x8) ∗ owns (c : Thread nD τ) arg16 fullShare (acc0 (F := F))
            ∗ owns (c : Thread nD τ) arg17 fullShare (headG ids 768 : S167.Idx → BitVec 32) ∗ owns (c : Thread nD τ) arg18 fullShare (nextG ids : S768.Idx → BitVec 32))
          -∗ wp frame (wpE (defs₀ (F := F)) 𝒱₀ (c : Thread nD τ) none) Set.univ (k ⟨⟩) Q)
        -∗ wp frame (wpE (defs₀ (F := F)) 𝒱₀ (c : Thread nD τ) none) Set.univ
            ((initPhase i k0_h1 arg1 arg4 arg5 arg8 arg11 harg11 arg12 arg16 arg17 arg18).bind k) Q) := by
  unfold initPhase
  simp only [Prog.lift, Prog.bind_op, Prog.bind_ret, Prog.pure_eq_ret, Prog.bind_assoc]
  iintro ⟨H1, H4, H5, H8, H11, ⟨%Y12, H12⟩, ⟨%Y16, H16⟩, H17, H18⟩ Hk
  iapply (wp_load_whole 𝒱₀ (c : Thread nD τ) none Set.univ) $$ H16
  iintro H16
  iapply (wp_store_whole 𝒱₀ (c : Thread nD τ) none Set.univ) $$ H16
  iintro H16
  iapply (wp_load_whole 𝒱₀ (c : Thread nD τ) none Set.univ) $$ H8
  iintro H8
  iapply (wp_load_whole 𝒱₀ (c : Thread nD τ) none Set.univ) $$ H12
  iintro H12
  iapply (wp_store_whole 𝒱₀ (c : Thread nD τ) none Set.univ) $$ H12
  iintro H12
  simp only [bind_assoc_bind, Prog.bind_ret]
  iapply (hh_spec c arg4 arg5 arg11 harg11 x4 x5) $$ [H4 H5 H11]
  · isplitl [H4]; · iexact H4
    isplitl [H5]; · iexact H5
    iexact H11
  iintro ⟨H4, H5, H11⟩
  iapply (head_spec c i k0_h1 arg17 ids) $$ H17
  iintro H17
  iapply (link_spec c i k0_h1 arg1 arg17 arg18 q ids hids) $$ [H1 H17 H18]
  · isplitl [H1]; · iexact H1
    isplitl [H17]; · iexact H17
    iexact H18
  iintro ⟨H1, H17, H18⟩
  iapply Hk
  isplitl [H1]; · iexact H1
  isplitl [H4]; · iexact H4
  isplitl [H5]; · iexact H5
  isplitl [H8]; · iexact H8
  isplitl [H11]; · iexact H11
  isplitl [H12]; · iexact H12
  isplitl [H16]; · iexact H16
  isplitl [H17]; · iexact H17
  iexact H18

/-! ## The products -/

/-- What the products leave. -/
theorem mid_spec {Q : PUnit → sProp 𝕄} (c : Dev nD) (i : grid0.Coords)
    (arg2 : Memref sig .tc .vmem S768x768 .fp8e5m2) (arg3 : Memref sig .tc .vmem S6x2x384 .f32)
    (arg6 : Memref sig .tc .vmem S576x768 .i8) (arg7 : Memref sig .tc .vmem S36x768 .f32)
    (arg9 : Memref sig .tc .vmem S768x1152 .f32)
    (arg11 : Memref sig .tc .vmem S768x1152 .bf16)
    (arg13 : Memref sig .tc .vmem S768x768 .bf16) (harg13 : arg13.IsWhole)
    (arg14 : Memref sig .tc .vmem S1152x768 .bf16) (harg14 : arg14.IsWhole)
    (arg15 : Memref sig .tc .vmem S36x768 .f32) (arg16 : Memref sig .tc .vmem S1152x768 .f32)
    (x2 : Vec F S768x768 .fp8e5m2) (x3 : Vec F S6x2x384 .f32) (x6 : Vec F S576x768 .i8) (x7 : Vec F S36x768 .f32)
    (H : FVec F S768x1152 .bf16) (A : FVec F S1152x768 .f32)
    (K : Prog (TpuEff nD τ sig (Elt F) (Λ₀ F) .tc) PUnit) :
    iprop(owns (c : Thread nD τ) arg2 fullShare x2 ∗ owns (c : Thread nD τ) arg3 fullShare x3 ∗ owns (c : Thread nD τ) arg6 fullShare x6 ∗ owns (c : Thread nD τ) arg7 fullShare x7
        ∗ (∃ Y, owns (c : Thread nD τ) arg9 fullShare Y) ∗ owns (c : Thread nD τ) arg11 fullShare H
        ∗ (∃ Y, owns (c : Thread nD τ) arg13 fullShare Y) ∗ (∃ Y, owns (c : Thread nD τ) arg14 fullShare Y) ∗ (∃ Y, owns (c : Thread nD τ) arg15 fullShare Y)
        ∗ owns (c : Thread nD τ) arg16 fullShare A) ⊢
      iprop((iprop(owns (c : Thread nD τ) arg2 fullShare x2 ∗ owns (c : Thread nD τ) arg3 fullShare x3 ∗ owns (c : Thread nD τ) arg6 fullShare x6 ∗ owns (c : Thread nD τ) arg7 fullShare x7
            ∗ owns (c : Thread nD τ) arg9 fullShare (headDE x2 x3 H) ∗ owns (c : Thread nD τ) arg11 fullShare H
            ∗ (∃ Y, owns (c : Thread nD τ) arg13 fullShare Y) ∗ (∃ Y, owns (c : Thread nD τ) arg14 fullShare Y) ∗ (∃ Y, owns (c : Thread nD τ) arg15 fullShare Y)
            ∗ owns (c : Thread nD τ) arg16 fullShare (accNext x2 x3 x6 x7 A))
          -∗ wp frame (wpE (defs₀ (F := F)) 𝒱₀ (c : Thread nD τ) none) Set.univ K Q)
        -∗ wp frame (wpE (defs₀ (F := F)) 𝒱₀ (c : Thread nD τ) none) Set.univ
            (midPhase i arg2 arg3 arg6 arg7 arg9 arg11 arg13 harg13 arg14 harg14 arg15 arg16 K) Q) := by
  unfold midPhase
  simp only [Prog.lift, Prog.bind_op, Prog.bind_ret, Prog.pure_eq_ret, Prog.bind_assoc]
  iintro ⟨H2, H3, H6, H7, ⟨%Y9, H9⟩, H11, H13, H14, ⟨%Y15, H15⟩, H16⟩ Hk
  iapply (dlt_spec c arg2 arg3 arg13 harg13 x2 x3) $$ [H2 H3 H13]
  · isplitl [H2]; · iexact H2
    isplitl [H3]; · iexact H3
    iexact H13
  iintro ⟨H2, H3, H13⟩
  iapply (wp_load_whole 𝒱₀ (c : Thread nD τ) none Set.univ) $$ H7
  iintro H7
  iapply (wp_load_whole 𝒱₀ (c : Thread nD τ) none Set.univ) $$ H15
  iintro H15
  iapply (wp_store_whole 𝒱₀ (c : Thread nD τ) none Set.univ) $$ H15
  iintro H15
  iapply (ets_spec c arg6 arg14 harg14 arg15 x6 (esrPay x7)) $$ [H6 H15 H14]
  · isplitl [H6]; · iexact H6
    isplitl [H15]; · iexact H15
    iexact H14
  iintro ⟨H6, H15, H14⟩
  iapply (wp_load_whole 𝒱₀ (c : Thread nD τ) none Set.univ) $$ H13
  iintro H13
  iapply (wp_load_whole 𝒱₀ (c : Thread nD τ) none Set.univ) $$ H11
  iintro H11
  iapply (wp_load_whole 𝒱₀ (c : Thread nD τ) none Set.univ) $$ H9
  iintro H9
  iapply (wp_store_whole 𝒱₀ (c : Thread nD τ) none Set.univ) $$ H9
  iintro H9
  iapply (wp_load_whole 𝒱₀ (c : Thread nD τ) none Set.univ) $$ H16
  iintro H16
  iapply (wp_load_whole 𝒱₀ (c : Thread nD τ) none Set.univ) $$ H14
  iintro H14
  iapply (wp_load_whole 𝒱₀ (c : Thread nD τ) none Set.univ) $$ H13
  iintro H13
  iapply (wp_load_whole 𝒱₀ (c : Thread nD τ) none Set.univ) $$ H16
  iintro H16
  iapply (wp_store_whole 𝒱₀ (c : Thread nD τ) none Set.univ) $$ H16
  iintro H16
  iapply Hk
  isplitl [H2]; · iexact H2
  isplitl [H3]; · iexact H3
  isplitl [H6]; · iexact H6
  isplitl [H7]; · iexact H7
  isplitl [H9]; · iexact H9
  isplitl [H11]; · iexact H11
  isplitl [H13]; · iexists _; iexact H13
  isplitl [H14]; · iexists _; iexact H14
  isplitl [H15]; · iexists _; iexact H15
  iexact H16

/-! ## The list walk and the second result -/

/-- What the list walk and the last point's write leave. -/
theorem tail_spec (c : Dev nD) (i : grid0.Coords) (arg1 : Memref sig .tc .smem S768 .i32) (harg1 : arg1.IsWhole) (arg2 : Memref sig .tc .vmem S768x768 .fp8e5m2) (harg2 : arg2.IsWhole) (arg3 : Memref sig .tc .vmem S6x2x384 .f32) (harg3 : arg3.IsWhole) (arg4 : Memref sig .tc .vmem S768x1152 .fp8e4m3) (harg4 : arg4.IsWhole) (arg5 : Memref sig .tc .vmem S2x384 .f32) (harg5 : arg5.IsWhole) (arg6 : Memref sig .tc .vmem S576x768 .i8) (harg6 : arg6.IsWhole) (arg7 : Memref sig .tc .vmem S36x768 .f32) (harg7 : arg7.IsWhole) (arg8 : Memref sig .tc .vmem S768x1152 .bf16) (harg8 : arg8.IsWhole) (arg9 : Memref sig .tc .vmem S768x1152 .f32) (harg9 : arg9.IsWhole) (arg10 : Memref sig .tc .vmem S768x1152 .bf16) (harg10 : arg10.IsWhole) (arg11 : Memref sig .tc .vmem S768x1152 .bf16) (harg11 : arg11.IsWhole) (arg12 : Memref sig .tc .vmem S768x1152 .f32) (harg12 : arg12.IsWhole) (arg13 : Memref sig .tc .vmem S768x768 .bf16) (harg13 : arg13.IsWhole) (arg14 : Memref sig .tc .vmem S1152x768 .bf16) (harg14 : arg14.IsWhole) (arg15 : Memref sig .tc .vmem S36x768 .f32) (harg15 : arg15.IsWhole) (arg16 : Memref sig .tc .vmem S1152x768 .f32) (harg16 : arg16.IsWhole) (arg17 : Memref sig .tc .smem S167 .i32) (harg17 : arg17.IsWhole) (arg18 : Memref sig .tc .smem S768 .i32) (harg18 : arg18.IsWhole)
    (q : PosShare TreeShare) (ids : S768.Idx → BitVec 32) (hids : InVocab ids)
    (D X : FVec F S768x1152 .f32) (A : FVec F S1152x768 .f32) (Y10 : FVec F S768x1152 .bf16) {Q : PUnit → sProp 𝕄} :
    iprop(owns (c : Thread nD τ) arg1 q ids ∗ owns (c : Thread nD τ) arg9 fullShare X ∗ owns (c : Thread nD τ) arg10 fullShare Y10
        ∗ owns (c : Thread nD τ) arg12 fullShare D ∗ owns (c : Thread nD τ) arg16 fullShare A
        ∗ owns (c : Thread nD τ) arg17 fullShare (headG ids 768 : S167.Idx → BitVec 32) ∗ owns (c : Thread nD τ) arg18 fullShare (nextG ids : S768.Idx → BitVec 32)) ⊢
      iprop((iprop(owns (c : Thread nD τ) arg1 q ids ∗ owns (c : Thread nD τ) arg9 fullShare (addAll ids D (i 0).val 768 X)
            ∗ owns (c : Thread nD τ) arg10 fullShare (if k0_cond2 i = 1#1 then dhG A else Y10)
            ∗ owns (c : Thread nD τ) arg12 fullShare D ∗ owns (c : Thread nD τ) arg16 fullShare A
            ∗ owns (c : Thread nD τ) arg17 fullShare (headG ids 768 : S167.Idx → BitVec 32) ∗ owns (c : Thread nD τ) arg18 fullShare (nextG ids : S768.Idx → BitVec 32))
          -∗ Q ⟨⟩)
        -∗ wp frame (wpE (defs₀ (F := F)) 𝒱₀ (c : Thread nD τ) none) Set.univ (tailPhase i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q) := by
  unfold tailPhase
  have hi : (i 0).val < 167 := (i 0).isLt
  simp only [Prog.lift, Prog.bind_op, Prog.bind_ret, Prog.pure_eq_ret]
  iintro ⟨H1, H9, H10, H12, H16, H17, H18⟩ Hk
  iapply (wp_smemLoad_val 𝒱₀ (c : Thread nD τ) none Set.univ (ix1 (⟨(i 0).val, hi⟩ : Fin 167)) (lastB ids (i 0).val 768)
    (idx_one _ _ _ (congrFun (k0_off5_eq i) 0) _) rfl) $$ H17
  iintro H17
  iapply (wp_call_spec 𝒱₀ (c : Thread nD τ) none Set.univ (walk c i arg1 arg9 arg12 arg18 q ids D 768 X) 768
    (fun u hu => nomatch hu) (fun K => walk_le c i arg1 harg1 arg9 harg9 arg12 harg12 arg18 harg18 q ids hids D Set.univ 768 le_rfl X K))
  rw [walk_apply]
  isplitl [H1 H9 H12 H18]
  · isplitl [H1]; · iexact H1
    isplitl [H9]; · iexact H9
    isplitl [H12]; · iexact H12
    iexact H18
  iintro ⟨H1, H9, H12, H18⟩
  by_cases h2 : k0_cond2 i = 1#1
  · rw [dif_pos h2, if_pos h2]
    iapply (fin_spec c arg10 harg10 arg16 A) $$ [H16 H10]
    · isplitl [H16]; · iexact H16
      iexists _; iexact H10
    iintro ⟨H16, H10⟩
    rw [wp_ret]
    imodintro
    iapply Hk
    isplitl [H1]; · iexact H1
    isplitl [H9]; · iexact H9
    isplitl [H10]; · iexact H10
    isplitl [H12]; · iexact H12
    isplitl [H16]; · iexact H16
    isplitl [H17]; · iexact H17
    iexact H18
  · rw [dif_neg h2, if_neg h2]
    simp only [Prog.bind_ret]
    rw [wp_ret]
    imodintro
    iapply Hk
    isplitl [H1]; · iexact H1
    isplitl [H9]; · iexact H9
    isplitl [H10]; · iexact H10
    isplitl [H12]; · iexact H12
    isplitl [H16]; · iexact H16
    isplitl [H17]; · iexact H17
    iexact H18

/-! ## The whole body -/

/-- The second window's buffer after the body: written at the last point, untouched elsewhere. -/
def dhOut (i : grid0.Coords) (A : FVec F S1152x768 .f32) (Y10 : FVec F S768x1152 .bf16) : FVec F S768x1152 .bf16 :=
  if k0_cond2 i = 1#1 then dhG A else Y10

/-- What the body keeps between points: the dequantised hidden states, the wide embedding gradients, the accumulator, the lists. -/
def state (c : Dev nD) (arg11 : Memref sig .tc .vmem S768x1152 .bf16) (arg12 : Memref sig .tc .vmem S768x1152 .f32)
    (arg13 : Memref sig .tc .vmem S768x768 .bf16) (arg14 : Memref sig .tc .vmem S1152x768 .bf16) (arg15 : Memref sig .tc .vmem S36x768 .f32)
    (arg16 : Memref sig .tc .vmem S1152x768 .f32) (arg17 : Memref sig .tc .smem S167 .i32) (arg18 : Memref sig .tc .smem S768 .i32)
    (ids : S768.Idx → BitVec 32) (H : FVec F S768x1152 .bf16) (D : FVec F S768x1152 .f32) (A : FVec F S1152x768 .f32) : sProp 𝕄 :=
  iprop(owns (c : Thread nD τ) arg11 fullShare H ∗ owns (c : Thread nD τ) arg12 fullShare D
    ∗ (∃ Y, owns (c : Thread nD τ) arg13 fullShare Y) ∗ (∃ Y, owns (c : Thread nD τ) arg14 fullShare Y) ∗ (∃ Y, owns (c : Thread nD τ) arg15 fullShare Y)
    ∗ owns (c : Thread nD τ) arg16 fullShare A
    ∗ owns (c : Thread nD τ) arg17 fullShare (headG ids 768 : S167.Idx → BitVec 32) ∗ owns (c : Thread nD τ) arg18 fullShare (nextG ids : S768.Idx → BitVec 32))

/-- The same buffers at anything. -/
def junk (c : Dev nD) (arg11 : Memref sig .tc .vmem S768x1152 .bf16) (arg12 : Memref sig .tc .vmem S768x1152 .f32)
    (arg13 : Memref sig .tc .vmem S768x768 .bf16) (arg14 : Memref sig .tc .vmem S1152x768 .bf16) (arg15 : Memref sig .tc .vmem S36x768 .f32)
    (arg16 : Memref sig .tc .vmem S1152x768 .f32) (arg17 : Memref sig .tc .smem S167 .i32) (arg18 : Memref sig .tc .smem S768 .i32) : sProp 𝕄 :=
  iprop((∃ Y, owns (c : Thread nD τ) arg11 fullShare Y) ∗ (∃ Y, owns (c : Thread nD τ) arg12 fullShare Y)
    ∗ (∃ Y, owns (c : Thread nD τ) arg13 fullShare Y) ∗ (∃ Y, owns (c : Thread nD τ) arg14 fullShare Y) ∗ (∃ Y, owns (c : Thread nD τ) arg15 fullShare Y)
    ∗ (∃ Y, owns (c : Thread nD τ) arg16 fullShare Y)
    ∗ (∃ Y, owns (c : Thread nD τ) arg17 fullShare Y) ∗ (∃ Y, owns (c : Thread nD τ) arg18 fullShare Y))

/-- The inputs the body reads. -/
def inputs (c : Dev nD) (arg1 : Memref sig .tc .smem S768 .i32) (arg2 : Memref sig .tc .vmem S768x768 .fp8e5m2) (arg3 : Memref sig .tc .vmem S6x2x384 .f32)
    (arg4 : Memref sig .tc .vmem S768x1152 .fp8e4m3) (arg5 : Memref sig .tc .vmem S2x384 .f32) (arg6 : Memref sig .tc .vmem S576x768 .i8)
    (arg7 : Memref sig .tc .vmem S36x768 .f32) (arg8 : Memref sig .tc .vmem S768x1152 .bf16)
    (q : PosShare TreeShare) (ids : S768.Idx → BitVec 32) (x2 : Vec F S768x768 .fp8e5m2) (x3 : Vec F S6x2x384 .f32)
    (x4 : Vec F S768x1152 .fp8e4m3) (x5 : Vec F S2x384 .f32) (x6 : Vec F S576x768 .i8) (x7 : Vec F S36x768 .f32) (x8 : Vec F S768x1152 .bf16) : sProp 𝕄 :=
  iprop(owns (c : Thread nD τ) arg1 q ids ∗ owns (c : Thread nD τ) arg2 fullShare x2 ∗ owns (c : Thread nD τ) arg3 fullShare x3
    ∗ owns (c : Thread nD τ) arg4 fullShare x4 ∗ owns (c : Thread nD τ) arg5 fullShare x5 ∗ owns (c : Thread nD τ) arg6 fullShare x6
    ∗ owns (c : Thread nD τ) arg7 fullShare x7 ∗ owns (c : Thread nD τ) arg8 fullShare x8)

/-- One vocabulary block of the first result. -/
def deOut (ids : S768.Idx → BitVec 32) (b : ℕ) (x2 : Vec F S768x768 .fp8e5m2) (x3 : Vec F S6x2x384 .f32) (H : FVec F S768x1152 .bf16)
    (D : FVec F S768x1152 .f32) : FVec F S768x1152 .f32 := addAll ids D b 768 (headDE x2 x3 H)

/-- The body from the point where its state is set up. -/
theorem rest_spec (c : Dev nD) (i : grid0.Coords) (arg1 : Memref sig .tc .smem S768 .i32) (harg1 : arg1.IsWhole) (arg2 : Memref sig .tc .vmem S768x768 .fp8e5m2) (harg2 : arg2.IsWhole) (arg3 : Memref sig .tc .vmem S6x2x384 .f32) (harg3 : arg3.IsWhole) (arg4 : Memref sig .tc .vmem S768x1152 .fp8e4m3) (harg4 : arg4.IsWhole) (arg5 : Memref sig .tc .vmem S2x384 .f32) (harg5 : arg5.IsWhole) (arg6 : Memref sig .tc .vmem S576x768 .i8) (harg6 : arg6.IsWhole) (arg7 : Memref sig .tc .vmem S36x768 .f32) (harg7 : arg7.IsWhole) (arg8 : Memref sig .tc .vmem S768x1152 .bf16) (harg8 : arg8.IsWhole) (arg9 : Memref sig .tc .vmem S768x1152 .f32) (harg9 : arg9.IsWhole) (arg10 : Memref sig .tc .vmem S768x1152 .bf16) (harg10 : arg10.IsWhole) (arg11 : Memref sig .tc .vmem S768x1152 .bf16) (harg11 : arg11.IsWhole) (arg12 : Memref sig .tc .vmem S768x1152 .f32) (harg12 : arg12.IsWhole) (arg13 : Memref sig .tc .vmem S768x768 .bf16) (harg13 : arg13.IsWhole) (arg14 : Memref sig .tc .vmem S1152x768 .bf16) (harg14 : arg14.IsWhole) (arg15 : Memref sig .tc .vmem S36x768 .f32) (harg15 : arg15.IsWhole) (arg16 : Memref sig .tc .vmem S1152x768 .f32) (harg16 : arg16.IsWhole) (arg17 : Memref sig .tc .smem S167 .i32) (harg17 : arg17.IsWhole) (arg18 : Memref sig .tc .smem S768 .i32) (harg18 : arg18.IsWhole)
    (q : PosShare TreeShare) (ids : S768.Idx → BitVec 32) (hids : InVocab ids) (x2 : Vec F S768x768 .fp8e5m2) (x3 : Vec F S6x2x384 .f32)
    (x4 : Vec F S768x1152 .fp8e4m3) (x5 : Vec F S2x384 .f32) (x6 : Vec F S576x768 .i8) (x7 : Vec F S36x768 .f32) (x8 : Vec F S768x1152 .bf16)
    (H : FVec F S768x1152 .bf16) (D : FVec F S768x1152 .f32) (A : FVec F S1152x768 .f32) (Y10 : FVec F S768x1152 .bf16) {Q : PUnit → sProp 𝕄} :
    iprop(inputs c arg1 arg2 arg3 arg4 arg5 arg6 arg7 arg8 q ids x2 x3 x4 x5 x6 x7 x8
        ∗ (∃ Y, owns (c : Thread nD τ) arg9 fullShare Y) ∗ owns (c : Thread nD τ) arg10 fullShare Y10
        ∗ state c arg11 arg12 arg13 arg14 arg15 arg16 arg17 arg18 ids H D A) ⊢
      iprop((iprop(inputs c arg1 arg2 arg3 arg4 arg5 arg6 arg7 arg8 q ids x2 x3 x4 x5 x6 x7 x8
            ∗ owns (c : Thread nD τ) arg9 fullShare (deOut ids (i 0).val x2 x3 H D) ∗ owns (c : Thread nD τ) arg10 fullShare (dhOut i (accNext x2 x3 x6 x7 A) Y10)
            ∗ state c arg11 arg12 arg13 arg14 arg15 arg16 arg17 arg18 ids H D (accNext x2 x3 x6 x7 A))
          -∗ Q ⟨⟩)
        -∗ wp frame (wpE (defs₀ (F := F)) 𝒱₀ (c : Thread nD τ) none) Set.univ
            (midPhase i arg2 arg3 arg6 arg7 arg9 arg11 arg13 harg13 arg14 harg14 arg15 arg16 (tailPhase i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)) Q) := by
  unfold inputs state
  iintro ⟨⟨H1, H2, H3, H4, H5, H6, H7, H8⟩, H9, H10, ⟨H11, H12, H13, H14, H15, H16, H17, H18⟩⟩ Hk
  iapply (mid_spec c i arg2 arg3 arg6 arg7 arg9 arg11 arg13 harg13 arg14 harg14 arg15 arg16 x2 x3 x6 x7 H A) $$ [H2 H3 H6 H7 H9 H11 H13 H14 H15 H16]
  · isplitl [H2]; · iexact H2
    isplitl [H3]; · iexact H3
    isplitl [H6]; · iexact H6
    isplitl [H7]; · iexact H7
    isplitl [H9]; · iexact H9
    isplitl [H11]; · iexact H11
    isplitl [H13]; · iexact H13
    isplitl [H14]; · iexact H14
    isplitl [H15]; · iexact H15
    iexact H16
  iintro ⟨H2, H3, H6, H7, H9, H11, H13, H14, H15, H16⟩
  iapply (tail_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q ids hids D (headDE x2 x3 H) (accNext x2 x3 x6 x7 A) Y10) $$ [H1 H9 H10 H12 H16 H17 H18]
  · isplitl [H1]; · iexact H1
    isplitl [H9]; · iexact H9
    isplitl [H10]; · iexact H10
    isplitl [H12]; · iexact H12
    isplitl [H16]; · iexact H16
    isplitl [H17]; · iexact H17
    iexact H18
  iintro ⟨H1, H9, H10, H12, H16, H17, H18⟩
  iapply Hk
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body at the first point, from buffers at anything. -/
theorem first_spec (c : Dev nD) (i : grid0.Coords) (arg1 : Memref sig .tc .smem S768 .i32) (harg1 : arg1.IsWhole) (arg2 : Memref sig .tc .vmem S768x768 .fp8e5m2) (harg2 : arg2.IsWhole) (arg3 : Memref sig .tc .vmem S6x2x384 .f32) (harg3 : arg3.IsWhole) (arg4 : Memref sig .tc .vmem S768x1152 .fp8e4m3) (harg4 : arg4.IsWhole) (arg5 : Memref sig .tc .vmem S2x384 .f32) (harg5 : arg5.IsWhole) (arg6 : Memref sig .tc .vmem S576x768 .i8) (harg6 : arg6.IsWhole) (arg7 : Memref sig .tc .vmem S36x768 .f32) (harg7 : arg7.IsWhole) (arg8 : Memref sig .tc .vmem S768x1152 .bf16) (harg8 : arg8.IsWhole) (arg9 : Memref sig .tc .vmem S768x1152 .f32) (harg9 : arg9.IsWhole) (arg10 : Memref sig .tc .vmem S768x1152 .bf16) (harg10 : arg10.IsWhole) (arg11 : Memref sig .tc .vmem S768x1152 .bf16) (harg11 : arg11.IsWhole) (arg12 : Memref sig .tc .vmem S768x1152 .f32) (harg12 : arg12.IsWhole) (arg13 : Memref sig .tc .vmem S768x768 .bf16) (harg13 : arg13.IsWhole) (arg14 : Memref sig .tc .vmem S1152x768 .bf16) (harg14 : arg14.IsWhole) (arg15 : Memref sig .tc .vmem S36x768 .f32) (harg15 : arg15.IsWhole) (arg16 : Memref sig .tc .vmem S1152x768 .f32) (harg16 : arg16.IsWhole) (arg17 : Memref sig .tc .smem S167 .i32) (harg17 : arg17.IsWhole) (arg18 : Memref sig .tc .smem S768 .i32) (harg18 : arg18.IsWhole)
    (q : PosShare TreeShare) (ids : S768.Idx → BitVec 32) (hids : InVocab ids) (x2 : Vec F S768x768 .fp8e5m2) (x3 : Vec F S6x2x384 .f32)
    (x4 : Vec F S768x1152 .fp8e4m3) (x5 : Vec F S2x384 .f32) (x6 : Vec F S576x768 .i8) (x7 : Vec F S36x768 .f32) (x8 : Vec F S768x1152 .bf16)
    (Y10 : FVec F S768x1152 .bf16) (h1 : k0_cond1 i = 1#1) {Q : PUnit → sProp 𝕄} :
    iprop(inputs c arg1 arg2 arg3 arg4 arg5 arg6 arg7 arg8 q ids x2 x3 x4 x5 x6 x7 x8
        ∗ (∃ Y, owns (c : Thread nD τ) arg9 fullShare Y) ∗ owns (c : Thread nD τ) arg10 fullShare Y10
        ∗ junk c arg11 arg12 arg13 arg14 arg15 arg16 arg17 arg18) ⊢
      iprop((iprop(inputs c arg1 arg2 arg3 arg4 arg5 arg6 arg7 arg8 q ids x2 x3 x4 x5 x6 x7 x8
            ∗ owns (c : Thread nD τ) arg9 fullShare (deOut ids (i 0).val x2 x3 (hhG x4 x5) (embG x8)) ∗ owns (c : Thread nD τ) arg10 fullShare (dhOut i (accNext x2 x3 x6 x7 acc0) Y10)
            ∗ state c arg11 arg12 arg13 arg14 arg15 arg16 arg17 arg18 ids (hhG x4 x5) (embG x8) (accNext x2 x3 x6 x7 acc0))
          -∗ Q ⟨⟩)
        -∗ wp frame (wpE (defs₀ (F := F)) 𝒱₀ (c : Thread nD τ) none) Set.univ
            (cc0_tied_embedding_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q) := by
  rw [body_eq]
  unfold body
  rw [dif_pos h1]
  iintro ⟨HI, H9, H10, HJ⟩ Hk
  unfold junk
  icases HJ with ⟨H11, H12, H13, H14, H15, H16, H17, H18⟩
  unfold inputs
  icases HI with ⟨H1, H2, H3, H4, H5, H6, H7, H8⟩
  iapply (init_spec c i h1 arg1 arg4 arg5 arg8 arg11 harg11 arg12 arg16 arg17 arg18 q ids hids x4 x5 x8) $$ [H1 H4 H5 H8 H11 H12 H16 H17 H18]
  · isplitl [H1]; · iexact H1
    isplitl [H4]; · iexact H4
    isplitl [H5]; · iexact H5
    isplitl [H8]; · iexact H8
    isplitl [H11]; · iexact H11
    isplitl [H12]; · iexact H12
    isplitl [H16]; · iexact H16
    isplitl [H17]; · iexact H17
    iexact H18
  iintro ⟨H1, H4, H5, H8, H11, H12, H16, H17, H18⟩
  iapply (rest_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q ids hids x2 x3 x4 x5 x6 x7 x8 (hhG x4 x5) (embG x8) acc0 Y10) $$ [H1 H2 H3 H4 H5 H6 H7 H8 H9 H10 H11 H12 H13 H14 H15 H16 H17 H18]
  · unfold inputs state
    isplitl [H1 H2 H3 H4 H5 H6 H7 H8]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  unfold inputs
  iexact Hk

/-- The body at a later point, from the state the point before left. -/
theorem later_spec (c : Dev nD) (i : grid0.Coords) (arg1 : Memref sig .tc .smem S768 .i32) (harg1 : arg1.IsWhole) (arg2 : Memref sig .tc .vmem S768x768 .fp8e5m2) (harg2 : arg2.IsWhole) (arg3 : Memref sig .tc .vmem S6x2x384 .f32) (harg3 : arg3.IsWhole) (arg4 : Memref sig .tc .vmem S768x1152 .fp8e4m3) (harg4 : arg4.IsWhole) (arg5 : Memref sig .tc .vmem S2x384 .f32) (harg5 : arg5.IsWhole) (arg6 : Memref sig .tc .vmem S576x768 .i8) (harg6 : arg6.IsWhole) (arg7 : Memref sig .tc .vmem S36x768 .f32) (harg7 : arg7.IsWhole) (arg8 : Memref sig .tc .vmem S768x1152 .bf16) (harg8 : arg8.IsWhole) (arg9 : Memref sig .tc .vmem S768x1152 .f32) (harg9 : arg9.IsWhole) (arg10 : Memref sig .tc .vmem S768x1152 .bf16) (harg10 : arg10.IsWhole) (arg11 : Memref sig .tc .vmem S768x1152 .bf16) (harg11 : arg11.IsWhole) (arg12 : Memref sig .tc .vmem S768x1152 .f32) (harg12 : arg12.IsWhole) (arg13 : Memref sig .tc .vmem S768x768 .bf16) (harg13 : arg13.IsWhole) (arg14 : Memref sig .tc .vmem S1152x768 .bf16) (harg14 : arg14.IsWhole) (arg15 : Memref sig .tc .vmem S36x768 .f32) (harg15 : arg15.IsWhole) (arg16 : Memref sig .tc .vmem S1152x768 .f32) (harg16 : arg16.IsWhole) (arg17 : Memref sig .tc .smem S167 .i32) (harg17 : arg17.IsWhole) (arg18 : Memref sig .tc .smem S768 .i32) (harg18 : arg18.IsWhole)
    (q : PosShare TreeShare) (ids : S768.Idx → BitVec 32) (hids : InVocab ids) (x2 : Vec F S768x768 .fp8e5m2) (x3 : Vec F S6x2x384 .f32)
    (x4 : Vec F S768x1152 .fp8e4m3) (x5 : Vec F S2x384 .f32) (x6 : Vec F S576x768 .i8) (x7 : Vec F S36x768 .f32) (x8 : Vec F S768x1152 .bf16)
    (H : FVec F S768x1152 .bf16) (D : FVec F S768x1152 .f32) (A : FVec F S1152x768 .f32) (Y10 : FVec F S768x1152 .bf16)
    (h1 : ¬k0_cond1 i = 1#1) {Q : PUnit → sProp 𝕄} :
    iprop(inputs c arg1 arg2 arg3 arg4 arg5 arg6 arg7 arg8 q ids x2 x3 x4 x5 x6 x7 x8
        ∗ (∃ Y, owns (c : Thread nD τ) arg9 fullShare Y) ∗ owns (c : Thread nD τ) arg10 fullShare Y10
        ∗ state c arg11 arg12 arg13 arg14 arg15 arg16 arg17 arg18 ids H D A) ⊢
      iprop((iprop(inputs c arg1 arg2 arg3 arg4 arg5 arg6 arg7 arg8 q ids x2 x3 x4 x5 x6 x7 x8
            ∗ owns (c : Thread nD τ) arg9 fullShare (deOut ids (i 0).val x2 x3 H D) ∗ owns (c : Thread nD τ) arg10 fullShare (dhOut i (accNext x2 x3 x6 x7 A) Y10)
            ∗ state c arg11 arg12 arg13 arg14 arg15 arg16 arg17 arg18 ids H D (accNext x2 x3 x6 x7 A))
          -∗ Q ⟨⟩)
        -∗ wp frame (wpE (defs₀ (F := F)) 𝒱₀ (c : Thread nD τ) none) Set.univ
            (cc0_tied_embedding_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q) := by
  rw [body_eq]
  unfold body
  rw [dif_neg h1]
  exact rest_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q ids hids x2 x3 x4 x5 x6 x7 x8 H D A Y10

end Cert.Proof.KB
-- ==== Proof.KB.Frame.lean ====
/- The pipelined call: what every window and scratch buffer holds at each grid point, and the run of the whole program. -/
module

public import proofs.«01_k».proof.Proof.KB.Body
public import proofs.«01_k».proof.Proof.Gen.Kernel.Launch
public import Idealize.ShloMosaic.Lib.Pipeline.FrameBody
public import Idealize.ShloMosaic.Lib.Pipeline.Kit
public import Idealize.ShloMosaic.Lib.WordCmp

@[expose] public section

set_option maxRecDepth 16384

noncomputable section

namespace Cert.Proof.KB

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- A core's buffers when the pipelined call starts. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

set_option maxHeartbeats 800000 in
/-- The program up to the pipelined call. -/
theorem hmain (𝒱 : Variants) : Pipeline.HMainP (Ix := Unit) (Name := ℕ) (U := UR sig nD τ) (Lvl := ℕ) pcfgs 0 defs₀ 𝒱 m (main (F := F)) (V m) :=
  Pipeline.hmainP_prefix pcfgs 0 defs₀ 𝒱 m main hostOps0 hostOps0_sub hostOps0_fresh main_chain

/-- A buffer that no host operation writes is as launched. -/
theorem V_keep (c : Dev nD) (b : Ref sig .tc) (h : b ∉ [main_v0, main_v1, main_v2, main_v3, main_v4, main_v5, main_v6]) :
    V m c b = m ((c : Thread nD τ).loc b) :=
  StableHlo.after_of_forall_not_mem (b := Proc.devRef .tc b) _ _ (List.forall_iff_forall_mem.mp (by
    simp only [List.mem_cons, List.not_mem_nil, or_false, not_or] at h
    obtain ⟨h0, h1, h2, h3, h4, h5, h6⟩ := h
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

/-! ## The table of token ids -/

/-- The tables' contents when the call starts. -/
def tbl : pre0.Contents (Elt F) := fun j => V m (0 : Dev nD) (pre0.ref j)
/-- They are the same on every device: there is one. -/
theorem V_pre (c : Dev nD) (j : Fin 1) : V m c (pre0.ref j) = tbl m j := by
  obtain rfl : c = 0 := Subsingleton.elim _ _; rfl
/-- The token ids. -/
abbrev idsM : S768.Idx → BitVec 32 := tbl m 0
/-- No index map reads the table, so any contents will do. -/
abbrev Ok : Prop := ok0 (F := F) (tbl m)
/-- The table's contents as admissible ones. -/
abbrev adm (hO : Ok m) : (pcfg0 (F := F)).Adm := ⟨tbl m, hO⟩
/-- The pipeline at the table's contents. -/
abbrev cfgM (hO : Ok m) : Pipeline.Cfg sig (Λ₀ F) := cfg0 (adm m hO)
/-- The table as the body is handed it. -/
abbrev tbM : Memref sig .tc .smem S768 .i32 := Memref.whole main_v6

/-- The half of the table that the body holds. -/
theorem PhiT_eq (c : Dev nD) : (Pipeline.ΦT pre0 (tbl m) c : sProp 𝕄) = owns (c : Thread nD τ) tbM fullShare.right (idsM m) := by
  unfold Pipeline.ΦT Pipeline.prefHeld
  rw [show (Finset.univ : Finset (Fin 1)) = {(0 : Fin 1)} from by decide, bigSep_singleton, owns_whole]
  rfl

/-! ## The windows -/

/-- A window's block at a point, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0 holds its block at every point. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 holds its block at every point. -/
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 holds its block at every point. -/
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3 holds its block at every point. -/
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4 holds its block at every point. -/
theorem before4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5 holds its block at every point. -/
theorem before5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6 holds its block at every point. -/
theorem before6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The branch conditions -/

/-- The first branch is taken at the first point only. -/
theorem hcond1 (t : Fin grid0.N) : k0_cond1 (grid0.coords t) = 1#1 ↔ t.val = 0 := by
  have ht : t.val < 167 := Nat.lt_of_lt_of_eq t.isLt N_0
  have e0 : (grid0.coords t 0).val = t.val / 1 % 167 := Pipeline.Grid.coords_val t 0 (by decide) rfl
  simp only [k0_cond1, e0]
  word_cmp

/-- The last branch is taken at the last point only. -/
theorem hcond2 (t : Fin grid0.N) : k0_cond2 (grid0.coords t) = 1#1 ↔ t.val = 166 := by
  have ht : t.val < 167 := Nat.lt_of_lt_of_eq t.isLt N_0
  have e0 : (grid0.coords t 0).val = t.val / 1 % 167 := Pipeline.Grid.coords_val t 0 (by decide) rfl
  simp only [k0_cond2, e0]
  word_cmp

/-- The grid coordinate is the point's number. -/
theorem coord_eq (t : Fin grid0.N) : (grid0.coords t 0).val = t.val := by
  have ht : t.val < 167 := Nat.lt_of_lt_of_eq t.isLt N_0
  have e0 : (grid0.coords t 0).val = t.val / 1 % 167 := Pipeline.Grid.coords_val t 0 (by decide) rfl
  omega

/-- Every window but the last is used at every point. -/
theorem liveAt (hO : Ok m) (w : Fin 9) (hw : w ≠ 8) (t : Fin (cfgM m hO).N) : (cfgM m hO).idle w (grid0.coords t) = false := by
  revert hw; revert w; intro w
  show w ≠ 8 → idle0 w (grid0.coords t) = false
  fin_cases w <;> first | (intro _; rfl) | (intro h; exact absurd rfl h)

/-- The last window is idle except at the last point. -/
theorem idleAt (hO : Ok m) : ∀ t : Fin (cfgM m hO).N, ¬t.val = 166 → (cfgM m hO).idle 8 (grid0.coords t) = true :=
  (by decide +kernel : ∀ t : Fin grid0.N, ¬t.val = 166 → idle0 8 (grid0.coords t) = true)
/-- It is not written back there. -/
theorem noFlushAt (hO : Ok m) : ∀ t : Fin (cfgM m hO).N, ¬t.val = 166 → ((cfgM m hO).win 8).flush t = false :=
  (by decide +kernel : ∀ t : Fin grid0.N, ¬t.val = 166 → Pipeline.Window.flushOf grid0 true cc0_transform_8 t = false)
/-- It is used at the last point. -/
theorem lastAt (hO : Ok m) : ∀ t : Fin (cfgM m hO).N, t.val = 166 → (cfgM m hO).idle 8 (grid0.coords t) = false :=
  (by decide +kernel : ∀ t : Fin grid0.N, t.val = 166 → idle0 8 (grid0.coords t) = false)

/-! ## The buffers of a point -/

/-- Window 0's buffer at a point. -/
abbrev ms0 (hO : Ok m) (t : Fin (cfgM m hO).N) : Memref sig .tc .vmem S768x768 .fp8e5m2 := spec0_0.stage ((cfgM m hO).slots t 0)
/-- It is a whole buffer. -/
abbrev hs0 (hO : Ok m) (t : Fin (cfgM m hO).N) : (ms0 m hO t).IsWhole := hstage0_0 (((cfgM m hO).slots t 0).cast nbuf0_0)

/-- Window 1's buffer at a point. -/
abbrev ms1 (hO : Ok m) (t : Fin (cfgM m hO).N) : Memref sig .tc .vmem S6x2x384 .f32 := spec0_1.stage ((cfgM m hO).slots t 1)
/-- It is a whole buffer. -/
abbrev hs1 (hO : Ok m) (t : Fin (cfgM m hO).N) : (ms1 m hO t).IsWhole := hstage0_1 (((cfgM m hO).slots t 1).cast nbuf0_1)

/-- Window 2's buffer at a point. -/
abbrev ms2 (hO : Ok m) (t : Fin (cfgM m hO).N) : Memref sig .tc .vmem S768x1152 .fp8e4m3 := spec0_2.stage ((cfgM m hO).slots t 2)
/-- It is a whole buffer. -/
abbrev hs2 (hO : Ok m) (t : Fin (cfgM m hO).N) : (ms2 m hO t).IsWhole := hstage0_2 (((cfgM m hO).slots t 2).cast nbuf0_2)

/-- Window 3's buffer at a point. -/
abbrev ms3 (hO : Ok m) (t : Fin (cfgM m hO).N) : Memref sig .tc .vmem S2x384 .f32 := spec0_3.stage ((cfgM m hO).slots t 3)
/-- It is a whole buffer. -/
abbrev hs3 (hO : Ok m) (t : Fin (cfgM m hO).N) : (ms3 m hO t).IsWhole := hstage0_3 (((cfgM m hO).slots t 3).cast nbuf0_3)

/-- Window 4's buffer at a point. -/
abbrev ms4 (hO : Ok m) (t : Fin (cfgM m hO).N) : Memref sig .tc .vmem S576x768 .i8 := spec0_4.stage ((cfgM m hO).slots t 4)
/-- It is a whole buffer. -/
abbrev hs4 (hO : Ok m) (t : Fin (cfgM m hO).N) : (ms4 m hO t).IsWhole := hstage0_4 (((cfgM m hO).slots t 4).cast nbuf0_4)

/-- Window 5's buffer at a point. -/
abbrev ms5 (hO : Ok m) (t : Fin (cfgM m hO).N) : Memref sig .tc .vmem S36x768 .f32 := spec0_5.stage ((cfgM m hO).slots t 5)
/-- It is a whole buffer. -/
abbrev hs5 (hO : Ok m) (t : Fin (cfgM m hO).N) : (ms5 m hO t).IsWhole := hstage0_5 (((cfgM m hO).slots t 5).cast nbuf0_5)

/-- Window 6's buffer at a point. -/
abbrev ms6 (hO : Ok m) (t : Fin (cfgM m hO).N) : Memref sig .tc .vmem S768x1152 .bf16 := spec0_6.stage ((cfgM m hO).slots t 6)
/-- It is a whole buffer. -/
abbrev hs6 (hO : Ok m) (t : Fin (cfgM m hO).N) : (ms6 m hO t).IsWhole := hstage0_6 (((cfgM m hO).slots t 6).cast nbuf0_6)

/-- Window 7's buffer at a point. -/
abbrev ms7 (hO : Ok m) (t : Fin (cfgM m hO).N) : Memref sig .tc .vmem S768x1152 .f32 := spec0_7.stage ((cfgM m hO).slots t 7)
/-- It is a whole buffer. -/
abbrev hs7 (hO : Ok m) (t : Fin (cfgM m hO).N) : (ms7 m hO t).IsWhole := hstage0_7 (((cfgM m hO).slots t 7).cast nbuf0_7)

/-- Window 8's buffer at a point. -/
abbrev ms8 (hO : Ok m) (t : Fin (cfgM m hO).N) : Memref sig .tc .vmem S768x1152 .bf16 := spec0_8.stage ((cfgM m hO).slots t 8)
/-- It is a whole buffer. -/
abbrev hs8 (hO : Ok m) (t : Fin (cfgM m hO).N) : (ms8 m hO t).IsWhole := hstage0_8 (((cfgM m hO).slots t 8).cast nbuf0_8)

/-- Scratch buffer 0. -/
abbrev sc0 : Memref sig .tc .vmem S768x1152 .bf16 := Memref.whole cc0_scratch0

/-- Scratch buffer 1. -/
abbrev sc1 : Memref sig .tc .vmem S768x1152 .f32 := Memref.whole cc0_scratch1

/-- Scratch buffer 2. -/
abbrev sc2 : Memref sig .tc .vmem S768x768 .bf16 := Memref.whole cc0_scratch2

/-- Scratch buffer 3. -/
abbrev sc3 : Memref sig .tc .vmem S1152x768 .bf16 := Memref.whole cc0_scratch3

/-- Scratch buffer 4. -/
abbrev sc4 : Memref sig .tc .vmem S36x768 .f32 := Memref.whole cc0_scratch4

/-- Scratch buffer 5. -/
abbrev sc5 : Memref sig .tc .vmem S1152x768 .f32 := Memref.whole cc0_scratch5

/-- Scratch buffer 6. -/
abbrev sc6 : Memref sig .tc .smem S167 .i32 := Memref.whole cc0_scratch6

/-- Scratch buffer 7. -/
abbrev sc7 : Memref sig .tc .smem S768 .i32 := Memref.whole cc0_scratch7

/-- The body as the pipeline calls it at a point. -/
abbrev bodyAt (hO : Ok m) (t : Fin (cfgM m hO).N) : Prog (TpuEff nD τ sig (Elt F) (Λ₀ F) .tc) PUnit :=
  cc0_tied_embedding_grad (grid0.coords t) tbM (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _)

/-- The scratch buffers at anything, and the generator register at any state. -/
theorem PhiA_eq (c : Dev nD) :
    (Pipeline.ΦA spec0 c : sProp 𝕄)
      = iprop(junk c sc0 sc1 sc2 sc3 sc4 sc5 sc6 sc7 ∗ (∃ r, prngReg c r)) := by
  unfold Pipeline.ΦA junk; rw [scopedRest0_eq]; simp only [sc0, sc1, sc2, sc3, sc4, sc5, sc6, sc7, owns_whole]; try rfl

/-! ## What the points leave -/

/-- The first point. -/
abbrev pt0 (hO : Ok m) : Fin (cfgM m hO).N := ⟨0, Nat.lt_of_lt_of_eq (by decide : 0 < 167) N_0.symm⟩

/-- The dequantised hidden states. -/
def hhM (hO : Ok m) (c : Dev nD) : FVec F S768x1152 .bf16 := hhG (iblk m hO c 2 (pt0 m hO)) (iblk m hO c 3 (pt0 m hO))
/-- The wide embedding gradients. -/
def embM (hO : Ok m) (c : Dev nD) : FVec F S768x1152 .f32 := embG (iblk m hO c 6 (pt0 m hO))

/-- The accumulator after a point, from the one before it. -/
def accStep (hO : Ok m) (c : Dev nD) (t : Fin (cfgM m hO).N) (A : FVec F S1152x768 .f32) : FVec F S1152x768 .f32 :=
  accNext (iblk m hO c 0 t) (iblk m hO c 1 t) (iblk m hO c 4 t) (iblk m hO c 5 t) A

/-- The accumulator after point `n`. -/
def accAt (hO : Ok m) (c : Dev nD) : (n : ℕ) → n < (cfgM m hO).N → FVec F S1152x768 .f32
  | 0, h => accStep m hO c ⟨0, h⟩ acc0
  | n + 1, h => accStep m hO c ⟨n + 1, h⟩ (accAt hO c n (Nat.lt_of_succ_lt h))

/-- The first result's block written at a point. -/
def deM (hO : Ok m) (c : Dev nD) (t : Fin (cfgM m hO).N) : FVec F S768x1152 .f32 :=
  deOut (idsM m) t.val (iblk m hO c 0 t) (iblk m hO c 1 t) (hhM m hO c) (embM m hO c)

/-- What is held between points. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(state c sc0 sc1 sc2 sc3 sc4 sc5 sc6 sc7 (idsM m) (hhM m hO c) (embM m hO c) (accAt m hO c n hn) ∗ (∃ r, prngReg c r)) ∗ Pipeline.ΦT pre0 (tbl m) c)

/-- Before the first point. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After a point. -/
theorem PhiS_succ (hO : Ok m) (c : Dev nD) (n : ℕ) (hn : n < (cfgM m hO).N) :
    PhiS m hO c (n + 1) hn = iprop(iprop(state c sc0 sc1 sc2 sc3 sc4 sc5 sc6 sc7 (idsM m) (hhM m hO c) (embM m hO c) (accAt m hO c n hn) ∗ (∃ r, prngReg c r)) ∗ Pipeline.ΦT pre0 (tbl m) c) := rfl

/-- The proof data of the pipeline. -/
def dats (hO : Ok m) (_ : Fin 1) (c : Dev nD) : Dat τ (Elt F) Unit ℕ (UR sig nD τ) ℕ (cfgM m hO) c where
  A w := V m c (Pipeline.arrRef spec0 w)
  after w t := match w with

    | ⟨0, _⟩ => iblk m hO c 0 t

    | ⟨1, _⟩ => iblk m hO c 1 t

    | ⟨2, _⟩ => iblk m hO c 2 t

    | ⟨3, _⟩ => iblk m hO c 3 t

    | ⟨4, _⟩ => iblk m hO c 4 t

    | ⟨5, _⟩ => iblk m hO c 5 t

    | ⟨6, _⟩ => iblk m hO c 6 t

    | ⟨7, _⟩ => deM m hO c t
    | ⟨8, _⟩ => dhG (accAt m hO c t.val t.isLt)
  Φ t := PhiS m hO c t.val (Nat.le_of_lt_succ t.isLt)
  q _ := fullShare
  owed _ := 0

/-- The arrays are as the call finds them. -/
theorem A_eq (hO : Ok m) (c : Dev nD) (w : Fin (cfgM m hO).W) : (dats m hO 0 c).A w = V m c (Pipeline.arrRef spec0 w) := by
  dsimp only [dats]

/-- The invariant at a point's start. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves in window 0. -/
theorem after0 (hO : Ok m) (c : Dev nD) (t : Fin (cfgM m hO).N) : (dats m hO 0 c).after 0 t = iblk m hO c 0 t := by dsimp only [dats]; try rfl

/-- What the body leaves in window 1. -/
theorem after1 (hO : Ok m) (c : Dev nD) (t : Fin (cfgM m hO).N) : (dats m hO 0 c).after 1 t = iblk m hO c 1 t := by dsimp only [dats]; try rfl

/-- What the body leaves in window 2. -/
theorem after2 (hO : Ok m) (c : Dev nD) (t : Fin (cfgM m hO).N) : (dats m hO 0 c).after 2 t = iblk m hO c 2 t := by dsimp only [dats]; try rfl

/-- What the body leaves in window 3. -/
theorem after3 (hO : Ok m) (c : Dev nD) (t : Fin (cfgM m hO).N) : (dats m hO 0 c).after 3 t = iblk m hO c 3 t := by dsimp only [dats]; try rfl

/-- What the body leaves in window 4. -/
theorem after4 (hO : Ok m) (c : Dev nD) (t : Fin (cfgM m hO).N) : (dats m hO 0 c).after 4 t = iblk m hO c 4 t := by dsimp only [dats]; try rfl

/-- What the body leaves in window 5. -/
theorem after5 (hO : Ok m) (c : Dev nD) (t : Fin (cfgM m hO).N) : (dats m hO 0 c).after 5 t = iblk m hO c 5 t := by dsimp only [dats]; try rfl

/-- What the body leaves in window 6. -/
theorem after6 (hO : Ok m) (c : Dev nD) (t : Fin (cfgM m hO).N) : (dats m hO 0 c).after 6 t = iblk m hO c 6 t := by dsimp only [dats]; try rfl

/-- What the body leaves in window 7. -/
theorem after7 (hO : Ok m) (c : Dev nD) (t : Fin (cfgM m hO).N) : (dats m hO 0 c).after 7 t = deM m hO c t := by dsimp only [dats]; try rfl

/-- What the body leaves in window 8. -/
theorem after8 (hO : Ok m) (c : Dev nD) (t : Fin (cfgM m hO).N) : (dats m hO 0 c).after 8 t = dhG (accAt m hO c t.val t.isLt) := by dsimp only [dats]; try rfl

/-- What the body finds in window 0. -/
theorem before0 (hO : Ok m) (c : Dev nD) (t : Fin (cfgM m hO).N) (d) : (dats m hO 0 c).before 0 t d = iblk m hO c 0 t :=
  before0_of m hO (dats m hO 0 c) (A_eq m hO c 0) (after0 m hO c) t d

/-- What the body finds in window 1. -/
theorem before1 (hO : Ok m) (c : Dev nD) (t : Fin (cfgM m hO).N) (d) : (dats m hO 0 c).before 1 t d = iblk m hO c 1 t :=
  before1_of m hO (dats m hO 0 c) (A_eq m hO c 1) (after1 m hO c) t d

/-- What the body finds in window 2. -/
theorem before2 (hO : Ok m) (c : Dev nD) (t : Fin (cfgM m hO).N) (d) : (dats m hO 0 c).before 2 t d = iblk m hO c 2 t :=
  before2_of m hO (dats m hO 0 c) (A_eq m hO c 2) (after2 m hO c) t d

/-- What the body finds in window 3. -/
theorem before3 (hO : Ok m) (c : Dev nD) (t : Fin (cfgM m hO).N) (d) : (dats m hO 0 c).before 3 t d = iblk m hO c 3 t :=
  before3_of m hO (dats m hO 0 c) (A_eq m hO c 3) (after3 m hO c) t d

/-- What the body finds in window 4. -/
theorem before4 (hO : Ok m) (c : Dev nD) (t : Fin (cfgM m hO).N) (d) : (dats m hO 0 c).before 4 t d = iblk m hO c 4 t :=
  before4_of m hO (dats m hO 0 c) (A_eq m hO c 4) (after4 m hO c) t d

/-- What the body finds in window 5. -/
theorem before5 (hO : Ok m) (c : Dev nD) (t : Fin (cfgM m hO).N) (d) : (dats m hO 0 c).before 5 t d = iblk m hO c 5 t :=
  before5_of m hO (dats m hO 0 c) (A_eq m hO c 5) (after5 m hO c) t d

/-- What the body finds in window 6. -/
theorem before6 (hO : Ok m) (c : Dev nD) (t : Fin (cfgM m hO).N) (d) : (dats m hO 0 c).before 6 t d = iblk m hO c 6 t :=
  before6_of m hO (dats m hO 0 c) (A_eq m hO c 6) (after6 m hO c) t d

/-- A window in use must hold what the body leaves. -/
theorem leaves_live {cfg : Cfg sig (Λ₀ F)} {c : Dev nD} (dat : Dat τ (Elt F) Unit ℕ (UR sig nD τ) ℕ cfg c) (w : Fin cfg.W) (t : Fin cfg.N)
    (hi : cfg.idle w (cfg.grid.coords t) = false) :
    (dat.leavesExact w t : sProp 𝕄) = owns (c : Thread nD τ) ((cfg.win w).stage (cfg.slots t w)) fullShare (dat.after w t) := by
  unfold Dat.leavesExact; rw [hi]

/-- What window 0 must hold after the body. -/
theorem leaves0 (hO : Ok m) (c : Dev nD) (t : Fin (cfgM m hO).N) :
    owns (c : Thread nD τ) (ms0 m hO t) fullShare (iblk m hO c 0 t) ⊢ ((dats m hO 0 c).leavesExact 0 t : sProp 𝕄) :=
  ((leaves_live (dats m hO 0 c) 0 t (liveAt m hO 0 (by decide) t)).trans (congrArg (fun X => owns (c : Thread nD τ) (ms0 m hO t) fullShare X) (after0 m hO c t))).symm.subst
    (motive := fun P => owns (c : Thread nD τ) (ms0 m hO t) fullShare (iblk m hO c 0 t) ⊢ P) (Idealize.SL.BI.Entails.refl _)

/-- What window 1 must hold after the body. -/
theorem leaves1 (hO : Ok m) (c : Dev nD) (t : Fin (cfgM m hO).N) :
    owns (c : Thread nD τ) (ms1 m hO t) fullShare (iblk m hO c 1 t) ⊢ ((dats m hO 0 c).leavesExact 1 t : sProp 𝕄) :=
  ((leaves_live (dats m hO 0 c) 1 t (liveAt m hO 1 (by decide) t)).trans (congrArg (fun X => owns (c : Thread nD τ) (ms1 m hO t) fullShare X) (after1 m hO c t))).symm.subst
    (motive := fun P => owns (c : Thread nD τ) (ms1 m hO t) fullShare (iblk m hO c 1 t) ⊢ P) (Idealize.SL.BI.Entails.refl _)

/-- What window 2 must hold after the body. -/
theorem leaves2 (hO : Ok m) (c : Dev nD) (t : Fin (cfgM m hO).N) :
    owns (c : Thread nD τ) (ms2 m hO t) fullShare (iblk m hO c 2 t) ⊢ ((dats m hO 0 c).leavesExact 2 t : sProp 𝕄) :=
  ((leaves_live (dats m hO 0 c) 2 t (liveAt m hO 2 (by decide) t)).trans (congrArg (fun X => owns (c : Thread nD τ) (ms2 m hO t) fullShare X) (after2 m hO c t))).symm.subst
    (motive := fun P => owns (c : Thread nD τ) (ms2 m hO t) fullShare (iblk m hO c 2 t) ⊢ P) (Idealize.SL.BI.Entails.refl _)

/-- What window 3 must hold after the body. -/
theorem leaves3 (hO : Ok m) (c : Dev nD) (t : Fin (cfgM m hO).N) :
    owns (c : Thread nD τ) (ms3 m hO t) fullShare (iblk m hO c 3 t) ⊢ ((dats m hO 0 c).leavesExact 3 t : sProp 𝕄) :=
  ((leaves_live (dats m hO 0 c) 3 t (liveAt m hO 3 (by decide) t)).trans (congrArg (fun X => owns (c : Thread nD τ) (ms3 m hO t) fullShare X) (after3 m hO c t))).symm.subst
    (motive := fun P => owns (c : Thread nD τ) (ms3 m hO t) fullShare (iblk m hO c 3 t) ⊢ P) (Idealize.SL.BI.Entails.refl _)

/-- What window 4 must hold after the body. -/
theorem leaves4 (hO : Ok m) (c : Dev nD) (t : Fin (cfgM m hO).N) :
    owns (c : Thread nD τ) (ms4 m hO t) fullShare (iblk m hO c 4 t) ⊢ ((dats m hO 0 c).leavesExact 4 t : sProp 𝕄) :=
  ((leaves_live (dats m hO 0 c) 4 t (liveAt m hO 4 (by decide) t)).trans (congrArg (fun X => owns (c : Thread nD τ) (ms4 m hO t) fullShare X) (after4 m hO c t))).symm.subst
    (motive := fun P => owns (c : Thread nD τ) (ms4 m hO t) fullShare (iblk m hO c 4 t) ⊢ P) (Idealize.SL.BI.Entails.refl _)

/-- What window 5 must hold after the body. -/
theorem leaves5 (hO : Ok m) (c : Dev nD) (t : Fin (cfgM m hO).N) :
    owns (c : Thread nD τ) (ms5 m hO t) fullShare (iblk m hO c 5 t) ⊢ ((dats m hO 0 c).leavesExact 5 t : sProp 𝕄) :=
  ((leaves_live (dats m hO 0 c) 5 t (liveAt m hO 5 (by decide) t)).trans (congrArg (fun X => owns (c : Thread nD τ) (ms5 m hO t) fullShare X) (after5 m hO c t))).symm.subst
    (motive := fun P => owns (c : Thread nD τ) (ms5 m hO t) fullShare (iblk m hO c 5 t) ⊢ P) (Idealize.SL.BI.Entails.refl _)

/-- What window 6 must hold after the body. -/
theorem leaves6 (hO : Ok m) (c : Dev nD) (t : Fin (cfgM m hO).N) :
    owns (c : Thread nD τ) (ms6 m hO t) fullShare (iblk m hO c 6 t) ⊢ ((dats m hO 0 c).leavesExact 6 t : sProp 𝕄) :=
  ((leaves_live (dats m hO 0 c) 6 t (liveAt m hO 6 (by decide) t)).trans (congrArg (fun X => owns (c : Thread nD τ) (ms6 m hO t) fullShare X) (after6 m hO c t))).symm.subst
    (motive := fun P => owns (c : Thread nD τ) (ms6 m hO t) fullShare (iblk m hO c 6 t) ⊢ P) (Idealize.SL.BI.Entails.refl _)

/-- What window 7 must hold after the body. -/
theorem leaves7 (hO : Ok m) (c : Dev nD) (t : Fin (cfgM m hO).N) :
    owns (c : Thread nD τ) (ms7 m hO t) fullShare (deM m hO c t) ⊢ ((dats m hO 0 c).leavesExact 7 t : sProp 𝕄) :=
  ((leaves_live (dats m hO 0 c) 7 t (liveAt m hO 7 (by decide) t)).trans (congrArg (fun X => owns (c : Thread nD τ) (ms7 m hO t) fullShare X) (after7 m hO c t))).symm.subst
    (motive := fun P => owns (c : Thread nD τ) (ms7 m hO t) fullShare (deM m hO c t) ⊢ P) (Idealize.SL.BI.Entails.refl _)

/-- What the body is called with at a point. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d))
    ∗ (∃ d, owns (c : Thread nD τ) (ms8 m hO t) fullShare ((dats m hO 0 c).before 8 t d)))

/-- What it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t)

/-- The last window's buffer after the body is what the pipeline wants of it. -/
theorem leaves8 (hO : Ok m) (c : Dev nD) (t : Fin (cfgM m hO).N) (d) :
    owns (c : Thread nD τ) (ms8 m hO t) fullShare (dhOut (grid0.coords t) (accAt m hO c t.val t.isLt) ((dats m hO 0 c).before 8 t d))
      ⊢ ((dats m hO 0 c).leavesExact 8 t : sProp 𝕄) := by
  by_cases h2 : t.val = 166
  · have e : dhOut (grid0.coords t) (accAt m hO c t.val t.isLt) ((dats m hO 0 c).before 8 t d) = dhG (accAt m hO c t.val t.isLt) :=
      if_pos ((hcond2 t).mpr h2)
    refine e.symm.subst (motive := fun X => owns (c : Thread nD τ) (ms8 m hO t) fullShare X ⊢ ((dats m hO 0 c).leavesExact 8 t : sProp 𝕄)) ?_
    exact ((leaves_live (dats m hO 0 c) 8 t (lastAt m hO t h2)).trans
      (congrArg (fun X => owns (c : Thread nD τ) (ms8 m hO t) fullShare X) (after8 m hO c t))).symm.subst
      (motive := fun P => owns (c : Thread nD τ) (ms8 m hO t) fullShare (dhG (accAt m hO c t.val t.isLt)) ⊢ P) (Idealize.SL.BI.Entails.refl _)
  · have e : dhOut (grid0.coords t) (accAt m hO c t.val t.isLt) ((dats m hO 0 c).before 8 t d) = (dats m hO 0 c).before 8 t d :=
      if_neg (fun h => h2 ((hcond2 t).mp h))
    refine e.symm.subst (motive := fun X => owns (c : Thread nD τ) (ms8 m hO t) fullShare X ⊢ ((dats m hO 0 c).leavesExact 8 t : sProp 𝕄)) ?_
    rw [Dat.leavesExact_idle (dats m hO 0 c) 8 t (idleAt m hO t h2) (noFlushAt m hO t h2)]
    iintro H; iexists _; iexact H

set_option maxHeartbeats 4800000 in
/-- The body at any point. -/
theorem sound_body (hO : Ok m) (hids : InVocab (idsM m)) (c : Dev nD) (t : Fin (cfgM m hO).N) :
    bodyPre m hO c t ⊢ wp frame (wpE (defs₀ (F := F)) 𝒱₀ c none) Set.univ (bodyAt m hO t) (fun _ => bodyPost m hO c t) := by
  have hN : t.val < 167 := lt_of_lt_of_eq t.isLt (show (cfgM m hO).N = 167 from N_0)
  have htm := t.isLt
  unfold bodyPre bodyPost
  simp only [before0, before1, before2, before3, before4, before5, before6]
  rw [show (dats m hO 0 c).owesAt () t.succ = (dats m hO 0 c).owesAt () t.castSucc from rfl,
    show (dats m hO 0 c).Φ t.succ = PhiS m hO c (t.val + 1) t.isLt from rfl, PhiS_succ, PhiT_eq, PhiS_castSucc]
  by_cases hz : t.val = 0
  · rw [PhiS_zero m hO c _ _ hz, PhiT_eq, PhiA_eq]
    have hacc : accAt m hO c t.val t.isLt = accStep m hO c t acc0 := by
      obtain ⟨n, hn⟩ := t; obtain rfl : n = 0 := hz; rfl
    have h2 : hhM m hO c = hhG (iblk m hO c 2 t) (iblk m hO c 3 t) := by
      obtain ⟨n, hn⟩ := t; obtain rfl : n = 0 := hz; rfl
    have h6 : embM m hO c = embG (iblk m hO c 6 t) := by
      obtain ⟨n, hn⟩ := t; obtain rfl : n = 0 := hz; rfl
    iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (first_spec c (grid0.coords t) tbM (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) fullShare.right (idsM m) hids (iblk m hO c 0 t) (iblk m hO c 1 t) (iblk m hO c 2 t) (iblk m hO c 3 t) (iblk m hO c 4 t) (iblk m hO c 5 t) (iblk m hO c 6 t) ((dats m hO 0 c).before 8 t d8) (hcond1 t |>.mpr hz)) $$ [HT H0 H1 H2 H3 H4 H5 H6 H7 H8 HS]
    · unfold inputs
      isplitl [HT H0 H1 H2 H3 H4 H5 H6]
      · isplitl [HT]; · iexact HT
        isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      isplitl [H8]; · iexact H8
      iexact HS
    rw [← h2, ← h6, coord_eq, ← show accAt m hO c t.val t.isLt = accNext (iblk m hO c 0 t) (iblk m hO c 1 t) (iblk m hO c 4 t) (iblk m hO c 5 t) acc0 from hacc]
    iintro ⟨HI, H7, H8, HS⟩
    unfold inputs
    icases HI with ⟨HT, H0, H1, H2, H3, H4, H5, H6⟩
    isplitl [HS Hg HT]
    · isplitl [HS Hg]
      · isplitl [HS]; · iexact HS
        iexact Hg
      iexact HT
    isplitl [Ho]; · iexact Ho
    isplitl [H0]; · iapply (leaves0 m hO c t); iexact H0
    isplitl [H1]; · iapply (leaves1 m hO c t); iexact H1
    isplitl [H2]; · iapply (leaves2 m hO c t); iexact H2
    isplitl [H3]; · iapply (leaves3 m hO c t); iexact H3
    isplitl [H4]; · iapply (leaves4 m hO c t); iexact H4
    isplitl [H5]; · iapply (leaves5 m hO c t); iexact H5
    isplitl [H6]; · iapply (leaves6 m hO c t); iexact H6
    isplitl [H7]; · iapply (leaves7 m hO c t); iexact H7
    iapply (leaves8 m hO c t d8)
    iexact H8
  · have hacc : accAt m hO c t.val t.isLt = accStep m hO c t (accAt m hO c (t.val - 1) (by omega)) := by
      obtain ⟨n, hn⟩ := t
      cases n with
      | zero => exact absurd rfl hz
      | succ n => rfl
    have hΦ : PhiS m hO c t.val (Nat.le_of_lt t.isLt) = iprop(iprop(state c sc0 sc1 sc2 sc3 sc4 sc5 sc6 sc7 (idsM m) (hhM m hO c) (embM m hO c) (accAt m hO c (t.val - 1) (by omega)) ∗ (∃ r, prngReg c r)) ∗ Pipeline.ΦT pre0 (tbl m) c) := by
      obtain ⟨n, hn⟩ := t
      cases n with
      | zero => exact absurd rfl hz
      | succ n => rfl
    rw [hΦ, PhiT_eq]
    iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (later_spec c (grid0.coords t) tbM (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) fullShare.right (idsM m) hids (iblk m hO c 0 t) (iblk m hO c 1 t) (iblk m hO c 2 t) (iblk m hO c 3 t) (iblk m hO c 4 t) (iblk m hO c 5 t) (iblk m hO c 6 t) (hhM m hO c) (embM m hO c) (accAt m hO c (t.val - 1) (by omega)) ((dats m hO 0 c).before 8 t d8) (fun h => hz ((hcond1 t).mp h))) $$ [HT H0 H1 H2 H3 H4 H5 H6 H7 H8 HS]
    · unfold inputs
      isplitl [HT H0 H1 H2 H3 H4 H5 H6]
      · isplitl [HT]; · iexact HT
        isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      isplitl [H8]; · iexact H8
      iexact HS
    rw [coord_eq, ← show accAt m hO c t.val t.isLt = accNext (iblk m hO c 0 t) (iblk m hO c 1 t) (iblk m hO c 4 t) (iblk m hO c 5 t) (accAt m hO c (t.val - 1) (by omega)) from hacc]
    iintro ⟨HI, H7, H8, HS⟩
    unfold inputs
    icases HI with ⟨HT, H0, H1, H2, H3, H4, H5, H6⟩
    isplitl [HS Hg HT]
    · isplitl [HS Hg]
      · isplitl [HS]; · iexact HS
        iexact Hg
      iexact HT
    isplitl [Ho]; · iexact Ho
    isplitl [H0]; · iapply (leaves0 m hO c t); iexact H0
    isplitl [H1]; · iapply (leaves1 m hO c t); iexact H1
    isplitl [H2]; · iapply (leaves2 m hO c t); iexact H2
    isplitl [H3]; · iapply (leaves3 m hO c t); iexact H3
    isplitl [H4]; · iapply (leaves4 m hO c t); iexact H4
    isplitl [H5]; · iapply (leaves5 m hO c t); iexact H5
    isplitl [H6]; · iapply (leaves6 m hO c t); iexact H6
    isplitl [H7]; · iapply (leaves7 m hO c t); iexact H7
    iapply (leaves8 m hO c t d8)
    iexact H8

/-- The body table's row is the body. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body obligation of the pipeline. -/
theorem body_obligation (hO : Ok m) (hids : InVocab (idsM m)) (c : Dev nD) : BodyObligation (dats (F := F) m hO 0 c) (defs₀ (F := F)) 𝒱₀ () Set.univ := fun t => by
  rw [bigSep_W0, bigSep_W0, defs₀_row m hO]
  exact triple_restated (sound_body m hO hids c t) rfl .rfl fun _ => .rfl

/-- The invariant before the first point is what the launch hands over. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After the last point the scratch buffers are given back. -/
theorem hout (hO : Ok m) (c : Dev nD) : (dats m hO 0 c).Φ (Fin.last (cfgM m hO).N) ⊢ Pipeline.ΦA spec0 c := by
  have hN : (cfgM m hO).N = 167 := N_0
  have h166 : (166 : ℕ) < (cfgM m hO).N := by omega
  have e : (dats m hO 0 c).Φ (Fin.last (cfgM m hO).N) = PhiS m hO c (166 + 1) h166 := by
    show PhiS m hO c (cfgM m hO).N _ = _
    congr 1
  rw [e, PhiS_succ, PhiA_eq]
  unfold state junk
  iintro ⟨⟨⟨H0, H1, H2, H3, H4, H5, H6, H7⟩, Hg⟩, -⟩
  isplitr [Hg]
  · isplitl [H0]; · iexists _; iexact H0
    isplitl [H1]; · iexists _; iexact H1
    isplitl [H2]; · iexact H2
    isplitl [H3]; · iexact H3
    isplitl [H4]; · iexact H4
    isplitl [H5]; · iexists _; iexact H5
    isplitl [H6]; · iexists _; iexact H6
    iexists _; iexact H7
  iexact Hg

/-! ## The run -/

set_option backward.isDefEq.respectTransparency.types false in
/-- The whole program runs to the arrays the pipeline computes, with every semaphore at zero. -/
theorem run_main_quiescent (hO : Ok m) (hids : InVocab (idsM m)) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ 𝒱₀ m ρ main
    (hbody := fun c => (body_obligation m hO hids c).loose) (hshare := fun c => (dats m hO 0 c).share_full fun _ => rfl)
    (howed := fun _ _ => rfl) (V := V m) (hmain := hmain m 𝒱₀) (hA := A_eq m hO) (hpf := V_pre m)
    (hin := hin m hO) (hout := hout m hO)

/-- An argument that no window stages and no host operation writes is unchanged. -/
theorem rest_keep (hO : Ok m) (c : Dev nD) (r) (h : (Pipeline.FramePost (Pipeline.pin pcfgs fun _ => adm m hO) (dats m hO) 0 (V m)) r) (b : Ref sig .tc)
    (hb : b ∈ Pipeline.restRefs sig spec0) (h' : b ∉ [main_v0, main_v1, main_v2, main_v3, main_v4, main_v5, main_v6]) :
    r.2.mem ((c.tc : Thread nD τ).loc b) = m ((c.tc : Thread nD τ).loc b) :=
  ((h c).2 b hb).trans (V_keep m c b h')

/-- The arguments end unchanged. -/
theorem args_keep (hO : Ok m) (r) (h : (Pipeline.FramePost (Pipeline.pin pcfgs fun _ => adm m hO) (dats m hO) 0 (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨rest_keep m hO c r h main_arg0 (by decide) (by decide),
    rest_keep m hO c r h main_arg1 (by decide) (by decide),
    rest_keep m hO c r h main_arg2 (by decide) (by decide),
    ((h c).1 3).trans (((dats m hO 0 c).arrAt_in 3 rfl _).trans ((A_eq m hO c 3).trans (V_keep m c main_arg3 (by decide)))),
    rest_keep m hO c r h main_arg4 (by decide) (by decide),
    rest_keep m hO c r h main_arg5 (by decide) (by decide),
    rest_keep m hO c r h main_arg6 (by decide) (by decide),
    rest_keep m hO c r h main_arg7 (by decide) (by decide)⟩

/-- The program runs, its arguments end unchanged, and every semaphore is at zero. -/
theorem frame_run (hO : Ok m) (hids : InVocab (idsM m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => args_keep m hO _ h.1 c, h.2⟩) (run_main_quiescent m ρ hO hids)

end Cert.Proof.KB
-- ==== Proof.KB.Entry.lean ====
/- What the arrays hold when the pipelined call starts, and the frame claim. -/
module

public import proofs.«01_k».proof.Proof.KB.Frame
public import proofs.«01_k».proof.Proof.Vocab
public import Idealize.ShloMosaic.Lib.StableHlo.RunRead

@[expose] public section

noncomputable section

namespace Cert.Proof.KB

open Cert.Kernel Cert.Kernel.Gen

open Idealize.ShloMosaic Idealize.ShloMosaic.TcCoe Idealize.ShloMosaic.Tactic Idealize.SL.Sem

variable {F : FTy → Type} [FloatOps F]

variable (m : (ℓ : Loc nD τ sig) → Buf (Elt F) ℓ) (ρ : Dev nD → PrngReg)

/-- An argument array at launch. -/
abbrev arg (c : Dev nD) (b : Ref sig .tc) : Buf (Elt F) ((c : Thread nD τ).loc b) := m ((c : Thread nD τ).loc b)

/-- The logit gradients. -/
theorem V_v0 (c : Dev nD) : V m c main_v0 = (shapeCast S768x128256 (arg m c main_arg0 : S2x384x128256.Idx → F .fp8e5m2) shapeCasts_S2x384x128256_S768x128256 : S768x128256.Idx → F .fp8e5m2) := by
  after_reads_simp
  rfl
/-- Their scales. -/
theorem V_v1 (c : Dev nD) : V m c main_v1 = (transpose S1002x2x384 [2, 0, 1] (arg m c main_arg1 : S2x384x1002.Idx → F .f32) transposes_S2x384x1002_S1002x2x384_2_0_1 : S1002x2x384.Idx → F .f32) := by
  after_reads_simp
/-- The hidden states. -/
theorem V_v2 (c : Dev nD) : V m c main_v2 = (shapeCast S768x1152 (arg m c main_arg2 : S2x384x1152.Idx → F .fp8e4m3) shapeCasts_S2x384x1152_S768x1152 : S768x1152.Idx → F .fp8e4m3) := by
  after_reads_simp
  rfl
/-- The packed weights. -/
theorem V_v3 (c : Dev nD) : V m c main_v3 = (transpose S576x128256 [1, 0] (arg m c main_arg4 : S128256x576.Idx → BitVec 8) transposes_S128256x576_S576x128256_1_0 : S576x128256.Idx → BitVec 8) := by
  after_reads_simp
/-- Their scales. -/
theorem V_v4 (c : Dev nD) : V m c main_v4 = (transpose S36x128256 [1, 0] (arg m c main_arg5 : S128256x36.Idx → F .f32) transposes_S128256x36_S36x128256_1_0 : S36x128256.Idx → F .f32) := by
  after_reads_simp
/-- The embedding gradients. -/
theorem V_v5 (c : Dev nD) : V m c main_v5 = (shapeCast S768x1152 (arg m c main_arg7 : S2x384x1152.Idx → F .bf16) shapeCasts_S2x384x1152_S768x1152 : S768x1152.Idx → F .bf16) := by
  after_reads_simp
  rfl
/-- The token ids. -/
theorem V_v6 (c : Dev nD) : V m c main_v6 = (shapeCast S768 (arg m c main_arg6 : S2x384.Idx → BitVec 32) shapeCasts_S2x384_S768 : S768.Idx → BitVec 32) := by
  after_reads_simp
  rfl

/-- No index map reads the table, so its side condition holds. -/
theorem ok : Ok m := trivial

/-- The token ids as the table holds them. -/
theorem ids_table : idsM m = (shapeCast S768 (arg m 0 main_arg6 : S2x384.Idx → BitVec 32) shapeCasts_S2x384_S768 : S768.Idx → BitVec 32) := V_v6 m 0

/-- Ids that are in the vocabulary as given are so in the table. -/
theorem inVocab (h : ∀ i : S2x384.Idx, ((arg m 0 main_arg6 : S2x384.Idx → BitVec 32) i).toNat < 128256) : InVocab (idsM m) := by
  intro t
  rw [ids_table]
  exact h _

end Cert.Proof.KB
-- ==== Proof.Frames.lean ====
/- The frame claims of the three programs. -/
module

public import proofs.«01_k».proof.Defs
public import proofs.«01_k».proof.Proof.KI.Entry
public import proofs.«01_k».proof.Proof.KB.Entry
public import proofs.«01_k».proof.Proof.Gen.ReferenceIdeal
public import proofs.«01_k».proof.Proof.Gen.ReferenceIdeal.Frame

@[expose] public section

namespace Cert.Proof

open Idealize.ShloMosaic Idealize.SL.Sem

attribute [local instance] Cert.Kernel.Gen.facts Cert.KernelIdeal.Gen.facts Cert.ReferenceIdeal.Gen.facts Cert.Pre_in_vocabulary.Gen.facts

/-- Under the precondition the table's ids are in the vocabulary (the program over words). -/
theorem inVocab_Kernel (m : (ℓ : Loc Cert.Kernel.nD Cert.Kernel.τ Cert.Kernel.sig) → Buf (Elt Bits) ℓ) (h : Pre_Kernel m) : KB.InVocab (KB.idsM m) :=
  KB.inVocab m fun i => vocab _ _ _ _ _ _ _ _ (h 0) i

/-- Under the precondition the table's ids are in the vocabulary (the program over the reals). -/
theorem inVocab_KernelIdeal (m : (ℓ : Loc Cert.KernelIdeal.nD Cert.KernelIdeal.τ Cert.KernelIdeal.sig) → Buf (Elt Ideal) ℓ) (h : Pre_KernelIdeal m) : KI.InVocab (KI.idsM m) :=
  KI.inVocab m fun i => vocab _ _ _ _ _ _ _ _ (h 0) i

/-- The kernel over words runs, leaves its arguments and every semaphore as they were. -/
theorem frame_Kernel : quiescent_Kernel := fun m ρ h => KB.frame_run m ρ (KB.ok m) (inVocab_Kernel m h)

/-- The kernel over the reals runs, leaves its arguments and every semaphore as they were. -/
theorem frame_KernelIdeal : quiescent_KernelIdeal := fun m ρ h => KI.frame_run m ρ (KI.ok m) (inVocab_KernelIdeal m h)

/-- The reference runs, leaves its arguments and every semaphore as they were. -/
theorem frame_ReferenceIdeal : quiescent_ReferenceIdeal := fun m ρ _ => Cert.ReferenceIdeal.Gen.frame m ρ

end Cert.Proof
-- ==== Proof.Val.Pay.lean ====
/- The kernel's block computations over the extended reals, element by element. -/
module

public import proofs.«01_k».proof.Proof.KI.Body
public import Idealize.ShloMosaic.Lib.BitcastFour
public import Idealize.ShloMosaic.Lib.BitcastPair
public import Idealize.ShloMosaic.Lib.MatmulPlain
public import Idealize.ShloMosaic.Lib.ValueLayout
public import Idealize.ShloMosaic.Lib.ValueIdx

@[expose] public section

noncomputable section

namespace Cert.Proof.Val

open Cert.KernelIdeal Cert.KernelIdeal.Gen Cert.Proof.KI

open Idealize.ShloMosaic Idealize.ShloMosaic.TcCoe Idealize.ShloMosaic.Pipeline Idealize.ShloMosaic.ValueIdx
open scoped BigOperators

/-! ## Signed nibbles -/

/-- Nibble `p` of a byte read as a signed four-bit number. -/
def code (b : BitVec 8) (p : ℕ) : ℤ :=
  if b.toNat / 16 ^ p % 16 < 8 then (b.toNat / 16 ^ p % 16 : ℕ) else (b.toNat / 16 ^ p % 16 : ℕ) - 16

/-- The pattern of 128 plus a four-bit number. -/
theorem ofBits_small (n : ℕ) (h : n < 16) : Ideal.ofBits .bf16 (BitVec.ofNat 16 (0x4300 + n)) = (((128 + n : ℕ) : ℝ) : EReal) := by
  interval_cases n <;> simp [Ideal.ofBits, Ideal.ieee, -EReal.coe_mul] <;> norm_num

/-- A number with the top bit of its four flipped, offset by eight, is the signed number. -/
theorem nibble_value (n : ℕ) (h : n < 16) :
    Ideal.ofBits .bf16 (BitVec.ofNat 16 n ^^^ 0x4308#16) - Ideal.ofBits .bf16 0x4308#16
      = (((if n < 8 then (n : ℤ) else (n : ℤ) - 16 : ℤ) : ℝ) : EReal) := by
  have e8 : Ideal.ofBits .bf16 0x4308#16 = (((128 + 8 : ℕ) : ℝ) : EReal) := ofBits_small 8 (by decide)
  have e : BitVec.ofNat 16 n ^^^ 0x4308#16 = BitVec.ofNat 16 (0x4300 + (if n < 8 then n + 8 else n - 8)) := by
    interval_cases n <;> rfl
  rw [e, e8, ofBits_small _ (by split <;> omega), ← EReal.coe_sub]
  interval_cases n <;> norm_num

/-! ## The blocks -/

/-- The dequantised hidden states at a token and a feature. -/
theorem hhG_apply (x4 : Vec Ideal S768x1152 .fp8e4m3) (x5 : Vec Ideal S2x384 .f32) (t : Fin 768) (d : Fin 1152) :
    (hhG x4 x5 (ix2 t d) : EReal) = (x4 (ix2 t d) : EReal) * (x5 (ix2 (⟨t.val / 384, by omega⟩ : Fin 2) (⟨t.val % 384, by omega⟩ : Fin 384)) : EReal) := by
  unfold hhG
  rw [blocked_eq (M := 6) (N := 9) (p := 128) (q := 128) (hhAt x4 x5) (ix2 t d) ⟨t.val / 128, by omega⟩ ⟨d.val / 128, by omega⟩
    (ix2 (⟨t.val % 128, by omega⟩ : Fin 128) (⟨d.val % 128, by omega⟩ : Fin 128)) (by show t.val = 128 * (t.val / 128) + t.val % 128; omega)
    (by show d.val = 128 * (d.val / 128) + d.val % 128; omega)]
  unfold hhAt hhPay hhScale
  rw [recast, recast, recast, mulf_apply, extf_apply, truncf_apply, transpose_ix2_apply, broadcastTo_1b_ab_apply]
  refine congr (congrArg (fun a b : EReal => a * b) (congrArg x4 ?_)) (congrArg x5 ?_)
  · refine Shape.idx_ext₂ ?_ ?_
    · show 128 * (t.val / 128) + 1 * (t.val % 128) = t.val
      omega
    · show 128 * (d.val / 128) + 1 * (d.val % 128) = d.val
      omega
  · refine Shape.idx_ext₂ ?_ ?_
    · show t.val / 128 / 3 + 1 * 0 = t.val / 384
      omega
    · show 128 * (t.val / 128 % 3) + 1 * (t.val % 128) = t.val % 384
      omega

/-- The dequantised logit gradients at a word of the block and a token. -/
theorem dltG_apply (x2 : Vec Ideal S768x768 .fp8e5m2) (x3 : Vec Ideal S6x2x384 .f32) (v t : Fin 768) :
    (dltG x2 x3 (ix2 v t) : EReal)
      = (x2 (ix2 t v) : EReal) * (x3 (ix3 (⟨v.val / 128, by omega⟩ : Fin 6) (⟨t.val / 384, by omega⟩ : Fin 2) (⟨t.val % 384, by omega⟩ : Fin 384)) : EReal) := by
  unfold dltG
  rw [blocked_eq (M := 6) (N := 6) (p := 128) (q := 128) (dltAt x2 x3) (ix2 v t) ⟨v.val / 128, by omega⟩ ⟨t.val / 128, by omega⟩
    (ix2 (⟨v.val % 128, by omega⟩ : Fin 128) (⟨t.val % 128, by omega⟩ : Fin 128)) (by show v.val = 128 * (v.val / 128) + v.val % 128; omega)
    (by show t.val = 128 * (t.val / 128) + t.val % 128; omega)]
  unfold dltAt dltPay
  rw [recast, recast, mulf_apply, transpose_ix2_apply, extf_apply, broadcastTo_1b_ab_apply, truncf_apply,
    shapeCast_1ab_ab_apply]
  refine congr (congrArg (fun a b : EReal => a * b) (congrArg x2 ?_)) (congrArg x3 ?_)
  · refine Shape.idx_ext₂ ?_ ?_
    · show 128 * (t.val / 128) + 1 * (t.val % 128) = t.val
      omega
    · show 128 * (v.val / 128) + 1 * (v.val % 128) = v.val
      omega
  · funext a
    refine Fin.ext ?_
    fin_cases a
    · show v.val / 128 + 1 * 0 = v.val / 128
      omega
    · show t.val / 128 / 3 + 1 * 0 = t.val / 384
      omega
    · show 128 * (t.val / 128 % 3) + 1 * (t.val % 128) = t.val % 384
      omega

/-- The scales are not changed. -/
theorem esrPay_apply (x : Vec Ideal S36x768 .f32) (y : S36x768.Idx) : (esrPay x y : EReal) = x y := by
  unfold esrPay
  rw [recast, recast, extf_apply, truncf_apply]

/-- The wide embedding gradients are the given ones. -/
theorem embG_apply (x : Vec Ideal S768x1152 .bf16) (y : S768x1152.Idx) : (embG x y : EReal) = x y := by
  unfold embG
  rw [recast, recast, extf_apply]

/-- The accumulator starts at zero. -/
theorem acc0_apply (y : S1152x768.Idx) : (acc0 (F := Ideal) y : EReal) = 0 := by
  unfold acc0
  rw [recast]
  exact Ideal.ofBits_zero_f32

/-- The feature that row `a` of the kernel's weight buffer holds. -/
def feat (a : ℕ) : ℕ := 64 * (a / 64) + 4 * (a % 16) + a / 16 % 4

/-- The row that holds a feature. -/
def rowOf (d : ℕ) : ℕ := 64 * (d / 64) + 16 * (d % 4) + d % 64 / 4

/-- The second result's blocks put the features back in order. -/
theorem dhG_apply (x : Vec Ideal S1152x768 .f32) (t : Fin 768) (d : Fin 1152) :
    (dhG x (ix2 t d) : EReal) = x (ix2 (⟨rowOf d.val, by unfold rowOf; omega⟩ : Fin 1152) t) := by
  unfold dhG
  rw [blocked_eq (M := 6) (N := 9) (p := 128) (q := 128) (dhAt x) (ix2 t d) ⟨t.val / 128, by omega⟩ ⟨d.val / 128, by omega⟩
    (ix2 (⟨t.val % 128, by omega⟩ : Fin 128) (⟨d.val % 128, by omega⟩ : Fin 128)) (by show t.val = 128 * (t.val / 128) + t.val % 128; omega)
    (by show d.val = 128 * (d.val / 128) + d.val % 128; omega)]
  unfold dhAt dhPay
  rw [truncf_apply, transpose_ix2_apply]
  rw [shapeCast_apply _ shapeCasts_S2x16x4x128_S128x128 _ (ix4 (⟨d.val % 128 / 64, by omega⟩ : Fin 2) (⟨d.val % 64 / 4, by omega⟩ : Fin 16) (⟨d.val % 4, by omega⟩ : Fin 4) (⟨t.val % 128, by omega⟩ : Fin 128))
    (by rw [Shape.rowMajor_val_four, Shape.rowMajor_val_two]
        show ((d.val % 128 / 64 * 16 + d.val % 64 / 4) * 4 + d.val % 4) * 128 + t.val % 128 = d.val % 128 * 128 + t.val % 128
        omega)]
  rw [transpose_apply _ _ transposes_S2x4x16x128_p0_2_1_3_S2x16x4x128 _ (ix4 (⟨d.val % 128 / 64, by omega⟩ : Fin 2) (⟨d.val % 4, by omega⟩ : Fin 4) (⟨d.val % 64 / 4, by omega⟩ : Fin 16) (⟨t.val % 128, by omega⟩ : Fin 128))
    (by intro b; fin_cases b <;> rfl)]
  rw [shapeCast_apply _ shapeCasts_S128x128_S2x4x16x128 _ (ix2 (⟨64 * (d.val % 128 / 64) + 16 * (d.val % 4) + d.val % 64 / 4, by omega⟩ : Fin 128) (⟨t.val % 128, by omega⟩ : Fin 128))
    (by rw [Shape.rowMajor_val_four, Shape.rowMajor_val_two]
        show (64 * (d.val % 128 / 64) + 16 * (d.val % 4) + d.val % 64 / 4) * 128 + t.val % 128 = ((d.val % 128 / 64 * 4 + d.val % 4) * 16 + d.val % 64 / 4) * 128 + t.val % 128
        omega)]
  refine congrArg x (Shape.idx_ext₂ ?_ ?_)
  · show 128 * (d.val / 128) + 1 * (64 * (d.val % 128 / 64) + 16 * (d.val % 4) + d.val % 64 / 4) = rowOf d.val
    unfold rowOf
    omega
  · show 128 * (t.val / 128) + 1 * (t.val % 128) = t.val
    omega

/-! ## The weights -/

/-- Nibble `k` of a halfword, as the kernel isolates it: a nibble of the byte that holds it. -/
theorem half_nibble (W : BitVec 32) (b : BitVec 8) (k u : ℕ) (hk : k < 4) (hu : u < 2)
    (hb : ∀ q < 32, q / 8 = 2 * u + k / 2 → W.getLsbD q = b.getLsbD (q % 8)) :
    (((W >>> (4 * k)) &&& 983055#32) ^^^ 1124614920#32).extractLsb' (16 * u) 16
      = BitVec.ofNat 16 (b.toNat / 16 ^ (k % 2) % 16) ^^^ 0x4308#16 := by
  apply BitVec.eq_of_getLsbD_eq
  intro j hj
  have hm : (983055#32).getLsbD (16 * u + j) = decide (j < 4) := by interval_cases u <;> interval_cases j <;> rfl
  have hx : (1124614920#32).getLsbD (16 * u + j) = (0x4308#16).getLsbD j := by interval_cases u <;> interval_cases j <;> rfl
  have hn : (b.toNat / 16 ^ (k % 2) % 16).testBit j = (decide (j < 4) && b.getLsbD (4 * (k % 2) + j)) := by
    rw [show 16 ^ (k % 2) = 2 ^ (4 * (k % 2)) by rw [pow_mul]; norm_num, show (16 : ℕ) = 2 ^ 4 from rfl, Nat.testBit_mod_two_pow, Nat.testBit_div_two_pow]
    rw [Nat.add_comm]; rfl
  rw [BitVec.getLsbD_extractLsb', BitVec.getLsbD_xor, BitVec.getLsbD_and, BitVec.getLsbD_ushiftRight, BitVec.getLsbD_xor, hm, hx, BitVec.getLsbD_ofNat 16 (b.toNat / 16 ^ (k % 2) % 16) j, hn]
  by_cases h4 : j < 4
  · rw [hb (4 * k + (16 * u + j)) (by omega) (by omega), show (4 * k + (16 * u + j)) % 8 = 4 * (k % 2) + j by omega]
    simp [hj, h4]
  · simp [hj, h4]

/-- The words shifted, at an index. -/
theorem etsShift_apply (w : IVec S8x128 32) (k : ℕ) (hk : k < 4) (y : S8x128.Idx) : etsShift w k y = (w y) >>> (4 * k) := by
  interval_cases k <;> rfl

/-- Sixteen rows of weights at an index. -/
theorem etsPay_apply (sc : FVec Ideal S16x128 .bf16) (x : Vec Ideal S32x128 .i8) (k : ℕ) (hk : k < 4) (i : Fin 16) (l : Fin 128) :
    (etsPay sc (etsWord x) k (ix2 i l) : EReal)
      = ((code (x (ix2 (⟨2 * i.val + k / 2, by omega⟩ : Fin 32) l)) (k % 2) : ℝ) : EReal) * (sc (ix2 i l) : EReal) := by
  unfold etsPay
  rw [recast, mulf_apply, subf_apply]
  refine congrArg (fun a : EReal => a * (sc (ix2 i l) : EReal)) ?_
  have hw : (bitcast S16x128 16 (xori (andi (etsShift (etsWord x) k) (broadcast S8x128 983055#32)) (broadcast S8x128 1124614920#32)) bitcasts_S8x128_w32_S16x128_w16 : IVec S16x128 16) (ix2 i l)
      = BitVec.ofNat 16 ((x (ix2 (⟨2 * i.val + k / 2, by omega⟩ : Fin 32) l)).toNat / 16 ^ (k % 2) % 16) ^^^ 0x4308#16 := by
    rw [bitcast_32_16]
    have hr : S16x128.row (ix2 i l) = i.val := rfl
    have hs : ∀ h, Shape.Bitcasts.srcIdx bitcasts_S8x128_w32_S16x128_w16 (ix2 i l) (S16x128.row (ix2 i l) / 2) h = ix2 (⟨i.val / 2, by omega⟩ : Fin 8) l := by
      intro h
      refine Shape.idx_ext₂ ?_ ?_
      · exact Shape.Bitcasts.srcIdx_row _ _ _ _ 0 rfl
      · exact Shape.Bitcasts.srcIdx_other _ _ _ _ 1 (by decide)
    rw [hs, hr]
    show ((etsShift (etsWord x) k (ix2 (⟨i.val / 2, by omega⟩ : Fin 8) l) &&& 983055#32) ^^^ 1124614920#32).extractLsb' (16 * (i.val % 2)) 16 = _
    rw [etsShift_apply _ _ hk]
    refine half_nibble _ _ k _ hk (by omega) fun q hq hc => ?_
    unfold etsWord
    rw [recast]
    exact bitcast_8_32_getLsbD_ix2 x bitcasts_S32x128_w8_S8x128_w32 _ l q hq _ (by show 2 * i.val + k / 2 = 4 * (i.val / 2) + q / 8; omega)
  refine Eq.trans (congrArg (fun b : BitVec 16 => (Ideal.ofBits .bf16 b - Ideal.ofBits .bf16 0x4308#16 : EReal)) hw) ?_
  exact nibble_value _ (Nat.mod_lt _ (by decide))

/-- The scales of sixteen rows at an index. -/
theorem etsScale_apply (a b : Vec Ideal S1x128 .f32) (i : Fin 16) (l : Fin 128) :
    (etsScale a b (ix2 i l) : EReal) = if i.val < 8 then (a (ix2 (0 : Fin 1) l) : EReal) else b (ix2 (0 : Fin 1) l) := by
  unfold etsScale
  rw [truncf_apply, recast, recast]
  have hl : lower (ix2 i l) = if i.val < 8 then 1#1 else 0#1 := by
    unfold lower
    show IntOp.cmpi .slt (iota .tc S16x128 32 [0] iota_S16x128_d0_w32 (ix2 i l)) 8#32 = _
    rw [iota_single_apply]
    show IntOp.cmpi .slt (BitVec.ofNat 32 i.val) 8#32 = _
    fin_cases i <;> rfl
  rw [select_apply, hl, broadcastTo_1b_ab_apply, broadcastTo_1b_ab_apply]
  split <;> rfl

/-- The dequantised weights at a row of the buffer and a word of the block. -/
theorem etsG_apply (r : Vec Ideal S36x768 .f32) (x6 : Vec Ideal S576x768 .i8) (a : Fin 1152) (v : Fin 768) :
    (etsG r x6 (ix2 a v) : EReal)
      = ((code (x6 (ix2 (⟨feat a.val / 2, by unfold feat; omega⟩ : Fin 576) v)) (feat a.val % 2) : ℝ) : EReal)
          * (r (ix2 (⟨feat a.val / 32, by unfold feat; omega⟩ : Fin 36) v) : EReal) := by
  unfold etsG
  rw [blocked_eq (M := 72) (N := 6) (p := 16) (q := 128) (etsAt r x6) (ix2 a v) ⟨a.val / 16, by omega⟩ ⟨v.val / 128, by omega⟩
    (ix2 (⟨a.val % 16, by omega⟩ : Fin 16) (⟨v.val % 128, by omega⟩ : Fin 128)) (by show a.val = 16 * (a.val / 16) + a.val % 16; omega)
    (by show v.val = 128 * (v.val / 128) + v.val % 128; omega)]
  unfold etsAt etsQ
  rw [etsPay_apply _ _ _ (Nat.mod_lt _ (by decide)), etsScale_apply]
  refine congr (congrArg (fun a b : EReal => a * b) ?_) ?_
  · refine congrArg (fun z : ℤ => ((z : ℝ) : EReal)) (congr (congrArg code (congrArg x6 (Shape.idx_ext₂ ?_ ?_))) ?_)
    · show 32 * (a.val / 16 / 4) + 1 * (2 * (a.val % 16) + a.val / 16 % 4 / 2) = feat a.val / 2
      unfold feat
      omega
    · show 128 * (v.val / 128) + 1 * (v.val % 128) = v.val
      omega
    · show a.val / 16 % 4 % 2 = feat a.val % 2
      unfold feat
      omega
  · show (if a.val % 16 < 8 then _ else _) = _
    split
    · refine congrArg r (Shape.idx_ext₂ ?_ ?_)
      · show 2 * (a.val / 16 / 4) + 1 * 0 = feat a.val / 32
        unfold feat
        omega
      · show 128 * (v.val / 128) + 1 * (v.val % 128) = v.val
        omega
    · refine congrArg r (Shape.idx_ext₂ ?_ ?_)
      · show 2 * (a.val / 16 / 4) + 1 + 1 * 0 = feat a.val / 32
        unfold feat
        omega
      · show 128 * (v.val / 128) + 1 * (v.val % 128) = v.val
        omega

/-! ## The products -/

/-- One block of the head's weight gradient: a sum over the tokens. -/
theorem headDE_apply (x2 : Vec Ideal S768x768 .fp8e5m2) (x3 : Vec Ideal S6x2x384 .f32) (H : FVec Ideal S768x1152 .bf16) (v : Fin 768) (d : Fin 1152) :
    (headDE x2 x3 H (ix2 v d) : EReal) = ∑ t : Fin 768, (dltG x2 x3 (ix2 v t) : EReal) * (H (ix2 t d) : EReal) := by
  unfold headDE
  refine (Ideal.matmul_plain_apply (M := 768) (K := 768) (N := 1152) none (dltG x2 x3) H _ v d).trans ?_
  rw [constant_apply, Ideal.ofBits_zero_f32, zero_add]

/-- The accumulator after one more block: a sum over the words of the block added. -/
theorem accNext_apply (x2 : Vec Ideal S768x768 .fp8e5m2) (x3 : Vec Ideal S6x2x384 .f32) (x6 : Vec Ideal S576x768 .i8) (x7 : Vec Ideal S36x768 .f32)
    (A : FVec Ideal S1152x768 .f32) (a : Fin 1152) (t : Fin 768) :
    (accNext x2 x3 x6 x7 A (ix2 a t) : EReal)
      = (A (ix2 a t) : EReal) + ∑ v : Fin 768, (etsG (esrPay x7) x6 (ix2 a v) : EReal) * (dltG x2 x3 (ix2 v t) : EReal) := by
  unfold accNext
  rw [recast, addf_apply]
  refine congrArg (fun z : EReal => (A (ix2 a t) : EReal) + z) ?_
  refine (Ideal.matmul_plain_apply (M := 1152) (K := 768) (N := 768) none (etsG (esrPay x7) x6) (dltG x2 x3) _ a t).trans ?_
  rw [constant_apply, Ideal.ofBits_zero_f32, zero_add]

/-- The rows of a block's tokens added: at a row, the sum over its tokens. -/
theorem addAll_apply (ids : S768.Idx → BitVec 32) (D : FVec Ideal S768x1152 .f32) (b : ℕ) (v : Fin 768) (d : Fin 1152) : ∀ (n : ℕ) (X : FVec Ideal S768x1152 .f32),
    (addAll ids D b n X (ix2 v d) : EReal)
      = (X (ix2 v d) : EReal) + ∑ k ∈ Finset.range n, if blk ids k = b ∧ idN ids k % 768 = v.val then (D (ix2 (⟨k % 768, Nat.mod_lt _ (by decide)⟩ : Fin 768) d) : EReal) else 0
  | 0, X => by rw [Finset.range_zero, Finset.sum_empty, add_zero]; rfl
  | n + 1, X => by
    rw [Finset.sum_range_succ]
    unfold addAll
    by_cases hb : blk ids n = b
    · rw [if_pos hb, addAll_apply ids D b v d n]
      unfold addRow
      by_cases hv : idN ids n % 768 = v.val
      · rw [if_pos (show ((ix2 v d : S768x1152.Idx) 0).val = idN ids n % 768 from hv.symm), if_pos ⟨hb, hv⟩]
        refine Eq.trans (add_assoc _ _ _) ?_
        rw [add_comm (∑ k ∈ Finset.range n, _)]
      · rw [if_neg (show ¬((ix2 v d : S768x1152.Idx) 0).val = idN ids n % 768 from fun h => hv h.symm), if_neg (fun h => hv h.2), add_zero]
    · rw [if_neg hb, addAll_apply ids D b v d n, if_neg (fun h => hb h.1), add_zero]

end Cert.Proof.Val
-- ==== Proof.Val.Spec.lean ====
/- The two results as functions of the arguments over the extended reals. -/
module

public import proofs.«01_k».proof.Proof.Val.Pay

@[expose] public section

noncomputable section

namespace Cert.Proof.Val

open Idealize.ShloMosaic Idealize.ShloMosaic.ValueIdx
open scoped BigOperators

/-- The tokens of a batch in one row: token `r` is token `r % 384` of sequence `r / 384`. -/
theorem rows3_apply {α : Type} {D : ℕ} (x : (⟨3, ![2, 384, D]⟩ : Shape).Idx → α)
    (h : (⟨3, ![2, 384, D]⟩ : Shape).ShapeCasts (⟨2, ![768, D]⟩ : Shape)) (r : Fin 768) (d : Fin D) :
    shapeCast (⟨2, ![768, D]⟩ : Shape) x h (ix2 r d) = x (ix3 (⟨r.val / 384, by omega⟩ : Fin 2) (⟨r.val % 384, by omega⟩ : Fin 384) d) := by
  refine shapeCast_apply _ _ _ _ ?_
  rw [Shape.rowMajor_val_three, Shape.rowMajor_val_two]
  show (r.val / 384 * 384 + r.val % 384) * D + d.val = r.val * D + d.val
  rw [Nat.div_add_mod']

/-- The same for one entry per token. -/
theorem rows2_apply {α : Type} (x : (⟨2, ![2, 384]⟩ : Shape).Idx → α)
    (h : (⟨2, ![2, 384]⟩ : Shape).ShapeCasts (⟨1, ![768]⟩ : Shape)) (r : Fin 768) :
    shapeCast (⟨1, ![768]⟩ : Shape) x h (ix1 r) = x (ix2 (⟨r.val / 384, by omega⟩ : Fin 2) (⟨r.val % 384, by omega⟩ : Fin 384)) := by
  refine shapeCast_apply _ _ _ _ ?_
  rw [Shape.rowMajor_val_two, Shape.rowMajor_val_one]
  show r.val / 384 * 384 + r.val % 384 = r.val
  omega

/-- The logit gradient of a token and a word: the stored value times its group's scale. -/
def dl (a0 : (⟨3, ![2, 384, 128256]⟩ : Shape).Idx → EReal) (a1 : (⟨3, ![2, 384, 1002]⟩ : Shape).Idx → EReal) (t : Fin 768) (v : Fin 128256) : EReal :=
  a0 (ix3 (⟨t.val / 384, by omega⟩ : Fin 2) (⟨t.val % 384, by omega⟩ : Fin 384) v)
    * a1 (ix3 (⟨t.val / 384, by omega⟩ : Fin 2) (⟨t.val % 384, by omega⟩ : Fin 384) (⟨v.val / 128, by omega⟩ : Fin 1002))

/-- The hidden state of a token at a feature: the stored value times the token's scale. -/
def hh (a2 : (⟨3, ![2, 384, 1152]⟩ : Shape).Idx → EReal) (a3 : (⟨2, ![2, 384]⟩ : Shape).Idx → EReal) (t : Fin 768) (d : Fin 1152) : EReal :=
  a2 (ix3 (⟨t.val / 384, by omega⟩ : Fin 2) (⟨t.val % 384, by omega⟩ : Fin 384) d)
    * a3 (ix2 (⟨t.val / 384, by omega⟩ : Fin 2) (⟨t.val % 384, by omega⟩ : Fin 384))

/-- The weight of a word at a feature: the signed nibble times its group's scale. -/
def wt (a4 : (⟨2, ![128256, 576]⟩ : Shape).Idx → BitVec 8) (a5 : (⟨2, ![128256, 36]⟩ : Shape).Idx → EReal) (v : Fin 128256) (d : Fin 1152) : EReal :=
  ((code (a4 (ix2 v (⟨d.val / 2, by omega⟩ : Fin 576))) (d.val % 2) : ℝ) : EReal) * a5 (ix2 v (⟨d.val / 32, by omega⟩ : Fin 36))

/-- The embedding gradient at a word and a feature: the head's product summed over the tokens, plus the rows of the
    tokens that are that word. -/
def dE (a0 : (⟨3, ![2, 384, 128256]⟩ : Shape).Idx → EReal) (a1 : (⟨3, ![2, 384, 1002]⟩ : Shape).Idx → EReal)
    (a2 : (⟨3, ![2, 384, 1152]⟩ : Shape).Idx → EReal) (a3 : (⟨2, ![2, 384]⟩ : Shape).Idx → EReal)
    (a6 : (⟨2, ![2, 384]⟩ : Shape).Idx → BitVec 32) (a7 : (⟨3, ![2, 384, 1152]⟩ : Shape).Idx → EReal) : (⟨2, ![128256, 1152]⟩ : Shape).Idx → EReal := fun y =>
  (∑ t : Fin 768, dl a0 a1 t (y 0) * hh a2 a3 t (y 1))
    + ∑ t : Fin 768, if (a6 (ix2 (⟨t.val / 384, by omega⟩ : Fin 2) (⟨t.val % 384, by omega⟩ : Fin 384))).toNat = (y 0).val
        then a7 (ix3 (⟨t.val / 384, by omega⟩ : Fin 2) (⟨t.val % 384, by omega⟩ : Fin 384) (y 1)) else 0

/-- The hidden-state gradient at a token and a feature: a sum over the whole vocabulary. -/
def dH (a0 : (⟨3, ![2, 384, 128256]⟩ : Shape).Idx → EReal) (a1 : (⟨3, ![2, 384, 1002]⟩ : Shape).Idx → EReal)
    (a4 : (⟨2, ![128256, 576]⟩ : Shape).Idx → BitVec 8) (a5 : (⟨2, ![128256, 36]⟩ : Shape).Idx → EReal) : (⟨2, ![768, 1152]⟩ : Shape).Idx → EReal := fun y =>
  ∑ v : Fin 128256, dl a0 a1 (y 0) v * wt a4 a5 v (y 1)

end Cert.Proof.Val
-- ==== Proof.Val.Kernel.lean ====
/- What the kernel leaves in its two result arrays over the extended reals. -/
module

public import proofs.«01_k».proof.Proof.KI.Entry
public import proofs.«01_k».proof.Proof.Val.Spec
public import Idealize.ShloMosaic.Lib.Pipeline.ValueKit

@[expose] public section

noncomputable section

namespace Cert.Proof.Val

open Cert.KernelIdeal Cert.KernelIdeal.Gen Cert.Proof.KI

open Idealize.ShloMosaic hiding ix1 ix2 ix3 eq_ix2
open Idealize.ShloMosaic.TcCoe Idealize.ShloMosaic.Pipeline Idealize.ShloMosaic.ValueIdx
open scoped BigOperators

variable (m : (ℓ : Loc nD τ sig) → Buf (Elt Ideal) ℓ)

/-! ## The arrays the call finds -/

/-- The logit gradients by token. -/
theorem v0_apply (c : Dev nD) (r : Fin 768) (w : Fin 128256) :
    ((V m c main_v0 : S768x128256.Idx → EReal) (ix2 r w)) = (arg m c main_arg0 : S2x384x128256.Idx → EReal) (ix3 (⟨r.val / 384, by omega⟩ : Fin 2) (⟨r.val % 384, by omega⟩ : Fin 384) w) := by
  rw [V_v0]
  exact rows3_apply _ _ r _

/-- Their scales by group. -/
theorem v1_apply (c : Dev nD) (g : Fin 1002) (b : Fin 2) (s : Fin 384) :
    ((V m c main_v1 : S1002x2x384.Idx → EReal) (ix3 g b s)) = (arg m c main_arg1 : S2x384x1002.Idx → EReal) (ix3 b s g) := by
  rw [V_v1]
  exact transpose_apply _ _ _ _ _ (by intro x; fin_cases x <;> rfl)

/-- The hidden states by token. -/
theorem v2_apply (c : Dev nD) (r : Fin 768) (d : Fin 1152) :
    ((V m c main_v2 : S768x1152.Idx → EReal) (ix2 r d)) = (arg m c main_arg2 : S2x384x1152.Idx → EReal) (ix3 (⟨r.val / 384, by omega⟩ : Fin 2) (⟨r.val % 384, by omega⟩ : Fin 384) d) := by
  rw [V_v2]
  exact rows3_apply _ _ r _

/-- The packed weights by byte. -/
theorem v3_apply (c : Dev nD) (j : Fin 576) (w : Fin 128256) :
    ((V m c main_v3 : S576x128256.Idx → BitVec 8) (ix2 j w)) = (arg m c main_arg4 : S128256x576.Idx → BitVec 8) (ix2 w j) := by
  rw [V_v3]
  exact transpose_ix2_apply _ _ _ _

/-- Their scales by group. -/
theorem v4_apply (c : Dev nD) (g : Fin 36) (w : Fin 128256) :
    ((V m c main_v4 : S36x128256.Idx → EReal) (ix2 g w)) = (arg m c main_arg5 : S128256x36.Idx → EReal) (ix2 w g) := by
  rw [V_v4]
  exact transpose_ix2_apply _ _ _ _

/-- The embedding gradients by token. -/
theorem v5_apply (c : Dev nD) (r : Fin 768) (d : Fin 1152) :
    ((V m c main_v5 : S768x1152.Idx → EReal) (ix2 r d)) = (arg m c main_arg7 : S2x384x1152.Idx → EReal) (ix3 (⟨r.val / 384, by omega⟩ : Fin 2) (⟨r.val % 384, by omega⟩ : Fin 384) d) := by
  rw [V_v5]
  exact rows3_apply _ _ r _

/-- The token ids. -/
theorem ids_apply (k : Fin 768) :
    idsM m (ix1 k) = (arg m 0 main_arg6 : S2x384.Idx → BitVec 32) (ix2 (⟨k.val / 384, by omega⟩ : Fin 2) (⟨k.val % 384, by omega⟩ : Fin 384)) := by
  rw [ids_table]
  exact rows2_apply _ _ k

/-! ## The blocks the points find -/

theorem index0 : ∀ t : Fin grid0.N, cc0_transform_0 (grid0.coords t) = ![0, t.val] := by decide +kernel
theorem index1 : ∀ t : Fin grid0.N, cc0_transform_1 (grid0.coords t) = ![t.val, 0, 0] := by decide +kernel
theorem index2 : ∀ t : Fin grid0.N, cc0_transform_2 (grid0.coords t) = ![0, 0] := by decide +kernel
theorem index3 : ∀ t : Fin grid0.N, cc0_transform_3 (grid0.coords t) = ![0, 0] := by decide +kernel
theorem index4 : ∀ t : Fin grid0.N, cc0_transform_4 (grid0.coords t) = ![0, t.val] := by decide +kernel
theorem index5 : ∀ t : Fin grid0.N, cc0_transform_5 (grid0.coords t) = ![0, t.val] := by decide +kernel
theorem index6 : ∀ t : Fin grid0.N, cc0_transform_6 (grid0.coords t) = ![0, 0] := by decide +kernel
theorem index7 : ∀ t : Fin grid0.N, cc0_transform_7 (grid0.coords t) = ![t.val, 0] := by decide +kernel
theorem index8 : ∀ t : Fin grid0.N, cc0_transform_8 (grid0.coords t) = ![0, 0] := by decide +kernel

/-! The blocks at the shapes of the kernel's values. -/

/-- Window 0's block at a point. -/
def b0 (hO : Ok m) (c : Dev nD) (t : Fin (cfgM m hO).N) : Vec Ideal S768x768 .fp8e5m2 := iblk m hO c 0 t
/-- Window 1's block at a point. -/
def b1 (hO : Ok m) (c : Dev nD) (t : Fin (cfgM m hO).N) : Vec Ideal S6x2x384 .f32 := iblk m hO c 1 t
/-- Window 2's block at a point. -/
def b2 (hO : Ok m) (c : Dev nD) (t : Fin (cfgM m hO).N) : Vec Ideal S768x1152 .fp8e4m3 := iblk m hO c 2 t
/-- Window 3's block at a point. -/
def b3 (hO : Ok m) (c : Dev nD) (t : Fin (cfgM m hO).N) : Vec Ideal S2x384 .f32 := iblk m hO c 3 t
/-- Window 4's block at a point. -/
def b4 (hO : Ok m) (c : Dev nD) (t : Fin (cfgM m hO).N) : Vec Ideal S576x768 .i8 := iblk m hO c 4 t
/-- Window 5's block at a point. -/
def b5 (hO : Ok m) (c : Dev nD) (t : Fin (cfgM m hO).N) : Vec Ideal S36x768 .f32 := iblk m hO c 5 t
/-- Window 6's block at a point. -/
def b6 (hO : Ok m) (c : Dev nD) (t : Fin (cfgM m hO).N) : Vec Ideal S768x1152 .bf16 := iblk m hO c 6 t

/-- Window 0's block at a point: columns `768 t …`. -/
theorem iblk0_apply (hO : Ok m) (c : Dev nD) (t : Fin (cfgM m hO).N) (j : Fin 768) (v : Fin 768) (w : Fin 128256) (hw : w.val = 768 * t.val + v.val) :
    (b0 m hO c t) (ix2 j v) = (V m c main_v0 : S768x128256.Idx → EReal) (ix2 j w) := by
  refine congrArg (V m c main_v0 : S768x128256.Idx → EReal) (Shape.idx_ext₂ ?_ ?_)
  · refine (Window.rect_emb_val ((cfgM m hO).win 0) t (ix2 j v : S768x768.Idx) (0 : Fin 2)).trans ?_
    show cc0_transform_0 (grid0.coords t) 0 * 768 + j.val = j.val
    rw [index0]
    show 0 * 768 + j.val = j.val
    omega
  · refine (Window.rect_emb_val ((cfgM m hO).win 0) t (ix2 j v : S768x768.Idx) (1 : Fin 2)).trans ?_
    show cc0_transform_0 (grid0.coords t) 1 * 768 + v.val = w.val
    rw [index0]
    show t.val * 768 + v.val = w.val
    omega

/-- Window 2's block at a point: the whole array. -/
theorem iblk2_apply (hO : Ok m) (c : Dev nD) (t : Fin (cfgM m hO).N) (j : Fin 768) (v : Fin 1152) :
    (b2 m hO c t) (ix2 j v) = (V m c main_v2 : S768x1152.Idx → EReal) (ix2 j v) := by
  refine congrArg (V m c main_v2 : S768x1152.Idx → EReal) (Shape.idx_ext₂ ?_ ?_)
  · refine (Window.rect_emb_val ((cfgM m hO).win 2) t (ix2 j v : S768x1152.Idx) (0 : Fin 2)).trans ?_
    show cc0_transform_2 (grid0.coords t) 0 * 768 + j.val = j.val
    rw [index2]
    show 0 * 768 + j.val = j.val
    omega
  · refine (Window.rect_emb_val ((cfgM m hO).win 2) t (ix2 j v : S768x1152.Idx) (1 : Fin 2)).trans ?_
    show cc0_transform_2 (grid0.coords t) 1 * 1152 + v.val = v.val
    rw [index2]
    show 0 * 1152 + v.val = v.val
    omega

/-- Window 3's block at a point: the whole array. -/
theorem iblk3_apply (hO : Ok m) (c : Dev nD) (t : Fin (cfgM m hO).N) (j : Fin 2) (v : Fin 384) :
    (b3 m hO c t) (ix2 j v) = (V m c main_arg3 : S2x384.Idx → EReal) (ix2 j v) := by
  refine congrArg (V m c main_arg3 : S2x384.Idx → EReal) (Shape.idx_ext₂ ?_ ?_)
  · refine (Window.rect_emb_val ((cfgM m hO).win 3) t (ix2 j v : S2x384.Idx) (0 : Fin 2)).trans ?_
    show cc0_transform_3 (grid0.coords t) 0 * 2 + j.val = j.val
    rw [index3]
    show 0 * 2 + j.val = j.val
    omega
  · refine (Window.rect_emb_val ((cfgM m hO).win 3) t (ix2 j v : S2x384.Idx) (1 : Fin 2)).trans ?_
    show cc0_transform_3 (grid0.coords t) 1 * 384 + v.val = v.val
    rw [index3]
    show 0 * 384 + v.val = v.val
    omega

/-- Window 4's block at a point: columns `768 t …`. -/
theorem iblk4_apply (hO : Ok m) (c : Dev nD) (t : Fin (cfgM m hO).N) (j : Fin 576) (v : Fin 768) (w : Fin 128256) (hw : w.val = 768 * t.val + v.val) :
    (b4 m hO c t) (ix2 j v) = (V m c main_v3 : S576x128256.Idx → BitVec 8) (ix2 j w) := by
  refine congrArg (V m c main_v3 : S576x128256.Idx → BitVec 8) (Shape.idx_ext₂ ?_ ?_)
  · refine (Window.rect_emb_val ((cfgM m hO).win 4) t (ix2 j v : S576x768.Idx) (0 : Fin 2)).trans ?_
    show cc0_transform_4 (grid0.coords t) 0 * 576 + j.val = j.val
    rw [index4]
    show 0 * 576 + j.val = j.val
    omega
  · refine (Window.rect_emb_val ((cfgM m hO).win 4) t (ix2 j v : S576x768.Idx) (1 : Fin 2)).trans ?_
    show cc0_transform_4 (grid0.coords t) 1 * 768 + v.val = w.val
    rw [index4]
    show t.val * 768 + v.val = w.val
    omega

/-- Window 5's block at a point: columns `768 t …`. -/
theorem iblk5_apply (hO : Ok m) (c : Dev nD) (t : Fin (cfgM m hO).N) (j : Fin 36) (v : Fin 768) (w : Fin 128256) (hw : w.val = 768 * t.val + v.val) :
    (b5 m hO c t) (ix2 j v) = (V m c main_v4 : S36x128256.Idx → EReal) (ix2 j w) := by
  refine congrArg (V m c main_v4 : S36x128256.Idx → EReal) (Shape.idx_ext₂ ?_ ?_)
  · refine (Window.rect_emb_val ((cfgM m hO).win 5) t (ix2 j v : S36x768.Idx) (0 : Fin 2)).trans ?_
    show cc0_transform_5 (grid0.coords t) 0 * 36 + j.val = j.val
    rw [index5]
    show 0 * 36 + j.val = j.val
    omega
  · refine (Window.rect_emb_val ((cfgM m hO).win 5) t (ix2 j v : S36x768.Idx) (1 : Fin 2)).trans ?_
    show cc0_transform_5 (grid0.coords t) 1 * 768 + v.val = w.val
    rw [index5]
    show t.val * 768 + v.val = w.val
    omega

/-- Window 6's block at a point: the whole array. -/
theorem iblk6_apply (hO : Ok m) (c : Dev nD) (t : Fin (cfgM m hO).N) (j : Fin 768) (v : Fin 1152) :
    (b6 m hO c t) (ix2 j v) = (V m c main_v5 : S768x1152.Idx → EReal) (ix2 j v) := by
  refine congrArg (V m c main_v5 : S768x1152.Idx → EReal) (Shape.idx_ext₂ ?_ ?_)
  · refine (Window.rect_emb_val ((cfgM m hO).win 6) t (ix2 j v : S768x1152.Idx) (0 : Fin 2)).trans ?_
    show cc0_transform_6 (grid0.coords t) 0 * 768 + j.val = j.val
    rw [index6]
    show 0 * 768 + j.val = j.val
    omega
  · refine (Window.rect_emb_val ((cfgM m hO).win 6) t (ix2 j v : S768x1152.Idx) (1 : Fin 2)).trans ?_
    show cc0_transform_6 (grid0.coords t) 1 * 1152 + v.val = v.val
    rw [index6]
    show 0 * 1152 + v.val = v.val
    omega

/-- Window 1's block at a point: groups `6 t …`. -/
theorem iblk1_apply (hO : Ok m) (c : Dev nD) (t : Fin (cfgM m hO).N) (g : Fin 6) (b : Fin 2) (s : Fin 384) (w : Fin 1002) (hw : w.val = 6 * t.val + g.val) :
    (b1 m hO c t) (ix3 g b s) = (V m c main_v1 : S1002x2x384.Idx → EReal) (ix3 w b s) := by
  refine congrArg (V m c main_v1 : S1002x2x384.Idx → EReal) (funext fun a => Fin.ext ?_)
  refine (Window.rect_emb_val ((cfgM m hO).win 1) t (ix3 g b s : S6x2x384.Idx) a).trans ?_
  show cc0_transform_1 (grid0.coords t) a * S6x2x384.size a + (ix3 g b s : S6x2x384.Idx) a = (ix3 w b s : S1002x2x384.Idx) a
  rw [index1]
  match a with
  | ⟨0, _⟩ =>
    show t.val * 6 + g.val = w.val
    omega
  | ⟨1, _⟩ =>
    show 0 * 2 + b.val = b.val
    omega
  | ⟨2, _⟩ =>
    show 0 * 384 + s.val = s.val
    omega

/-! ## What the points compute -/

/-- Abbreviations for the arguments as functions. -/
abbrev A0 (c : Dev nD) : S2x384x128256.Idx → EReal := arg m c main_arg0
abbrev A1 (c : Dev nD) : S2x384x1002.Idx → EReal := arg m c main_arg1
abbrev A2 (c : Dev nD) : S2x384x1152.Idx → EReal := arg m c main_arg2
abbrev A3 (c : Dev nD) : S2x384.Idx → EReal := arg m c main_arg3
abbrev A4 (c : Dev nD) : S128256x576.Idx → BitVec 8 := arg m c main_arg4
abbrev A5 (c : Dev nD) : S128256x36.Idx → EReal := arg m c main_arg5
abbrev A6 (c : Dev nD) : S2x384.Idx → BitVec 32 := arg m c main_arg6
abbrev A7 (c : Dev nD) : S2x384x1152.Idx → EReal := arg m c main_arg7

/-- The block of logit gradients a point works with. -/
theorem dlt_point (hO : Ok m) (c : Dev nD) (t : Fin (cfgM m hO).N) (v r : Fin 768) (w : Fin 128256) (hw : w.val = 768 * t.val + v.val) :
    (dltG (F := Ideal) (b0 m hO c t) (b1 m hO c t) (ix2 v r) : EReal) = dl (A0 m c) (A1 m c) r w := by
  rw [dltG_apply]
  unfold dl
  refine congrArg₂ (· * ·) ((iblk0_apply m hO c t r v w hw).trans (v0_apply m c r w)) ?_
  refine (iblk1_apply m hO c t _ _ _ (⟨w.val / 128, by omega⟩ : Fin 1002) ?_).trans (v1_apply m c _ _ _)
  show w.val / 128 = 6 * t.val + v.val / 128
  omega

/-- The scaled hidden states. -/
theorem hh_point (hO : Ok m) (c : Dev nD) (r : Fin 768) (d : Fin 1152) :
    (hhM m hO c (ix2 r d) : EReal) = hh (A2 m c) (A3 m c) r d := by
  show (hhG (b2 m hO c (pt0 m hO)) (b3 m hO c (pt0 m hO)) (ix2 r d) : EReal) = _
  rw [hhG_apply]
  unfold hh
  refine congrArg₂ (· * ·) ((iblk2_apply m hO c _ r d).trans (v2_apply m c r d)) ?_
  exact (iblk3_apply m hO c _ _ _).trans (congrFun (V_keep m c main_arg3 (by decide)) _)

/-- The wide embedding gradients. -/
theorem emb_point (hO : Ok m) (c : Dev nD) (r : Fin 768) (d : Fin 1152) :
    (embM m hO c (ix2 r d) : EReal) = A7 m c (ix3 (⟨r.val / 384, by omega⟩ : Fin 2) (⟨r.val % 384, by omega⟩ : Fin 384) d) := by
  show (embG (b6 m hO c (pt0 m hO)) (ix2 r d) : EReal) = _
  rw [embG_apply]
  exact (iblk6_apply m hO c _ r d).trans (v5_apply m c r d)

/-- The block of weights a point works with, its rows in the kernel's feature order. -/
theorem ets_point (hO : Ok m) (c : Dev nD) (t : Fin (cfgM m hO).N) (a : Fin 1152) (v : Fin 768) (w : Fin 128256) (hw : w.val = 768 * t.val + v.val) :
    (etsG (F := Ideal) (esrPay (b5 m hO c t)) (b4 m hO c t) (ix2 a v) : EReal) = wt (A4 m c) (A5 m c) w (⟨feat a.val, by unfold feat; omega⟩ : Fin 1152) := by
  rw [etsG_apply, esrPay_apply]
  unfold wt
  refine congrArg₂ (fun (x : BitVec 8) (y : EReal) => ((code x (feat a.val % 2) : ℝ) : EReal) * y) ?_ ?_
  · exact (iblk4_apply m hO c t _ v w hw).trans (v3_apply m c _ w)
  · exact (iblk5_apply m hO c t _ v w hw).trans (v4_apply m c _ w)

/-- The summand of the hidden-state gradient at a word, zero past the vocabulary. -/
def term (c : Dev nD) (r : Fin 768) (d : Fin 1152) (w : ℕ) : EReal :=
  if h : w < 128256 then dl (A0 m c) (A1 m c) r ⟨w, h⟩ * wt (A4 m c) (A5 m c) ⟨w, h⟩ d else 0

/-- What one point adds to the accumulator. -/
theorem step_point (hO : Ok m) (c : Dev nD) (t : Fin (cfgM m hO).N) (A : FVec Ideal S1152x768 .f32) (a : Fin 1152) (r : Fin 768) :
    (accStep m hO c t A (ix2 a r) : EReal) = (A (ix2 a r) : EReal) + ∑ v ∈ Finset.range 768, term m c r (⟨feat a.val, by unfold feat; omega⟩ : Fin 1152) (768 * t.val + v) := by
  have ht : t.val < 167 := t.isLt
  show (accNext (b0 m hO c t) (b1 m hO c t) (b4 m hO c t) (b5 m hO c t) A (ix2 a r) : EReal) = _
  rw [accNext_apply, Finset.sum_range]
  refine congrArg _ (Finset.sum_congr rfl fun v _ => ?_)
  have hw : 768 * t.val + v.val < 128256 := by omega
  rw [term, dif_pos hw, ets_point m hO c t a v ⟨_, hw⟩ rfl, dlt_point m hO c t v r ⟨_, hw⟩ rfl, mul_comm]

/-- The accumulator after a point: the sum over the words so far. -/
theorem acc_point (hO : Ok m) (c : Dev nD) (a : Fin 1152) (r : Fin 768) : ∀ (n : ℕ) (h : n < (cfgM m hO).N),
    (KI.accAt m hO c n h (ix2 a r) : EReal) = ∑ w ∈ Finset.range (768 * (n + 1)), term m c r (⟨feat a.val, by unfold feat; omega⟩ : Fin 1152) w
  | 0, h => by
    rw [KI.accAt, step_point, acc0_apply, zero_add]
    refine Finset.sum_congr rfl fun v _ => ?_
    show term m c r _ (768 * 0 + v) = _
    rw [Nat.mul_zero, Nat.zero_add]
  | n + 1, h => by
    rw [KI.accAt, step_point, acc_point hO c a r n, Nat.mul_succ 768 (n + 1), Finset.sum_range_add]

/-- The feature a row of the accumulator holds, read back. -/
theorem feat_rowOf (d : Fin 1152) : feat (rowOf d.val) = d.val := by
  revert d; decide +kernel

/-- The second result's block after the last point. -/
theorem dh_point (hO : Ok m) (c : Dev nD) (t : Fin (cfgM m hO).N) (ht : t.val = 166) (r : Fin 768) (d : Fin 1152) :
    (dhG (F := Ideal) (KI.accAt m hO c t.val t.isLt) (ix2 r d) : EReal) = dH (A0 m c) (A1 m c) (A4 m c) (A5 m c) (ix2 r d) := by
  obtain ⟨t, htN⟩ := t
  obtain rfl : t = 166 := ht
  rw [dhG_apply, acc_point]
  unfold dH
  show ∑ w ∈ Finset.range 128256, _ = _
  rw [Finset.sum_range]
  refine Finset.sum_congr rfl fun w _ => ?_
  rw [term, dif_pos w.isLt]
  refine congrArg (fun d => dl (A0 m c) (A1 m c) r w * wt (A4 m c) (A5 m c) w d) (Fin.ext ?_)
  exact feat_rowOf d

/-- The first result's block at a point. -/
theorem de_point (hO : Ok m) (c : Dev nD) (t : Fin (cfgM m hO).N) (v : Fin 768) (d : Fin 1152) (w : Fin 128256) (hw : w.val = 768 * t.val + v.val) :
    (deM m hO c t (ix2 v d) : EReal) = dE (A0 m c) (A1 m c) (A2 m c) (A3 m c) (A6 m c) (A7 m c) (ix2 w d) := by
  obtain rfl : c = 0 := Subsingleton.elim _ _
  show (addAll (idsM m) (embM m hO 0) t.val 768 (headDE (b0 m hO 0 t) (b1 m hO 0 t) (hhM m hO 0)) (ix2 v d) : EReal) = _
  rw [addAll_apply, headDE_apply, Finset.sum_range]
  unfold dE
  refine congrArg₂ (· + ·) (Finset.sum_congr rfl fun r _ => ?_) (Finset.sum_congr rfl fun r _ => ?_)
  · rw [dlt_point m hO 0 t v r w hw, hh_point]
  · have hr : (⟨r.val % 768, Nat.mod_lt _ (by decide)⟩ : Fin 768) = r := Fin.ext (Nat.mod_eq_of_lt r.isLt)
    have hid : idN (idsM m) r.val = (A6 m 0 (ix2 (⟨r.val / 384, by omega⟩ : Fin 2) (⟨r.val % 384, by omega⟩ : Fin 384))).toNat := by
      unfold idN
      rw [hr, ids_apply]
    rw [hr, emb_point, hid]
    refine if_congr ?_ rfl rfl
    unfold blk
    rw [hid]
    show _ ↔ _ = w.val
    constructor
    · rintro ⟨h1, h2⟩; omega
    · intro h; omega

/-! ## The two arrays at the end -/

/-- The first result is written at every point. -/
theorem flush7 (hO : Ok m) (t : Fin (cfgM m hO).N) : ((cfgM m hO).win 7).flush t = true :=
  (by decide +kernel : ∀ t : Fin grid0.N, Pipeline.Window.flushOf grid0 true cc0_transform_7 t = true) t

/-- The second one at the last point alone. -/
theorem flush8 (hO : Ok m) (t : Fin (cfgM m hO).N) (h : ((cfgM m hO).win 8).flush t = true) : t.val = 166 :=
  (by decide +kernel : ∀ t : Fin grid0.N, Pipeline.Window.flushOf grid0 true cc0_transform_8 t = true → t.val = 166) t h

theorem flush8_last (hO : Ok m) : ((cfgM m hO).win 8).flush (⟨166, by show 166 < grid0.N; decide +kernel⟩ : Fin (cfgM m hO).N) = true :=
  (by decide +kernel : Pipeline.Window.flushOf grid0 true cc0_transform_8 ⟨166, by decide +kernel⟩ = true)

/-- Where window 7's block lies. -/
theorem emb7 (hO : Ok m) (t : Fin (cfgM m hO).N) (v : Fin 768) (d : Fin 1152) (w : Fin 128256) (hw : w.val = 768 * t.val + v.val) :
    (((cfgM m hO).win 7).blk t).view.emb (ix2 v d : S768x1152.Idx) = (ix2 w d : S128256x1152.Idx) := by
  refine (Shape.idx_ext₂ ?_ ?_ : _ = (ix2 w d : S128256x1152.Idx))
  · refine (Window.rect_emb_val ((cfgM m hO).win 7) t (ix2 v d : S768x1152.Idx) (0 : Fin 2)).trans ?_
    show cc0_transform_7 (grid0.coords t) 0 * 768 + v.val = w.val
    rw [index7]
    show t.val * 768 + v.val = w.val
    omega
  · refine (Window.rect_emb_val ((cfgM m hO).win 7) t (ix2 v d : S768x1152.Idx) (1 : Fin 2)).trans ?_
    show cc0_transform_7 (grid0.coords t) 1 * 1152 + d.val = d.val
    rw [index7]
    show 0 * 1152 + d.val = d.val
    omega

/-- Where window 8's block lies. -/
theorem emb8 (hO : Ok m) (t : Fin (cfgM m hO).N) (r : Fin 768) (d : Fin 1152) :
    (((cfgM m hO).win 8).blk t).view.emb (ix2 r d : S768x1152.Idx) = (ix2 r d : S768x1152.Idx) := by
  refine (Shape.idx_ext₂ ?_ ?_ : _ = (ix2 r d : S768x1152.Idx))
  · refine (Window.rect_emb_val ((cfgM m hO).win 8) t (ix2 r d : S768x1152.Idx) (0 : Fin 2)).trans ?_
    show cc0_transform_8 (grid0.coords t) 0 * 768 + r.val = r.val
    rw [index8]
    show 0 * 768 + r.val = r.val
    omega
  · refine (Window.rect_emb_val ((cfgM m hO).win 8) t (ix2 r d : S768x1152.Idx) (1 : Fin 2)).trans ?_
    show cc0_transform_8 (grid0.coords t) 1 * 1152 + d.val = d.val
    rw [index8]
    show 0 * 1152 + d.val = d.val
    omega

/-- The first result at the end: the embedding gradient. -/
theorem arr7 (hO : Ok m) (c : Dev nD) :
    (dats m hO 0 c).arrAt 7 (cfgM m hO).N = dE (A0 m c) (A1 m c) (A2 m c) (A3 m c) (A6 m c) (A7 m c) := by
  refine Dat.arrAt_eq_of_emb (dats m hO 0 c) 7 (dE (A0 m c) (A1 m c) (A2 m c) (A3 m c) (A6 m c) (A7 m c)) (fun t _ y => ?_) (fun i => ?_)
  · have ht : t.val < 167 := t.isLt
    obtain ⟨v, d, rfl⟩ : ∃ (v : Fin 768) (d : Fin 1152), y = (ix2 v d : S768x1152.Idx) := ⟨y (0 : Fin 2), y (1 : Fin 2), eq_ix2 (y : S768x1152.Idx)⟩
    have hw : 768 * t.val + v.val < 128256 := by omega
    refine Eq.trans ?_ (congrArg (dE (A0 m c) (A1 m c) (A2 m c) (A3 m c) (A6 m c) (A7 m c)) (emb7 m hO t v d ⟨_, hw⟩ rfl).symm)
    exact (congrFun (after7 m hO c t) (ix2 v d : S768x1152.Idx)).trans (de_point m hO c t v d ⟨_, hw⟩ rfl)
  · have h0 : (i (0 : Fin 2)).val < 128256 := (i (0 : Fin 2)).isLt
    have hN : (cfgM m hO).N = 167 := N_0
    refine ⟨⟨(i (0 : Fin 2)).val / 768, by rw [hN]; omega⟩, flush7 m hO _, ?_⟩
    have e := emb7 m hO ⟨(i (0 : Fin 2)).val / 768, by rw [hN]; omega⟩ (⟨(i (0 : Fin 2)).val % 768, by omega⟩ : Fin 768) (i (1 : Fin 2) : Fin 1152) (i (0 : Fin 2) : Fin 128256) (by show _ = 768 * (_ / 768) + _ % 768; omega)
    have ei : (ix2 (i (0 : Fin 2) : Fin 128256) (i (1 : Fin 2) : Fin 1152) : S128256x1152.Idx) = i := (eq_ix2 i).symm
    exact Eq.subst (motive := fun z => z ∈ (((cfgM m hO).win 7).blk _).view.set) (e.trans ei) (View.emb_mem_set _ _)

/-- The second result at the end: the hidden-state gradient. -/
theorem arr8 (hO : Ok m) (c : Dev nD) :
    (dats m hO 0 c).arrAt 8 (cfgM m hO).N = dH (A0 m c) (A1 m c) (A4 m c) (A5 m c) := by
  refine Dat.arrAt_eq_of_emb (dats m hO 0 c) 8 (dH (A0 m c) (A1 m c) (A4 m c) (A5 m c)) (fun t hf y => ?_) (fun i => ?_)
  · obtain ⟨r, d, rfl⟩ : ∃ (r : Fin 768) (d : Fin 1152), y = (ix2 r d : S768x1152.Idx) := ⟨y (0 : Fin 2), y (1 : Fin 2), eq_ix2 (y : S768x1152.Idx)⟩
    refine Eq.trans ?_ (congrArg (dH (A0 m c) (A1 m c) (A4 m c) (A5 m c)) (emb8 m hO t r d).symm)
    exact (congrFun (after8 m hO c t) (ix2 r d : S768x1152.Idx)).trans (dh_point m hO c t (flush8 m hO t hf) r d)
  · refine ⟨_, flush8_last m hO, ?_⟩
    have e := emb8 m hO ⟨166, by show 166 < grid0.N; decide +kernel⟩ (i (0 : Fin 2) : Fin 768) (i (1 : Fin 2) : Fin 1152)
    have ei : (ix2 (i (0 : Fin 2) : Fin 768) (i (1 : Fin 2) : Fin 1152) : S768x1152.Idx) = i := (eq_ix2 i).symm
    exact Eq.subst (motive := fun z => z ∈ (((cfgM m hO).win 8).blk _).view.set) (e.trans ei) (View.emb_mem_set _ _)

/-- The kernel's run: its two results are the two gradients, and the arguments stay. -/
theorem kernel_run (ρ : Dev nD → PrngReg) (hids : InVocab (idsM m)) : θ_run defs (onTc (τ := τ) (main (F := Ideal))) ⟨m, fun _ => 0, ρ⟩ (fun r => (∀ c : Dev nD,
      r.2.mem ((c.tc : Thread nD τ).loc main_v7_0) = dE (A0 m c) (A1 m c) (A2 m c) (A3 m c) (A6 m c) (A7 m c)
      ∧ r.2.mem ((c.tc : Thread nD τ).loc main_v7_1) = dH (A0 m c) (A1 m c) (A4 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))) :=
  (θ_run defs _ _).mono (fun r h c => ⟨((h.1 c).1 7).trans (arr7 m (ok m) c), ((h.1 c).1 8).trans (arr8 m (ok m) c), args_keep m (ok m) r h.1 c⟩)
    (run_main_quiescent m ρ (ok m) hids)

end Cert.Proof.Val
-- ==== Proof.Val.RefRun.lean ====
/- The reference's host lines as functions of the arguments and of the two widened arrays. -/
module

public import proofs.«01_k».proof.Proof.Gen.ReferenceIdeal.Frame
public import Idealize.ShloMosaic.Lib.StableHlo.RunRead

@[expose] public section

noncomputable section

namespace Cert.Proof.Val.Ref

open Cert.ReferenceIdeal Cert.ReferenceIdeal.Gen

open Idealize.ShloMosaic Idealize.ShloMosaic.TcCoe Idealize.ShloMosaic.Tactic Idealize.SL.Sem

variable {F : FTy → Type} [FloatOps F]

/-- The logit gradients: each times its group's scale. -/
def rDL (x : FVec F S2x384x128256 .bf16) (a1 : FVec F S2x384x1002 .f32) : FVec F S2x384x128256 .bf16 :=
  shapeCast S2x384x128256 (mulf (shapeCast S2x384x1002x128 x shapeCasts_S2x384x128256_S2x384x1002x128 : FVec F S2x384x1002x128 .bf16)
    (broadcastInDim S2x384x1002x128 ![0, 1, 2, 3] bcast_S2x384x1002x1_S2x384x1002x128_0_1_2_3
      (broadcastInDim S2x384x1002x1 ![0, 1, 2] bcast_S2x384x1002_S2x384x1002x1_0_1_2 (truncf .bf16 a1 bitsLt_bf16_f32)))) shapeCasts_S2x384x1002x128_S2x384x128256

/-- The hidden states: each times its token's scale. -/
def rHH (x : FVec F S2x384x1152 .bf16) (a3 : FVec F S2x384 .f32) : FVec F S2x384x1152 .bf16 :=
  mulf x (broadcastInDim S2x384x1152 ![0, 1, 2] bcast_S2x384x1_S2x384x1152_0_1_2
    (broadcastInDim S2x384x1 ![0, 1] bcast_S2x384_S2x384x1_0_1 (truncf .bf16 a3 bitsLt_bf16_f32)))

/-- The token ids in one column, a negative one counted from the vocabulary's end. -/
def rIds (a6 : IVec S2x384 32) : IVec S768x1 32 :=
  broadcastInDim S768x1 ![0] bcast_S768_S768x1_0
    (select (cmpi .slt (shapeCast S768 a6 shapeCasts_S2x384_S768 : IVec S768 32) (broadcastInDim S768 ![] bcast_S_S768 (constantI S_ 32 0#32)))
      (addi (shapeCast S768 a6 shapeCasts_S2x384_S768 : IVec S768 32) (broadcastInDim S768 ![] bcast_S_S768 (constantI S_ 32 128256#32)))
      (shapeCast S768 a6 shapeCasts_S2x384_S768 : IVec S768 32))

/-- The first result. -/
def rDE (x : FVec F S2x384x128256 .bf16) (y : FVec F S2x384x1152 .bf16) (a1 : FVec F S2x384x1002 .f32) (a3 : FVec F S2x384 .f32)
    (a6 : IVec S2x384 32) (a7 : FVec F S2x384x1152 .bf16) : FVec F S128256x1152 .f32 :=
  Host.scatterAdd scatter_S128256x1152_S768x1_S768x1152_1_0_0_1
    (Host.dotGeneral dot_S2x384x128256_S2x384x1152_S128256x1152_01_01_2_2_n_n none (rDL x a1) (rHH y a3) : FVec F S128256x1152 .f32)
    (rIds a6) (extf .f32 (shapeCast S768x1152 a7 shapeCasts_S2x384x1152_S768x1152 : FVec F S768x1152 .bf16) bitsLt_bf16_f32)

/-- The weights' scales, one per byte. -/
def rSc (a5 : FVec F S128256x36 .f32) : FVec F S128256x576 .bf16 :=
  truncf .bf16 (shapeCast S128256x576 (broadcastInDim S128256x36x16 ![0, 1] bcast_S128256x36_S128256x36x16_0_1 a5) shapeCasts_S128256x36x16_S128256x576 : FVec F S128256x576 .f32) bitsLt_bf16_f32

/-- A nibble read signed. -/
def rSign (n : IVec S128256x576 32) : IVec S128256x576 32 :=
  select (cmpi .sge n (broadcastInDim S128256x576 ![] bcast_S_S128256x576 (constantI S_ 32 8#32)))
    (subi n (broadcastInDim S128256x576 ![] bcast_S_S128256x576 (constantI S_ 32 16#32))) n

/-- The low nibbles. -/
def rLo (a4 : IVec S128256x576 8) : IVec S128256x576 32 :=
  andi (extui 32 a4 natLt_8_32) (broadcastInDim S128256x576 ![] bcast_S_S128256x576 (constantI S_ 32 15#32))

/-- The high nibbles. -/
def rHi (a4 : IVec S128256x576 8) : IVec S128256x576 32 :=
  Host.shrsi (extui 32 a4 natLt_8_32) (broadcastInDim S128256x576 ![] bcast_S_S128256x576 (constantI S_ 32 4#32))

/-- One half of the features of the hidden-state gradient, from its nibbles. -/
def rHalf (x : FVec F S2x384x128256 .bf16) (a1 : FVec F S2x384x1002 .f32) (a5 : FVec F S128256x36 .f32) (n : IVec S128256x576 32) : FVec F S2x384x576 .f32 :=
  Host.dotGeneral dot_S2x384x128256_S128256x576_S2x384x576_2_0_01_1_n_n none (rDL x a1) (mulf (sitofp .bf16 (rSign n)) (rSc a5))

/-- The second result. -/
def rDH (x : FVec F S2x384x128256 .bf16) (a1 : FVec F S2x384x1002 .f32) (a4 : IVec S128256x576 8) (a5 : FVec F S128256x36 .f32) : FVec F S768x1152 .bf16 :=
  truncf .bf16 (shapeCast S768x1152 (concatenate S2x384x576x2 3
    [⟨S2x384x576x1, broadcastInDim S2x384x576x1 ![0, 1, 2] bcast_S2x384x576_S2x384x576x1_0_1_2 (rHalf x a1 a5 (rLo a4))⟩,
      ⟨S2x384x576x1, broadcastInDim S2x384x576x1 ![0, 1, 2] bcast_S2x384x576_S2x384x576x1_0_1_2 (rHalf x a1 a5 (rHi a4))⟩]
    concatenates_S2x384x576x1_S2x384x576x1_S2x384x576x2_d3) shapeCasts_S2x384x576x2_S768x1152 : FVec F S768x1152 .f32) bitsLt_bf16_f32

/-- The lines' first result, from any contents. -/
theorem tail_v21 (W : Valuation τ sig (Elt F)) :
    StableHlo.after ([hostOps1, hostOps1_1, hostOps1_2, hostOps1_3, hostOps1_4] : List (List (HloOp τ sig (Elt F)))).flatten W (Proc.devRef .tc main_v21)
      = rDE (W (Proc.devRef .tc main_v0_0)) (W (Proc.devRef .tc main_v0_1)) (W (Proc.devRef .tc main_arg1)) (W (Proc.devRef .tc main_arg3)) (W (Proc.devRef .tc main_arg6)) (W (Proc.devRef .tc main_arg7)) := by
  after_reads_simp
  rfl

/-- The low nibbles' half, before the two are put together. -/
theorem upto_v46 (W : Valuation τ sig (Elt F)) :
    StableHlo.upto ([hostOps1, hostOps1_1, hostOps1_2, hostOps1_3, hostOps1_4] : List (List (HloOp τ sig (Elt F)))).flatten W 55 (Proc.devRef .tc main_v46)
      = broadcastInDim S2x384x576x1 ![0, 1, 2] bcast_S2x384x576_S2x384x576x1_0_1_2
        (rHalf (W (Proc.devRef .tc main_v0_0)) (W (Proc.devRef .tc main_arg1)) (W (Proc.devRef .tc main_arg5)) (rLo (W (Proc.devRef .tc main_arg4)))) := by
  after_reads_simp
  rfl

/-- The high nibbles' half, before the two are put together. -/
theorem upto_v47 (W : Valuation τ sig (Elt F)) :
    StableHlo.upto ([hostOps1, hostOps1_1, hostOps1_2, hostOps1_3, hostOps1_4] : List (List (HloOp τ sig (Elt F)))).flatten W 55 (Proc.devRef .tc main_v47)
      = broadcastInDim S2x384x576x1 ![0, 1, 2] bcast_S2x384x576_S2x384x576x1_0_1_2
        (rHalf (W (Proc.devRef .tc main_v0_0)) (W (Proc.devRef .tc main_arg1)) (W (Proc.devRef .tc main_arg5)) (rHi (W (Proc.devRef .tc main_arg4)))) := by
  after_reads_simp
  rfl

/-- Their second result. -/
theorem tail_v50 (W : Valuation τ sig (Elt F)) :
    StableHlo.after ([hostOps1, hostOps1_1, hostOps1_2, hostOps1_3, hostOps1_4] : List (List (HloOp τ sig (Elt F)))).flatten W (Proc.devRef .tc main_v50)
      = rDH (W (Proc.devRef .tc main_v0_0)) (W (Proc.devRef .tc main_arg1)) (W (Proc.devRef .tc main_arg4)) (W (Proc.devRef .tc main_arg5)) := by
  after_reads_simp
  rw [upto_v46, upto_v47]
  rfl

end Cert.Proof.Val.Ref
-- ==== Proof.Val.RefVal.lean ====
/- The reference's two results at an index over the extended reals. -/
module

public import proofs.«01_k».proof.Proof.Val.RefRun
public import proofs.«01_k».proof.Proof.Val.Spec
public import Idealize.ShloMosaic.Lib.Routing.OpsPair
public import Idealize.ShloMosaic.Lib.MatmulPlain

@[expose] public section

noncomputable section

namespace Cert.Proof.Val.Ref

open Cert.ReferenceIdeal Cert.ReferenceIdeal.Gen

open Idealize.ShloMosaic
open Idealize.ShloMosaic.TcCoe Idealize.ShloMosaic.Pipeline Idealize.ShloMosaic.ValueIdx
open scoped BigOperators

/-- The logit gradients at an index. -/
theorem rDL_apply (x : FVec Ideal S2x384x128256 .bf16) (a1 : FVec Ideal S2x384x1002 .f32) (b : Fin 2) (s : Fin 384) (v : Fin 128256) :
    (rDL x a1 (ix3 b s v) : EReal) = (x (ix3 b s v) : EReal) * (a1 (ix3 b s (⟨v.val / 128, by omega⟩ : Fin 1002)) : EReal) := by
  unfold rDL
  rw [shapeCast_apply _ _ (ix3 b s v) (ix4 b s (⟨v.val / 128, by omega⟩ : Fin 1002) (⟨v.val % 128, by omega⟩ : Fin 128)) (by
    rw [Shape.rowMajor_val_three, Shape.rowMajor_val_four]
    show ((b.val * 384 + s.val) * 1002 + v.val / 128) * 128 + v.val % 128 = (b.val * 384 + s.val) * 128256 + v.val
    omega)]
  rw [mulf_apply]
  refine congrArg₂ (· * ·) ?_ ?_
  · refine shapeCast_apply _ _ _ _ ?_
    rw [Shape.rowMajor_val_three, Shape.rowMajor_val_four]
    show (b.val * 384 + s.val) * 128256 + v.val = ((b.val * 384 + s.val) * 1002 + v.val / 128) * 128 + v.val % 128
    omega
  · rw [broadcastInDim_apply _ _ _ _ (ix4 b s (⟨v.val / 128, by omega⟩ : Fin 1002) (0 : Fin 1)) (by intro a; fin_cases a <;> rfl),
      broadcastInDim_apply _ _ _ _ (ix3 b s (⟨v.val / 128, by omega⟩ : Fin 1002)) (by intro a; fin_cases a <;> rfl), truncf_apply]

/-- The hidden states at an index. -/
theorem rHH_apply (x : FVec Ideal S2x384x1152 .bf16) (a3 : FVec Ideal S2x384 .f32) (b : Fin 2) (s : Fin 384) (d : Fin 1152) :
    (rHH x a3 (ix3 b s d) : EReal) = (x (ix3 b s d) : EReal) * (a3 (ix2 b s) : EReal) := by
  unfold rHH
  rw [mulf_apply]
  refine congrArg₂ (· * ·) rfl ?_
  rw [broadcastInDim_apply _ _ _ _ (ix3 b s (0 : Fin 1)) (by intro a; fin_cases a <;> rfl),
      broadcastInDim_apply _ _ _ _ (ix2 b s) (by intro a; fin_cases a <;> rfl), truncf_apply]

/-- A token id that is in the vocabulary is used as it is. -/
theorem rIds_apply (a6 : IVec S2x384 32) (k : Fin 768)
    (h : (a6 (ix2 (⟨k.val / 384, by omega⟩ : Fin 2) (⟨k.val % 384, by omega⟩ : Fin 384))).toNat < 128256) :
    rIds a6 (ix2 k (0 : Fin 1)) = a6 (ix2 (⟨k.val / 384, by omega⟩ : Fin 2) (⟨k.val % 384, by omega⟩ : Fin 384)) := by
  unfold rIds
  rw [broadcastInDim_apply _ _ _ _ (ix1 k) (by intro a; fin_cases a; rfl)]
  rw [select_apply]
  have e : (shapeCast S768 a6 shapeCasts_S2x384_S768 : IVec S768 32) (ix1 k) = a6 (ix2 (⟨k.val / 384, by omega⟩ : Fin 2) (⟨k.val % 384, by omega⟩ : Fin 384)) := rows2_apply _ _ k
  rw [e]
  show Scalar.select (IntOp.cmpi .slt ((shapeCast S768 a6 shapeCasts_S2x384_S768 : IVec S768 32) (ix1 k)) 0#32) _ _ = _
  rw [e]
  exact Routing.wrap_of_lt _ _ (by omega)

/-- Where an update of the scatter lands: at the row its id names, in its own column. -/
theorem lands (idx : IVec S768x1 32) (k : Fin 768) (e : Fin 1152) (v : Fin 128256) (d : Fin 1152) :
    scatter_S128256x1152_S768x1_S768x1152_1_0_0_1.resultIdx? (ix2 k e : S768x1152.Idx) idx = some (ix2 v d : S128256x1152.Idx)
      ↔ (idx (ix2 k (0 : Fin 1))).toInt = (v.val : Int) ∧ e = d := by
  have h0 : scatter_S128256x1152_S768x1_S768x1152_1_0_0_1.start (ix2 k e : S768x1152.Idx) idx (0 : Fin 2) = (idx (ix2 k (0 : Fin 1))).toInt := by
    unfold ScatterDims.start
    rw [dif_pos (by decide)]
    refine congrArg (fun i => (idx i).toInt) (funext fun a => Fin.ext ?_)
    match a with
    | ⟨0, _⟩ => rfl
    | ⟨1, _⟩ => rfl
  have h1 : scatter_S128256x1152_S768x1_S768x1152_1_0_0_1.start (ix2 k e : S768x1152.Idx) idx (1 : Fin 2) = 0 := by
    unfold ScatterDims.start
    rw [dif_neg (by decide)]
  have w0 : scatter_S128256x1152_S768x1_S768x1152_1_0_0_1.window (ix2 k e : S768x1152.Idx) (0 : Fin 2) = 0 := by
    unfold ScatterDims.window
    rw [dif_neg (by decide)]
  have w1 : scatter_S128256x1152_S768x1_S768x1152_1_0_0_1.window (ix2 k e : S768x1152.Idx) (1 : Fin 2) = e.val := by
    unfold ScatterDims.window
    rw [dif_pos (by decide)]
    rfl
  rw [Routing.resultIdx?_eq_some]
  constructor
  · intro h
    have a0 := h (0 : Fin 2)
    have a1 := h (1 : Fin 2)
    rw [h0, w0] at a0
    rw [h1, w1] at a1
    change _ = (v.val : Int) at a0
    change _ = (d.val : Int) at a1
    exact ⟨by omega, Fin.ext (by omega)⟩
  · rintro ⟨h, rfl⟩ a
    match a with
    | ⟨0, _⟩ =>
      refine (congrArg₂ (fun (x : Int) (y : Nat) => x + (y : Int)) h0 w0).trans ?_
      show _ = (v.val : Int)
      omega
    | ⟨1, _⟩ =>
      refine (congrArg₂ (fun (x : Int) (y : Nat) => x + (y : Int)) h1 w1).trans ?_
      show _ = (e.val : Int)
      omega

/-- A sum over the tokens is a sum over the sequences and the positions. -/
theorem sum_tokens (f : Fin 2 → Fin 384 → EReal) :
    (∑ b : Fin 2, ∑ s : Fin 384, f b s) = ∑ t : Fin 768, f (⟨t.val / 384, by omega⟩ : Fin 2) (⟨t.val % 384, by omega⟩ : Fin 384) := by
  rw [← Fintype.sum_prod_type' f]
  exact (Fintype.sum_equiv (finProdFinEquiv (m := 2) (n := 384)).symm _ _ (fun t => rfl)).symm

/-- The head's product at a word and a feature. -/
theorem head_apply (L : FVec Ideal S2x384x128256 .bf16) (R : FVec Ideal S2x384x1152 .bf16) (v : Fin 128256) (d : Fin 1152) :
    ((Host.dotGeneral dot_S2x384x128256_S2x384x1152_S128256x1152_01_01_2_2_n_n none L R : FVec Ideal S128256x1152 .f32) (ix2 v d) : EReal)
      = ∑ b : Fin 2, ∑ s : Fin 384, (L (ix3 b s v) : EReal) * (R (ix3 b s d) : EReal) := by
  let D := dot_S2x384x128256_S2x384x1152_S128256x1152_01_01_2_2_n_n
  have hr : D.contr.rank = 2 := rfl
  have c0 : D.contr.size ⟨0, by rw [hr]; omega⟩ = 2 := rfl
  have c1 : D.contr.size ⟨1, by rw [hr]; omega⟩ = 384 := rfl
  simp only [Host.dotGeneral]
  rw [Ideal.dotGeneral_apply, ← Equiv.sum_comp (contrEquiv2 D 2 384 hr c0 c1).symm, Fintype.sum_prod_type]
  refine Finset.sum_congr rfl fun b _ => Finset.sum_congr rfl fun s _ => ?_
  have h0 := contrEquiv2_symm_val0 D 2 384 hr c0 c1 (b, s)
  have h1 := contrEquiv2_symm_val1 D 2 384 hr c0 c1 (b, s)
  have el : D.lhsIdx (ix2 v d : S128256x1152.Idx) ((contrEquiv2 D 2 384 hr c0 c1).symm (b, s)) = ix3 b s v := by
    funext a; apply Fin.ext
    match a with
    | ⟨0, _⟩ => exact h0
    | ⟨1, _⟩ => exact h1
    | ⟨2, _⟩ => rfl
  have er : D.rhsIdx (ix2 v d : S128256x1152.Idx) ((contrEquiv2 D 2 384 hr c0 c1).symm (b, s)) = ix3 b s d := by
    funext a; apply Fin.ext
    match a with
    | ⟨0, _⟩ => exact h0
    | ⟨1, _⟩ => exact h1
    | ⟨2, _⟩ => rfl
  rw [el, er]

/-- The first result is the embedding gradient. -/
theorem rDE_eq (x : FVec Ideal S2x384x128256 .bf16) (y : FVec Ideal S2x384x1152 .bf16) (a1 : FVec Ideal S2x384x1002 .f32) (a3 : FVec Ideal S2x384 .f32)
    (a6 : IVec S2x384 32) (a7 : FVec Ideal S2x384x1152 .bf16) (h6 : ∀ i, (a6 i).toNat < 128256) :
    (rDE x y a1 a3 a6 a7 : S128256x1152.Idx → EReal) = dE x a1 y a3 a6 a7 := by
  funext i
  obtain ⟨v, d, rfl⟩ : ∃ (v : Fin 128256) (d : Fin 1152), i = (ix2 v d : S128256x1152.Idx) := ⟨i (0 : Fin 2), i (1 : Fin 2), eq_ix2 i⟩
  unfold rDE dE
  simp only [Host.scatterAdd, Ideal.hostScatterAdd_def, Ideal.hostScatterAdd]
  refine congrArg₂ (· + ·) ?_ ?_
  · rw [head_apply]
    simp only [rDL_apply, rHH_apply]
    exact sum_tokens (fun b s => (x (ix3 b s v) : EReal) * (a1 (ix3 b s (⟨v.val / 128, by omega⟩ : Fin 1002)) : EReal) * ((y (ix3 b s d) : EReal) * (a3 (ix2 b s) : EReal)))
  · rw [Finset.sum_filter, sum_idx2]
    refine Finset.sum_congr rfl fun k _ => ?_
    have hk := h6 (ix2 (⟨k.val / 384, by omega⟩ : Fin 2) (⟨k.val % 384, by omega⟩ : Fin 384))
    simp only [lands, rIds_apply a6 k hk]
    have hid : (a6 (ix2 (⟨k.val / 384, by omega⟩ : Fin 2) (⟨k.val % 384, by omega⟩ : Fin 384))).toInt
        = ((a6 (ix2 (⟨k.val / 384, by omega⟩ : Fin 2) (⟨k.val % 384, by omega⟩ : Fin 384))).toNat : Int) := BitVec.toInt_eq_toNat_of_lt (by omega)
    rw [hid, Finset.sum_eq_single d (fun e _ he => if_neg fun h => he h.2) (fun h => absurd (Finset.mem_univ _) h)]
    refine if_congr ⟨fun h => Int.ofNat.inj h.1, fun h => ⟨congrArg Int.ofNat h, rfl⟩⟩ ?_ rfl
    rw [extf_apply]
    exact rows3_apply _ _ k d

/-! ## The hidden-state gradient -/

/-- The scales at a byte. -/
theorem rSc_apply (a5 : FVec Ideal S128256x36 .f32) (v : Fin 128256) (j : Fin 576) :
    (rSc a5 (ix2 v j) : EReal) = (a5 (ix2 v (⟨j.val / 16, by omega⟩ : Fin 36)) : EReal) := by
  unfold rSc
  rw [truncf_apply, shapeCast_apply _ _ (ix2 v j) (ix3 v (⟨j.val / 16, by omega⟩ : Fin 36) (⟨j.val % 16, by omega⟩ : Fin 16)) (by
    rw [Shape.rowMajor_val_three, Shape.rowMajor_val_two]
    show (v.val * 36 + j.val / 16) * 16 + j.val % 16 = v.val * 576 + j.val
    omega)]
  exact broadcastInDim_apply _ _ _ _ _ (by intro a; fin_cases a <;> rfl)

/-- A low nibble, signed. -/
theorem rLo_value (a4 : IVec S128256x576 8) (i : S128256x576.Idx) : (rSign (rLo a4) i).toInt = code (a4 i) 0 := by
  show (Scalar.select (IntOp.cmpi .sge (IntOp.andi ((a4 i).setWidth 32) 15#32) 8#32) (IntOp.subi (IntOp.andi ((a4 i).setWidth 32) 15#32) 16#32) (IntOp.andi ((a4 i).setWidth 32) 15#32)).toInt = _
  generalize a4 i = b
  revert b
  decide +kernel

/-- A high nibble, signed. -/
theorem rHi_value (a4 : IVec S128256x576 8) (i : S128256x576.Idx) : (rSign (rHi a4) i).toInt = code (a4 i) 1 := by
  show (Scalar.select (IntOp.cmpi .sge (IntOp.shrsi .host ((a4 i).setWidth 32) 4#32) 8#32) (IntOp.subi (IntOp.shrsi .host ((a4 i).setWidth 32) 4#32) 16#32) (IntOp.shrsi .host ((a4 i).setWidth 32) 4#32)).toInt = _
  generalize a4 i = b
  revert b
  decide +kernel

/-- One half of the features, from nibbles of known values. -/
theorem rHalf_apply (x : FVec Ideal S2x384x128256 .bf16) (a1 : FVec Ideal S2x384x1002 .f32) (a5 : FVec Ideal S128256x36 .f32) (n : IVec S128256x576 32)
    (b : Fin 2) (s : Fin 384) (j : Fin 576) :
    (rHalf x a1 a5 n (ix3 b s j) : EReal)
      = ∑ v : Fin 128256, (rDL x a1 (ix3 b s v) : EReal) * ((((rSign n (ix2 v j)).toInt : ℝ) : EReal) * (a5 (ix2 v (⟨j.val / 16, by omega⟩ : Fin 36)) : EReal)) := by
  let D := dot_S2x384x128256_S128256x576_S2x384x576_2_0_01_1_n_n
  have hr : D.contr.rank = 1 := rfl
  have c0 : D.contr.size ⟨0, by rw [hr]; omega⟩ = 128256 := rfl
  unfold rHalf
  simp only [Host.dotGeneral]
  rw [Ideal.dotGeneral_apply, ← Equiv.sum_comp (contrEquiv1 D 128256 hr c0).symm]
  refine Finset.sum_congr rfl fun v _ => ?_
  have h0 := contrEquiv1_symm_val D 128256 hr c0 v
  have el : D.lhsIdx (ix3 b s j : S2x384x576.Idx) ((contrEquiv1 D 128256 hr c0).symm v) = ix3 b s v := by
    funext a; apply Fin.ext
    match a with
    | ⟨0, _⟩ => rfl
    | ⟨1, _⟩ => rfl
    | ⟨2, _⟩ => exact h0
  have er : D.rhsIdx (ix3 b s j : S2x384x576.Idx) ((contrEquiv1 D 128256 hr c0).symm v) = ix2 v j := by
    funext a; apply Fin.ext
    match a with
    | ⟨0, _⟩ => exact h0
    | ⟨1, _⟩ => rfl
  rw [el, er, mulf_apply, sitofp_apply, rSc_apply]
  rfl

/-- The second result is the hidden-state gradient. -/
theorem rDH_eq (x : FVec Ideal S2x384x128256 .bf16) (a1 : FVec Ideal S2x384x1002 .f32) (a4 : IVec S128256x576 8) (a5 : FVec Ideal S128256x36 .f32) :
    (rDH x a1 a4 a5 : S768x1152.Idx → EReal) = dH x a1 a4 a5 := by
  funext i
  obtain ⟨t, d, rfl⟩ : ∃ (t : Fin 768) (d : Fin 1152), i = (ix2 t d : S768x1152.Idx) := ⟨i (0 : Fin 2), i (1 : Fin 2), eq_ix2 i⟩
  unfold rDH dH
  rw [truncf_apply, shapeCast_apply _ _ (ix2 t d) (ix4 (⟨t.val / 384, by omega⟩ : Fin 2) (⟨t.val % 384, by omega⟩ : Fin 384) (⟨d.val / 2, by omega⟩ : Fin 576) (⟨d.val % 2, by omega⟩ : Fin 2)) (by
    rw [Shape.rowMajor_val_four, Shape.rowMajor_val_two]
    show ((t.val / 384 * 384 + t.val % 384) * 576 + d.val / 2) * 2 + d.val % 2 = t.val * 1152 + d.val
    omega)]
  have hs : (⟨d.val / 2 / 16, by omega⟩ : Fin 36) = ⟨d.val / 32, by omega⟩ := Fin.ext (by show d.val / 2 / 16 = d.val / 32; omega)
  have key : ∀ (v : Fin 128256) (p : ℕ), p = d.val % 2 →
      (x (ix3 (⟨t.val / 384, by omega⟩ : Fin 2) (⟨t.val % 384, by omega⟩ : Fin 384) v) : EReal)
          * (a1 (ix3 (⟨t.val / 384, by omega⟩ : Fin 2) (⟨t.val % 384, by omega⟩ : Fin 384) (⟨v.val / 128, by omega⟩ : Fin 1002)) : EReal)
          * (((code (a4 (ix2 v (⟨d.val / 2, by omega⟩ : Fin 576))) p : ℝ) : EReal) * (a5 (ix2 v (⟨d.val / 32, by omega⟩ : Fin 36)) : EReal))
        = dl x a1 t v * wt a4 a5 v d := by
    rintro v _ rfl
    rfl
  rcases Nat.mod_two_eq_zero_or_one d.val with h | h
  · refine (concatenate_pair_apply_left (t := S2x384x576x2) (s₁ := S2x384x576x1) (s₂ := S2x384x576x1) (3 : Fin 4) _ _ _ (ix4 (⟨t.val / 384, by omega⟩ : Fin 2) (⟨t.val % 384, by omega⟩ : Fin 384) (⟨d.val / 2, by omega⟩ : Fin 576) (⟨d.val % 2, by omega⟩ : Fin 2) : S2x384x576x2.Idx) rfl (ix4 (⟨t.val / 384, by omega⟩ : Fin 2) (⟨t.val % 384, by omega⟩ : Fin 384) (⟨d.val / 2, by omega⟩ : Fin 576) (0 : Fin 1) : S2x384x576x1.Idx) (fun a => ?_)).trans ?_
    · match a with
      | ⟨0, _⟩ => rfl
      | ⟨1, _⟩ => rfl
      | ⟨2, _⟩ => rfl
      | ⟨3, _⟩ => exact h.symm
    rw [broadcastInDim_apply _ _ _ _ (ix3 (⟨t.val / 384, by omega⟩ : Fin 2) (⟨t.val % 384, by omega⟩ : Fin 384) (⟨d.val / 2, by omega⟩ : Fin 576)) (by intro a; fin_cases a <;> rfl),
      rHalf_apply]
    refine Finset.sum_congr rfl fun v _ => ?_
    rw [rDL_apply, rLo_value, hs]
    exact key v _ h.symm
  · refine (concatenate_pair_apply_right (t := S2x384x576x2) (s₁ := S2x384x576x1) (s₂ := S2x384x576x1) (3 : Fin 4) _ _ _ (ix4 (⟨t.val / 384, by omega⟩ : Fin 2) (⟨t.val % 384, by omega⟩ : Fin 384) (⟨d.val / 2, by omega⟩ : Fin 576) (⟨d.val % 2, by omega⟩ : Fin 2) : S2x384x576x2.Idx) rfl rfl (ix4 (⟨t.val / 384, by omega⟩ : Fin 2) (⟨t.val % 384, by omega⟩ : Fin 384) (⟨d.val / 2, by omega⟩ : Fin 576) (0 : Fin 1) : S2x384x576x1.Idx) (fun a ha => ?_) h.symm).trans ?_
    · match a, ha with
      | ⟨0, _⟩, _ => rfl
      | ⟨1, _⟩, _ => rfl
      | ⟨2, _⟩, _ => rfl
      | ⟨3, _⟩, ha => exact absurd rfl ha
    rw [broadcastInDim_apply _ _ _ _ (ix3 (⟨t.val / 384, by omega⟩ : Fin 2) (⟨t.val % 384, by omega⟩ : Fin 384) (⟨d.val / 2, by omega⟩ : Fin 576)) (by intro a; fin_cases a <;> rfl),
      rHalf_apply]
    refine Finset.sum_congr rfl fun v _ => ?_
    rw [rDL_apply, rHi_value, hs]
    exact key v _ h.symm

end Cert.Proof.Val.Ref
-- ==== Proof.Val.RefRegion.lean ====
/- The reference's widening call and its whole run over the extended reals. -/
module

public import proofs.«01_k».proof.Proof.Val.RefVal
public import Idealize.ShloMosaic.Lib.Pipeline.ValueKit

@[expose] public section

set_option maxRecDepth 16384

noncomputable section

namespace Cert.Proof.Val.Ref

open Cert.ReferenceIdeal Cert.ReferenceIdeal.Gen

open Idealize.ShloMosaic Idealize.ShloMosaic.TcCoe Idealize.ShloMosaic.Pipeline Idealize.SL.Sem

variable (m : (ℓ : Loc nD τ sig) → Buf (Elt Ideal) ℓ) (ρ : Dev nD → PrngReg)

/-- A rectangle over a whole shape moves no index. -/
theorem emb_whole {s : Shape} (off : Fin s.rank → ℕ) (hoff : ∀ a, off a = 0) (inb : ∀ a, off a + s.size a ≤ s.size a) (y : s.Idx) :
    (Rect.unit (s := s) off s.size inb).emb y = y := funext fun a => Fin.ext (by
  rw [Rect.emb_apply]
  show off a + 1 * (y a).val = (y a).val
  rw [hoff]
  omega)

/-- A store of a whole array leaves its payload. -/
theorem canon_whole {s : Shape} {e : EltTy} (off : Fin s.rank → ℕ) (hoff : ∀ a, off a = 0)
    (inb : ∀ a, off a + s.size a ≤ s.size a) (w : (Rect.unit (s := s) off s.size inb).shape.Idx → Elt Ideal e) (y : s.Idx) :
    View.canon (Val := Elt Ideal) (s := s) (e := e) [⟨Rect.unit (s := s) off s.size inb, w⟩] y = w y :=
  (congrArg (View.canon (Val := Elt Ideal) (s := s) (e := e) [⟨Rect.unit (s := s) off s.size inb, w⟩]) (emb_whole off hoff inb y).symm).trans
    (View.canon_cons_emb _ w [] y)

/-- The offsets of the stores are zero. -/
theorem zero3 : ∀ a : Fin 3, (![0, 0, 0] : Fin 3 → ℕ) a = 0 := by decide

/-- The body widens the logit gradients: over the reals nothing changes. -/
theorem out2_apply (x0 : Vec Ideal S2x384x128256 .fp8e5m2) (x1 : Vec Ideal S2x384x1152 .fp8e4m3) (y : S2x384x128256.Idx) :
    (out0_2 x0 x1 y : EReal) = x0 y := by
  unfold out0_2
  refine (canon_whole (s := S2x384x128256) (e := .bf16) ![0, 0, 0] zero3 inb_S2x384x128256_S2x384x128256_0_0_0 _ y).trans ?_
  show x0 ((Rect.unit (s := S2x384x128256) ![0, 0, 0] S2x384x128256.size inb_S2x384x128256_S2x384x128256_0_0_0).emb y) = x0 y
  exact congrArg x0 (emb_whole (s := S2x384x128256) ![0, 0, 0] zero3 inb_S2x384x128256_S2x384x128256_0_0_0 y)

/-- The body widens the hidden states: over the reals nothing changes. -/
theorem out3_apply (x0 : Vec Ideal S2x384x128256 .fp8e5m2) (x1 : Vec Ideal S2x384x1152 .fp8e4m3) (y : S2x384x1152.Idx) :
    (out0_3 x0 x1 y : EReal) = x1 y := by
  unfold out0_3
  refine (canon_whole (s := S2x384x1152) (e := .bf16) ![0, 0, 0] zero3 inb_S2x384x1152_S2x384x1152_0_0_0 _ y).trans ?_
  show x1 ((Rect.unit (s := S2x384x1152) ![0, 0, 0] S2x384x1152.size inb_S2x384x1152_S2x384x1152_0_0_0).emb y) = x1 y
  exact congrArg x1 (emb_whole (s := S2x384x1152) ![0, 0, 0] zero3 inb_S2x384x1152_S2x384x1152_0_0_0 y)

/-! Each window is one block, its whole array. -/

theorem emb0 (t : Fin cfg0.N) (y : S2x384x128256.Idx) : ((cfg0.win 0).blk t).view.emb y = (y : S2x384x128256.Idx) :=
  (funext fun a => Fin.ext (by
    refine (Window.rect_emb_val (cfg0.win 0) t y a).trans ?_
    show 0 * S2x384x128256.size a + (y a).val = (y a).val
    omega) : _ = (y : S2x384x128256.Idx))

theorem emb1 (t : Fin cfg0.N) (y : S2x384x1152.Idx) : ((cfg0.win 1).blk t).view.emb y = (y : S2x384x1152.Idx) :=
  (funext fun a => Fin.ext (by
    refine (Window.rect_emb_val (cfg0.win 1) t y a).trans ?_
    show 0 * S2x384x1152.size a + (y a).val = (y a).val
    omega) : _ = (y : S2x384x1152.Idx))

theorem emb2 (t : Fin cfg0.N) (y : S2x384x128256.Idx) : ((cfg0.win 2).blk t).view.emb y = (y : S2x384x128256.Idx) :=
  (funext fun a => Fin.ext (by
    refine (Window.rect_emb_val (cfg0.win 2) t y a).trans ?_
    show 0 * S2x384x128256.size a + (y a).val = (y a).val
    omega) : _ = (y : S2x384x128256.Idx))

theorem emb3 (t : Fin cfg0.N) (y : S2x384x1152.Idx) : ((cfg0.win 3).blk t).view.emb y = (y : S2x384x1152.Idx) :=
  (funext fun a => Fin.ext (by
    refine (Window.rect_emb_val (cfg0.win 3) t y a).trans ?_
    show 0 * S2x384x1152.size a + (y a).val = (y a).val
    omega) : _ = (y : S2x384x1152.Idx))

/-- Window 2's array at the end: the argument, widened. -/
theorem arr2 (c : Dev nD) : (dats m 0 c).arrAt 2 cfg0.N = (m ((c.tc : Thread nD τ).loc main_arg0) : S2x384x128256.Idx → EReal) := by
  refine Dat.arrAt_eq_of_emb (dats m 0 c) 2 (m ((c.tc : Thread nD τ).loc main_arg0) : S2x384x128256.Idx → EReal) (fun t _ y => ?_) (fun i => ?_)
  · refine Eq.trans ?_ (congrArg (m ((c.tc : Thread nD τ).loc main_arg0) : S2x384x128256.Idx → EReal) (emb2 t y).symm)
    refine (congrFun (after0_2 m c t) (y : S2x384x128256.Idx)).trans ((out2_apply (iblk m c 0 t) (iblk m c 1 t) y).trans ?_)
    exact congrArg (m ((c.tc : Thread nD τ).loc main_arg0) : S2x384x128256.Idx → EReal) (emb0 t y)
  · refine ⟨⟨0, by decide⟩, by decide +kernel, ?_⟩
    exact Eq.subst (motive := fun z => z ∈ ((cfg0.win 2).blk _).view.set) (emb2 ⟨0, by decide⟩ i) (View.emb_mem_set _ _)

/-- Window 3's array at the end: the argument, widened. -/
theorem arr3 (c : Dev nD) : (dats m 0 c).arrAt 3 cfg0.N = (m ((c.tc : Thread nD τ).loc main_arg2) : S2x384x1152.Idx → EReal) := by
  refine Dat.arrAt_eq_of_emb (dats m 0 c) 3 (m ((c.tc : Thread nD τ).loc main_arg2) : S2x384x1152.Idx → EReal) (fun t _ y => ?_) (fun i => ?_)
  · refine Eq.trans ?_ (congrArg (m ((c.tc : Thread nD τ).loc main_arg2) : S2x384x1152.Idx → EReal) (emb3 t y).symm)
    refine (congrFun (after0_3 m c t) (y : S2x384x1152.Idx)).trans ((out3_apply (iblk m c 0 t) (iblk m c 1 t) y).trans ?_)
    exact congrArg (m ((c.tc : Thread nD τ).loc main_arg2) : S2x384x1152.Idx → EReal) (emb1 t y)
  · refine ⟨⟨0, by decide⟩, by decide +kernel, ?_⟩
    exact Eq.subst (motive := fun z => z ∈ ((cfg0.win 3).blk _).view.set) (emb3 ⟨0, by decide⟩ i) (View.emb_mem_set _ _)

/-- The buffers after the call, read at a window's array and elsewhere. -/
theorem region_v0_0 (c : Dev nD) :
    Pipeline.withArrays cfg0.spec c (V0 m c) (fun w => (dats m 0 c).arrAt w cfg0.N) (Proc.devRef .tc main_v0_0) = (m ((c.tc : Thread nD τ).loc main_arg0) : S2x384x128256.Idx → EReal) :=
  (Pipeline.withArrays_arr cfg0.spec launch0.win.arr_inj c (V0 m c) (fun w => (dats m 0 c).arrAt w cfg0.N) 2).trans (arr2 m c)

theorem region_v0_1 (c : Dev nD) :
    Pipeline.withArrays cfg0.spec c (V0 m c) (fun w => (dats m 0 c).arrAt w cfg0.N) (Proc.devRef .tc main_v0_1) = (m ((c.tc : Thread nD τ).loc main_arg2) : S2x384x1152.Idx → EReal) :=
  (Pipeline.withArrays_arr cfg0.spec launch0.win.arr_inj c (V0 m c) (fun w => (dats m 0 c).arrAt w cfg0.N) 3).trans (arr3 m c)

theorem region_rest (c : Dev nD) (b : Ref sig .tc) (hb : ∀ w, Pipeline.arrRef cfg0.spec w ≠ b) :
    Pipeline.withArrays cfg0.spec c (V0 m c) (fun w => (dats m 0 c).arrAt w cfg0.N) (Proc.devRef .tc b) = m ((c.tc : Thread nD τ).loc b) :=
  Pipeline.withArrays_of_ne cfg0.spec c (V0 m c) _ b hb

/-- The first result after the host lines. -/
theorem end_v21 (c : Dev nD) (h6 : ∀ i : S2x384.Idx, ((m ((c.tc : Thread nD τ).loc main_arg6) : S2x384.Idx → BitVec 32) i).toNat < 128256) :
    Pipeline.afterTail₀ cfgs (dats m) 0 (V0 m) [hostOps1, hostOps1_1, hostOps1_2, hostOps1_3, hostOps1_4] c main_v21
      = dE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  refine (tail_v21 (Pipeline.withArrays cfg0.spec c (V0 m c) (fun w => (dats m 0 c).arrAt w cfg0.N))).trans ?_
  rw [region_v0_0, region_v0_1, region_rest m c main_arg1 (by decide), region_rest m c main_arg3 (by decide), region_rest m c main_arg6 (by decide), region_rest m c main_arg7 (by decide)]
  exact rDE_eq (m ((c.tc : Thread nD τ).loc main_arg0)) (m ((c.tc : Thread nD τ).loc main_arg2)) (m ((c.tc : Thread nD τ).loc main_arg1)) (m ((c.tc : Thread nD τ).loc main_arg3)) (m ((c.tc : Thread nD τ).loc main_arg6)) (m ((c.tc : Thread nD τ).loc main_arg7)) h6

/-- The second result after the host lines. -/
theorem end_v50 (c : Dev nD) :
    Pipeline.afterTail₀ cfgs (dats m) 0 (V0 m) [hostOps1, hostOps1_1, hostOps1_2, hostOps1_3, hostOps1_4] c main_v50
      = dH (m ((c.tc : Thread nD τ).loc main_arg0)) (m ((c.tc : Thread nD τ).loc main_arg1)) (m ((c.tc : Thread nD τ).loc main_arg4)) (m ((c.tc : Thread nD τ).loc main_arg5)) := by
  refine (tail_v50 (Pipeline.withArrays cfg0.spec c (V0 m c) (fun w => (dats m 0 c).arrAt w cfg0.N))).trans ?_
  rw [region_v0_0, region_rest m c main_arg1 (by decide), region_rest m c main_arg4 (by decide), region_rest m c main_arg5 (by decide)]
  exact rDH_eq (m ((c.tc : Thread nD τ).loc main_arg0)) (m ((c.tc : Thread nD τ).loc main_arg1)) (m ((c.tc : Thread nD τ).loc main_arg4)) (m ((c.tc : Thread nD τ).loc main_arg5))

/-- The reference's run: its two results are the two gradients, and the arguments stay. -/
theorem reference_run (h6 : ∀ (c : Dev nD) (i : S2x384.Idx), ((m ((c.tc : Thread nD τ).loc main_arg6) : S2x384.Idx → BitVec 32) i).toNat < 128256) :
    θ_run defs (onTc (τ := τ) (main (F := Ideal))) ⟨m, fun _ => 0, ρ⟩ (fun r => ∀ c : Dev nD,
      r.2.mem ((c.tc : Thread nD τ).loc main_v21) = dE (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))
      ∧ r.2.mem ((c.tc : Thread nD τ).loc main_v50) = dH (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v21 (Pipeline.mem_restRefs_of main_v21 (by decide) (by decide))).trans (end_v21 m c (h6 c)),
      ((h c).2 main_v50 (Pipeline.mem_restRefs_of main_v50 (by decide) (by decide))).trans (end_v50 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_main m ρ)

end Cert.Proof.Val.Ref
-- ==== Proof.Val.Algebraic.lean ====
/- The kernel and the reference end with equal results over the extended reals. -/
module

public import proofs.«01_k».proof.Proof.Frames
public import proofs.«01_k».proof.Proof.Val.Kernel
public import proofs.«01_k».proof.Proof.Val.RefRegion

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_in_vocabulary.Gen.facts

/-- Both programs end with the embedding gradient and the hidden-state gradient of the same arguments. -/
theorem algebraic : algebraic_KernelIdeal_ReferenceIdeal := by
  intro m g m' g' hpre hagree
  refine ⟨fun c => Val.dE (Val.A0 m c) (Val.A1 m c) (Val.A2 m c) (Val.A3 m c) (Val.A6 m c) (Val.A7 m c),
    fun c => Val.dH (Val.A0 m c) (Val.A1 m c) (Val.A4 m c) (Val.A5 m c),
    Val.kernel_run m g (inVocab_KernelIdeal m hpre), ?_⟩
  refine (θ_run Cert.ReferenceIdeal.defs _ _).mono (fun r h c => ?_) (Val.Ref.reference_run m' g' fun c i => ?_)
  · obtain ⟨h0, h1, h2, h3, h4, h5, h6, h7⟩ := hagree c
    obtain ⟨e0, e1, er⟩ := h c
    refine ⟨e0.trans ?_, e1.trans ?_, er⟩
    · rw [h0, h1, h2, h3, h6, h7]
    · rw [h0, h1, h4, h5]
  · obtain ⟨h0, h1, h2, h3, h4, h5, h6, h7⟩ := hagree c
    rw [h6]
    exact vocab _ _ _ _ _ _ _ _ (hpre c) i

end Cert.Proof
-- ==== Proof.lean ====
/- The proof of the certificate's claims. -/
module

public import proofs.«01_k».proof.Defs
public import proofs.«01_k».proof.Proof.Frames
public import proofs.«01_k».proof.Proof.Val.Algebraic

@[expose] public section

namespace Cert.Proof

/-- Every claim of the certificate. -/
theorem claim : Cert.Claim :=
  ⟨Cert.Kernel.Gen.facts, Cert.KernelIdeal.Gen.facts, Cert.ReferenceIdeal.Gen.facts, Cert.Pre_in_vocabulary.Gen.facts,
    frame_Kernel, frame_KernelIdeal, frame_ReferenceIdeal, trivial, algebraic⟩

end Cert.Proof

end
